-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_LatentExperts [hPre_routed_latents : Cert.Pre_routed_latents.Facts] (m : (ℓ : Loc Cert.LatentExperts.nD Cert.LatentExperts.τ Cert.LatentExperts.sig) → Buf (Elt Bits) ℓ) : Prop :=
  ∀ c : Dev Cert.LatentExperts.nD,
    (Cert.Pre_routed_latents.fn (F := Bits) (m ((c.tc : Thread Cert.LatentExperts.nD Cert.LatentExperts.τ).loc Cert.LatentExperts.main_arg0)) (m ((c.tc : Thread Cert.LatentExperts.nD Cert.LatentExperts.τ).loc Cert.LatentExperts.main_arg1)) (m ((c.tc : Thread Cert.LatentExperts.nD Cert.LatentExperts.τ).loc Cert.LatentExperts.main_arg2)) (m ((c.tc : Thread Cert.LatentExperts.nD Cert.LatentExperts.τ).loc Cert.LatentExperts.main_arg3)) (m ((c.tc : Thread Cert.LatentExperts.nD Cert.LatentExperts.τ).loc Cert.LatentExperts.main_arg4)) (m ((c.tc : Thread Cert.LatentExperts.nD Cert.LatentExperts.τ).loc Cert.LatentExperts.main_arg5)) (m ((c.tc : Thread Cert.LatentExperts.nD Cert.LatentExperts.τ).loc Cert.LatentExperts.main_arg6))) = (fun _ => 1#1)

def Pre_LatentExpertsIdeal [hPre_routed_latents : Cert.Pre_routed_latents.Facts] (m : (ℓ : Loc Cert.LatentExpertsIdeal.nD Cert.LatentExpertsIdeal.τ Cert.LatentExpertsIdeal.sig) → Buf (Elt Ideal) ℓ) : Prop :=
  ∀ c : Dev Cert.LatentExpertsIdeal.nD,
    (Cert.Pre_routed_latents.fn (F := Ideal) (m ((c.tc : Thread Cert.LatentExpertsIdeal.nD Cert.LatentExpertsIdeal.τ).loc Cert.LatentExpertsIdeal.main_arg0)) (m ((c.tc : Thread Cert.LatentExpertsIdeal.nD Cert.LatentExpertsIdeal.τ).loc Cert.LatentExpertsIdeal.main_arg1)) (m ((c.tc : Thread Cert.LatentExpertsIdeal.nD Cert.LatentExpertsIdeal.τ).loc Cert.LatentExpertsIdeal.main_arg2)) (m ((c.tc : Thread Cert.LatentExpertsIdeal.nD Cert.LatentExpertsIdeal.τ).loc Cert.LatentExpertsIdeal.main_arg3)) (m ((c.tc : Thread Cert.LatentExpertsIdeal.nD Cert.LatentExpertsIdeal.τ).loc Cert.LatentExpertsIdeal.main_arg4)) (m ((c.tc : Thread Cert.LatentExpertsIdeal.nD Cert.LatentExpertsIdeal.τ).loc Cert.LatentExpertsIdeal.main_arg5)) (m ((c.tc : Thread Cert.LatentExpertsIdeal.nD Cert.LatentExpertsIdeal.τ).loc Cert.LatentExpertsIdeal.main_arg6))) = (fun _ => 1#1)

def Pre_LatentExpertsReferenceIdeal (m : (ℓ : Loc Cert.LatentExpertsReferenceIdeal.nD Cert.LatentExpertsReferenceIdeal.τ Cert.LatentExpertsReferenceIdeal.sig) → Buf (Elt Ideal) ℓ) : Prop :=
  True

def Pre_LatentExpertsReferenceIdeal_routed_latents [hPre_routed_latents : Cert.Pre_routed_latents.Facts] (m : (ℓ : Loc Cert.LatentExpertsReferenceIdeal.nD Cert.LatentExpertsReferenceIdeal.τ Cert.LatentExpertsReferenceIdeal.sig) → Buf (Elt Ideal) ℓ) : Prop :=
  ∀ c : Dev Cert.LatentExpertsReferenceIdeal.nD,
    (Cert.Pre_routed_latents.fn (F := Ideal) (m ((c.tc : Thread Cert.LatentExpertsReferenceIdeal.nD Cert.LatentExpertsReferenceIdeal.τ).loc Cert.LatentExpertsReferenceIdeal.main_arg0)) (m ((c.tc : Thread Cert.LatentExpertsReferenceIdeal.nD Cert.LatentExpertsReferenceIdeal.τ).loc Cert.LatentExpertsReferenceIdeal.main_arg1)) (m ((c.tc : Thread Cert.LatentExpertsReferenceIdeal.nD Cert.LatentExpertsReferenceIdeal.τ).loc Cert.LatentExpertsReferenceIdeal.main_arg2)) (m ((c.tc : Thread Cert.LatentExpertsReferenceIdeal.nD Cert.LatentExpertsReferenceIdeal.τ).loc Cert.LatentExpertsReferenceIdeal.main_arg3)) (m ((c.tc : Thread Cert.LatentExpertsReferenceIdeal.nD Cert.LatentExpertsReferenceIdeal.τ).loc Cert.LatentExpertsReferenceIdeal.main_arg4)) (m ((c.tc : Thread Cert.LatentExpertsReferenceIdeal.nD Cert.LatentExpertsReferenceIdeal.τ).loc Cert.LatentExpertsReferenceIdeal.main_arg5)) (m ((c.tc : Thread Cert.LatentExpertsReferenceIdeal.nD Cert.LatentExpertsReferenceIdeal.τ).loc Cert.LatentExpertsReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_LatentExperts [hLatentExperts : Cert.LatentExperts.Facts] [hPre_routed_latents : Cert.Pre_routed_latents.Facts] : Prop :=
  ∀ (m : (ℓ : Loc Cert.LatentExperts.nD Cert.LatentExperts.τ Cert.LatentExperts.sig) → Buf (Elt Bits) ℓ) (g : Dev Cert.LatentExperts.nD → PrngReg), Pre_LatentExperts m →
    θ_run (Cert.LatentExperts.defs (F := Bits)) (onTc (τ := Cert.LatentExperts.τ) (Cert.LatentExperts.main (F := Bits))) ⟨m, fun _ => 0, g⟩ (fun r => (∀ c : Dev Cert.LatentExperts.nD,
      r.2.mem ((c.tc : Thread Cert.LatentExperts.nD Cert.LatentExperts.τ).loc Cert.LatentExperts.main_arg0) = m ((c.tc : Thread Cert.LatentExperts.nD Cert.LatentExperts.τ).loc Cert.LatentExperts.main_arg0)
      ∧ r.2.mem ((c.tc : Thread Cert.LatentExperts.nD Cert.LatentExperts.τ).loc Cert.LatentExperts.main_arg1) = m ((c.tc : Thread Cert.LatentExperts.nD Cert.LatentExperts.τ).loc Cert.LatentExperts.main_arg1)
      ∧ r.2.mem ((c.tc : Thread Cert.LatentExperts.nD Cert.LatentExperts.τ).loc Cert.LatentExperts.main_arg2) = m ((c.tc : Thread Cert.LatentExperts.nD Cert.LatentExperts.τ).loc Cert.LatentExperts.main_arg2)
      ∧ r.2.mem ((c.tc : Thread Cert.LatentExperts.nD Cert.LatentExperts.τ).loc Cert.LatentExperts.main_arg3) = m ((c.tc : Thread Cert.LatentExperts.nD Cert.LatentExperts.τ).loc Cert.LatentExperts.main_arg3)
      ∧ r.2.mem ((c.tc : Thread Cert.LatentExperts.nD Cert.LatentExperts.τ).loc Cert.LatentExperts.main_arg4) = m ((c.tc : Thread Cert.LatentExperts.nD Cert.LatentExperts.τ).loc Cert.LatentExperts.main_arg4)
      ∧ r.2.mem ((c.tc : Thread Cert.LatentExperts.nD Cert.LatentExperts.τ).loc Cert.LatentExperts.main_arg5) = m ((c.tc : Thread Cert.LatentExperts.nD Cert.LatentExperts.τ).loc Cert.LatentExperts.main_arg5)
      ∧ r.2.mem ((c.tc : Thread Cert.LatentExperts.nD Cert.LatentExperts.τ).loc Cert.LatentExperts.main_arg6) = m ((c.tc : Thread Cert.LatentExperts.nD Cert.LatentExperts.τ).loc Cert.LatentExperts.main_arg6))
      ∧ r.2.sem = fun _ => 0)

def quiescent_LatentExpertsIdeal [hLatentExpertsIdeal : Cert.LatentExpertsIdeal.Facts] [hPre_routed_latents : Cert.Pre_routed_latents.Facts] : Prop :=
  ∀ (m : (ℓ : Loc Cert.LatentExpertsIdeal.nD Cert.LatentExpertsIdeal.τ Cert.LatentExpertsIdeal.sig) → Buf (Elt Ideal) ℓ) (g : Dev Cert.LatentExpertsIdeal.nD → PrngReg), Pre_LatentExpertsIdeal m →
    θ_run (Cert.LatentExpertsIdeal.defs (F := Ideal)) (onTc (τ := Cert.LatentExpertsIdeal.τ) (Cert.LatentExpertsIdeal.main (F := Ideal))) ⟨m, fun _ => 0, g⟩ (fun r => (∀ c : Dev Cert.LatentExpertsIdeal.nD,
      r.2.mem ((c.tc : Thread Cert.LatentExpertsIdeal.nD Cert.LatentExpertsIdeal.τ).loc Cert.LatentExpertsIdeal.main_arg0) = m ((c.tc : Thread Cert.LatentExpertsIdeal.nD Cert.LatentExpertsIdeal.τ).loc Cert.LatentExpertsIdeal.main_arg0)
      ∧ r.2.mem ((c.tc : Thread Cert.LatentExpertsIdeal.nD Cert.LatentExpertsIdeal.τ).loc Cert.LatentExpertsIdeal.main_arg1) = m ((c.tc : Thread Cert.LatentExpertsIdeal.nD Cert.LatentExpertsIdeal.τ).loc Cert.LatentExpertsIdeal.main_arg1)
      ∧ r.2.mem ((c.tc : Thread Cert.LatentExpertsIdeal.nD Cert.LatentExpertsIdeal.τ).loc Cert.LatentExpertsIdeal.main_arg2) = m ((c.tc : Thread Cert.LatentExpertsIdeal.nD Cert.LatentExpertsIdeal.τ).loc Cert.LatentExpertsIdeal.main_arg2)
      ∧ r.2.mem ((c.tc : Thread Cert.LatentExpertsIdeal.nD Cert.LatentExpertsIdeal.τ).loc Cert.LatentExpertsIdeal.main_arg3) = m ((c.tc : Thread Cert.LatentExpertsIdeal.nD Cert.LatentExpertsIdeal.τ).loc Cert.LatentExpertsIdeal.main_arg3)
      ∧ r.2.mem ((c.tc : Thread Cert.LatentExpertsIdeal.nD Cert.LatentExpertsIdeal.τ).loc Cert.LatentExpertsIdeal.main_arg4) = m ((c.tc : Thread Cert.LatentExpertsIdeal.nD Cert.LatentExpertsIdeal.τ).loc Cert.LatentExpertsIdeal.main_arg4)
      ∧ r.2.mem ((c.tc : Thread Cert.LatentExpertsIdeal.nD Cert.LatentExpertsIdeal.τ).loc Cert.LatentExpertsIdeal.main_arg5) = m ((c.tc : Thread Cert.LatentExpertsIdeal.nD Cert.LatentExpertsIdeal.τ).loc Cert.LatentExpertsIdeal.main_arg5)
      ∧ r.2.mem ((c.tc : Thread Cert.LatentExpertsIdeal.nD Cert.LatentExpertsIdeal.τ).loc Cert.LatentExpertsIdeal.main_arg6) = m ((c.tc : Thread Cert.LatentExpertsIdeal.nD Cert.LatentExpertsIdeal.τ).loc Cert.LatentExpertsIdeal.main_arg6))
      ∧ r.2.sem = fun _ => 0)

def quiescent_LatentExpertsReferenceIdeal [hLatentExpertsReferenceIdeal : Cert.LatentExpertsReferenceIdeal.Facts] : Prop :=
  ∀ (m : (ℓ : Loc Cert.LatentExpertsReferenceIdeal.nD Cert.LatentExpertsReferenceIdeal.τ Cert.LatentExpertsReferenceIdeal.sig) → Buf (Elt Ideal) ℓ) (g : Dev Cert.LatentExpertsReferenceIdeal.nD → PrngReg), Pre_LatentExpertsReferenceIdeal m →
    θ_run (Cert.LatentExpertsReferenceIdeal.defs (F := Ideal)) (onTc (τ := Cert.LatentExpertsReferenceIdeal.τ) (Cert.LatentExpertsReferenceIdeal.main (F := Ideal))) ⟨m, fun _ => 0, g⟩ (fun r => (∀ c : Dev Cert.LatentExpertsReferenceIdeal.nD,
      r.2.mem ((c.tc : Thread Cert.LatentExpertsReferenceIdeal.nD Cert.LatentExpertsReferenceIdeal.τ).loc Cert.LatentExpertsReferenceIdeal.main_arg0) = m ((c.tc : Thread Cert.LatentExpertsReferenceIdeal.nD Cert.LatentExpertsReferenceIdeal.τ).loc Cert.LatentExpertsReferenceIdeal.main_arg0)
      ∧ r.2.mem ((c.tc : Thread Cert.LatentExpertsReferenceIdeal.nD Cert.LatentExpertsReferenceIdeal.τ).loc Cert.LatentExpertsReferenceIdeal.main_arg1) = m ((c.tc : Thread Cert.LatentExpertsReferenceIdeal.nD Cert.LatentExpertsReferenceIdeal.τ).loc Cert.LatentExpertsReferenceIdeal.main_arg1)
      ∧ r.2.mem ((c.tc : Thread Cert.LatentExpertsReferenceIdeal.nD Cert.LatentExpertsReferenceIdeal.τ).loc Cert.LatentExpertsReferenceIdeal.main_arg2) = m ((c.tc : Thread Cert.LatentExpertsReferenceIdeal.nD Cert.LatentExpertsReferenceIdeal.τ).loc Cert.LatentExpertsReferenceIdeal.main_arg2)
      ∧ r.2.mem ((c.tc : Thread Cert.LatentExpertsReferenceIdeal.nD Cert.LatentExpertsReferenceIdeal.τ).loc Cert.LatentExpertsReferenceIdeal.main_arg3) = m ((c.tc : Thread Cert.LatentExpertsReferenceIdeal.nD Cert.LatentExpertsReferenceIdeal.τ).loc Cert.LatentExpertsReferenceIdeal.main_arg3)
      ∧ r.2.mem ((c.tc : Thread Cert.LatentExpertsReferenceIdeal.nD Cert.LatentExpertsReferenceIdeal.τ).loc Cert.LatentExpertsReferenceIdeal.main_arg4) = m ((c.tc : Thread Cert.LatentExpertsReferenceIdeal.nD Cert.LatentExpertsReferenceIdeal.τ).loc Cert.LatentExpertsReferenceIdeal.main_arg4)
      ∧ r.2.mem ((c.tc : Thread Cert.LatentExpertsReferenceIdeal.nD Cert.LatentExpertsReferenceIdeal.τ).loc Cert.LatentExpertsReferenceIdeal.main_arg5) = m ((c.tc : Thread Cert.LatentExpertsReferenceIdeal.nD Cert.LatentExpertsReferenceIdeal.τ).loc Cert.LatentExpertsReferenceIdeal.main_arg5)
      ∧ r.2.mem ((c.tc : Thread Cert.LatentExpertsReferenceIdeal.nD Cert.LatentExpertsReferenceIdeal.τ).loc Cert.LatentExpertsReferenceIdeal.main_arg6) = m ((c.tc : Thread Cert.LatentExpertsReferenceIdeal.nD Cert.LatentExpertsReferenceIdeal.τ).loc Cert.LatentExpertsReferenceIdeal.main_arg6))
      ∧ r.2.sem = fun _ => 0)

def quiescent_LatentExpertsReferenceIdeal_pre_routed_latents [hLatentExpertsReferenceIdeal : Cert.LatentExpertsReferenceIdeal.Facts] [hPre_routed_latents : Cert.Pre_routed_latents.Facts] : Prop :=
  ∀ (m : (ℓ : Loc Cert.LatentExpertsReferenceIdeal.nD Cert.LatentExpertsReferenceIdeal.τ Cert.LatentExpertsReferenceIdeal.sig) → Buf (Elt Ideal) ℓ) (g : Dev Cert.LatentExpertsReferenceIdeal.nD → PrngReg), Pre_LatentExpertsReferenceIdeal_routed_latents m →
    θ_run (Cert.LatentExpertsReferenceIdeal.defs (F := Ideal)) (onTc (τ := Cert.LatentExpertsReferenceIdeal.τ) (Cert.LatentExpertsReferenceIdeal.main (F := Ideal))) ⟨m, fun _ => 0, g⟩ (fun r => (∀ c : Dev Cert.LatentExpertsReferenceIdeal.nD,
      r.2.mem ((c.tc : Thread Cert.LatentExpertsReferenceIdeal.nD Cert.LatentExpertsReferenceIdeal.τ).loc Cert.LatentExpertsReferenceIdeal.main_arg0) = m ((c.tc : Thread Cert.LatentExpertsReferenceIdeal.nD Cert.LatentExpertsReferenceIdeal.τ).loc Cert.LatentExpertsReferenceIdeal.main_arg0)
      ∧ r.2.mem ((c.tc : Thread Cert.LatentExpertsReferenceIdeal.nD Cert.LatentExpertsReferenceIdeal.τ).loc Cert.LatentExpertsReferenceIdeal.main_arg1) = m ((c.tc : Thread Cert.LatentExpertsReferenceIdeal.nD Cert.LatentExpertsReferenceIdeal.τ).loc Cert.LatentExpertsReferenceIdeal.main_arg1)
      ∧ r.2.mem ((c.tc : Thread Cert.LatentExpertsReferenceIdeal.nD Cert.LatentExpertsReferenceIdeal.τ).loc Cert.LatentExpertsReferenceIdeal.main_arg2) = m ((c.tc : Thread Cert.LatentExpertsReferenceIdeal.nD Cert.LatentExpertsReferenceIdeal.τ).loc Cert.LatentExpertsReferenceIdeal.main_arg2)
      ∧ r.2.mem ((c.tc : Thread Cert.LatentExpertsReferenceIdeal.nD Cert.LatentExpertsReferenceIdeal.τ).loc Cert.LatentExpertsReferenceIdeal.main_arg3) = m ((c.tc : Thread Cert.LatentExpertsReferenceIdeal.nD Cert.LatentExpertsReferenceIdeal.τ).loc Cert.LatentExpertsReferenceIdeal.main_arg3)
      ∧ r.2.mem ((c.tc : Thread Cert.LatentExpertsReferenceIdeal.nD Cert.LatentExpertsReferenceIdeal.τ).loc Cert.LatentExpertsReferenceIdeal.main_arg4) = m ((c.tc : Thread Cert.LatentExpertsReferenceIdeal.nD Cert.LatentExpertsReferenceIdeal.τ).loc Cert.LatentExpertsReferenceIdeal.main_arg4)
      ∧ r.2.mem ((c.tc : Thread Cert.LatentExpertsReferenceIdeal.nD Cert.LatentExpertsReferenceIdeal.τ).loc Cert.LatentExpertsReferenceIdeal.main_arg5) = m ((c.tc : Thread Cert.LatentExpertsReferenceIdeal.nD Cert.LatentExpertsReferenceIdeal.τ).loc Cert.LatentExpertsReferenceIdeal.main_arg5)
      ∧ r.2.mem ((c.tc : Thread Cert.LatentExpertsReferenceIdeal.nD Cert.LatentExpertsReferenceIdeal.τ).loc Cert.LatentExpertsReferenceIdeal.main_arg6) = m ((c.tc : Thread Cert.LatentExpertsReferenceIdeal.nD Cert.LatentExpertsReferenceIdeal.τ).loc Cert.LatentExpertsReferenceIdeal.main_arg6))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  IdealRules.bf16_pair.Statement Cert.ExpertsIdeal.S512x2x128 Cert.ExpertsIdeal.S512x1x128
  ∧ IdealRules.bf16_pair.Statement Cert.ExpertsIdeal.S1024x128 Cert.ExpertsIdeal.S512x128
  ∧ IdealRules.bf16_pack.Statement Cert.ExpertsIdeal.S512x128

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v22)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v22) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v79) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_LatentExperts_LatentExpertsIdeal : Prop :=
  IdealRules.bf16_pair.Statement Cert.LatentExpertsIdeal.S512x2x128 Cert.LatentExpertsIdeal.S512x1x128
  ∧ IdealRules.bf16_pair.Statement Cert.LatentExpertsIdeal.S1024x128 Cert.LatentExpertsIdeal.S512x128
  ∧ IdealRules.bf16_pack.Statement Cert.LatentExpertsIdeal.S512x128

def algebraic_LatentExpertsIdeal_LatentExpertsReferenceIdeal [hLatentExpertsIdeal : Cert.LatentExpertsIdeal.Facts] [hLatentExpertsReferenceIdeal : Cert.LatentExpertsReferenceIdeal.Facts] [hPre_routed_latents : Cert.Pre_routed_latents.Facts] : Prop :=
  ∀ (m : (ℓ : Loc Cert.LatentExpertsIdeal.nD Cert.LatentExpertsIdeal.τ Cert.LatentExpertsIdeal.sig) → Buf (Elt Ideal) ℓ) (g : Dev Cert.LatentExpertsIdeal.nD → PrngReg)
    (m' : (ℓ : Loc Cert.LatentExpertsReferenceIdeal.nD Cert.LatentExpertsReferenceIdeal.τ Cert.LatentExpertsReferenceIdeal.sig) → Buf (Elt Ideal) ℓ) (g' : Dev Cert.LatentExpertsReferenceIdeal.nD → PrngReg), Pre_LatentExpertsIdeal m →
    (∀ c : Dev Cert.LatentExpertsIdeal.nD,
      m' ((c.tc : Thread Cert.LatentExpertsReferenceIdeal.nD Cert.LatentExpertsReferenceIdeal.τ).loc Cert.LatentExpertsReferenceIdeal.main_arg0) = m ((c.tc : Thread Cert.LatentExpertsIdeal.nD Cert.LatentExpertsIdeal.τ).loc Cert.LatentExpertsIdeal.main_arg0)
      ∧ m' ((c.tc : Thread Cert.LatentExpertsReferenceIdeal.nD Cert.LatentExpertsReferenceIdeal.τ).loc Cert.LatentExpertsReferenceIdeal.main_arg1) = m ((c.tc : Thread Cert.LatentExpertsIdeal.nD Cert.LatentExpertsIdeal.τ).loc Cert.LatentExpertsIdeal.main_arg1)
      ∧ m' ((c.tc : Thread Cert.LatentExpertsReferenceIdeal.nD Cert.LatentExpertsReferenceIdeal.τ).loc Cert.LatentExpertsReferenceIdeal.main_arg2) = m ((c.tc : Thread Cert.LatentExpertsIdeal.nD Cert.LatentExpertsIdeal.τ).loc Cert.LatentExpertsIdeal.main_arg2)
      ∧ m' ((c.tc : Thread Cert.LatentExpertsReferenceIdeal.nD Cert.LatentExpertsReferenceIdeal.τ).loc Cert.LatentExpertsReferenceIdeal.main_arg3) = m ((c.tc : Thread Cert.LatentExpertsIdeal.nD Cert.LatentExpertsIdeal.τ).loc Cert.LatentExpertsIdeal.main_arg3)
      ∧ m' ((c.tc : Thread Cert.LatentExpertsReferenceIdeal.nD Cert.LatentExpertsReferenceIdeal.τ).loc Cert.LatentExpertsReferenceIdeal.main_arg4) = m ((c.tc : Thread Cert.LatentExpertsIdeal.nD Cert.LatentExpertsIdeal.τ).loc Cert.LatentExpertsIdeal.main_arg4)
      ∧ m' ((c.tc : Thread Cert.LatentExpertsReferenceIdeal.nD Cert.LatentExpertsReferenceIdeal.τ).loc Cert.LatentExpertsReferenceIdeal.main_arg5) = m ((c.tc : Thread Cert.LatentExpertsIdeal.nD Cert.LatentExpertsIdeal.τ).loc Cert.LatentExpertsIdeal.main_arg5)
      ∧ m' ((c.tc : Thread Cert.LatentExpertsReferenceIdeal.nD Cert.LatentExpertsReferenceIdeal.τ).loc Cert.LatentExpertsReferenceIdeal.main_arg6) = m ((c.tc : Thread Cert.LatentExpertsIdeal.nD Cert.LatentExpertsIdeal.τ).loc Cert.LatentExpertsIdeal.main_arg6)) →
    ∃ (v0 : (c : Dev Cert.LatentExpertsIdeal.nD) → Buf (Elt Ideal) ((c.tc : Thread Cert.LatentExpertsIdeal.nD Cert.LatentExpertsIdeal.τ).loc Cert.LatentExpertsIdeal.main_v22)),
      θ_run (Cert.LatentExpertsIdeal.defs (F := Ideal)) (onTc (τ := Cert.LatentExpertsIdeal.τ) (Cert.LatentExpertsIdeal.main (F := Ideal))) ⟨m, fun _ => 0, g⟩ (fun r => ∀ c : Dev Cert.LatentExpertsIdeal.nD,
          r.2.mem ((c.tc : Thread Cert.LatentExpertsIdeal.nD Cert.LatentExpertsIdeal.τ).loc Cert.LatentExpertsIdeal.main_v22) = v0 c
          ∧ r.2.mem ((c.tc : Thread Cert.LatentExpertsIdeal.nD Cert.LatentExpertsIdeal.τ).loc Cert.LatentExpertsIdeal.main_arg0) = m ((c.tc : Thread Cert.LatentExpertsIdeal.nD Cert.LatentExpertsIdeal.τ).loc Cert.LatentExpertsIdeal.main_arg0)
          ∧ r.2.mem ((c.tc : Thread Cert.LatentExpertsIdeal.nD Cert.LatentExpertsIdeal.τ).loc Cert.LatentExpertsIdeal.main_arg1) = m ((c.tc : Thread Cert.LatentExpertsIdeal.nD Cert.LatentExpertsIdeal.τ).loc Cert.LatentExpertsIdeal.main_arg1)
          ∧ r.2.mem ((c.tc : Thread Cert.LatentExpertsIdeal.nD Cert.LatentExpertsIdeal.τ).loc Cert.LatentExpertsIdeal.main_arg2) = m ((c.tc : Thread Cert.LatentExpertsIdeal.nD Cert.LatentExpertsIdeal.τ).loc Cert.LatentExpertsIdeal.main_arg2)
          ∧ r.2.mem ((c.tc : Thread Cert.LatentExpertsIdeal.nD Cert.LatentExpertsIdeal.τ).loc Cert.LatentExpertsIdeal.main_arg3) = m ((c.tc : Thread Cert.LatentExpertsIdeal.nD Cert.LatentExpertsIdeal.τ).loc Cert.LatentExpertsIdeal.main_arg3)
          ∧ r.2.mem ((c.tc : Thread Cert.LatentExpertsIdeal.nD Cert.LatentExpertsIdeal.τ).loc Cert.LatentExpertsIdeal.main_arg4) = m ((c.tc : Thread Cert.LatentExpertsIdeal.nD Cert.LatentExpertsIdeal.τ).loc Cert.LatentExpertsIdeal.main_arg4)
          ∧ r.2.mem ((c.tc : Thread Cert.LatentExpertsIdeal.nD Cert.LatentExpertsIdeal.τ).loc Cert.LatentExpertsIdeal.main_arg5) = m ((c.tc : Thread Cert.LatentExpertsIdeal.nD Cert.LatentExpertsIdeal.τ).loc Cert.LatentExpertsIdeal.main_arg5)
          ∧ r.2.mem ((c.tc : Thread Cert.LatentExpertsIdeal.nD Cert.LatentExpertsIdeal.τ).loc Cert.LatentExpertsIdeal.main_arg6) = m ((c.tc : Thread Cert.LatentExpertsIdeal.nD Cert.LatentExpertsIdeal.τ).loc Cert.LatentExpertsIdeal.main_arg6))
      ∧ θ_run (Cert.LatentExpertsReferenceIdeal.defs (F := Ideal)) (onTc (τ := Cert.LatentExpertsReferenceIdeal.τ) (Cert.LatentExpertsReferenceIdeal.main (F := Ideal))) ⟨m', fun _ => 0, g'⟩ (fun r => ∀ c : Dev Cert.LatentExpertsReferenceIdeal.nD,
          r.2.mem ((c.tc : Thread Cert.LatentExpertsReferenceIdeal.nD Cert.LatentExpertsReferenceIdeal.τ).loc Cert.LatentExpertsReferenceIdeal.main_v79) = v0 c
          ∧ r.2.mem ((c.tc : Thread Cert.LatentExpertsReferenceIdeal.nD Cert.LatentExpertsReferenceIdeal.τ).loc Cert.LatentExpertsReferenceIdeal.main_arg0) = m' ((c.tc : Thread Cert.LatentExpertsReferenceIdeal.nD Cert.LatentExpertsReferenceIdeal.τ).loc Cert.LatentExpertsReferenceIdeal.main_arg0)
          ∧ r.2.mem ((c.tc : Thread Cert.LatentExpertsReferenceIdeal.nD Cert.LatentExpertsReferenceIdeal.τ).loc Cert.LatentExpertsReferenceIdeal.main_arg1) = m' ((c.tc : Thread Cert.LatentExpertsReferenceIdeal.nD Cert.LatentExpertsReferenceIdeal.τ).loc Cert.LatentExpertsReferenceIdeal.main_arg1)
          ∧ r.2.mem ((c.tc : Thread Cert.LatentExpertsReferenceIdeal.nD Cert.LatentExpertsReferenceIdeal.τ).loc Cert.LatentExpertsReferenceIdeal.main_arg2) = m' ((c.tc : Thread Cert.LatentExpertsReferenceIdeal.nD Cert.LatentExpertsReferenceIdeal.τ).loc Cert.LatentExpertsReferenceIdeal.main_arg2)
          ∧ r.2.mem ((c.tc : Thread Cert.LatentExpertsReferenceIdeal.nD Cert.LatentExpertsReferenceIdeal.τ).loc Cert.LatentExpertsReferenceIdeal.main_arg3) = m' ((c.tc : Thread Cert.LatentExpertsReferenceIdeal.nD Cert.LatentExpertsReferenceIdeal.τ).loc Cert.LatentExpertsReferenceIdeal.main_arg3)
          ∧ r.2.mem ((c.tc : Thread Cert.LatentExpertsReferenceIdeal.nD Cert.LatentExpertsReferenceIdeal.τ).loc Cert.LatentExpertsReferenceIdeal.main_arg4) = m' ((c.tc : Thread Cert.LatentExpertsReferenceIdeal.nD Cert.LatentExpertsReferenceIdeal.τ).loc Cert.LatentExpertsReferenceIdeal.main_arg4)
          ∧ r.2.mem ((c.tc : Thread Cert.LatentExpertsReferenceIdeal.nD Cert.LatentExpertsReferenceIdeal.τ).loc Cert.LatentExpertsReferenceIdeal.main_arg5) = m' ((c.tc : Thread Cert.LatentExpertsReferenceIdeal.nD Cert.LatentExpertsReferenceIdeal.τ).loc Cert.LatentExpertsReferenceIdeal.main_arg5)
          ∧ r.2.mem ((c.tc : Thread Cert.LatentExpertsReferenceIdeal.nD Cert.LatentExpertsReferenceIdeal.τ).loc Cert.LatentExpertsReferenceIdeal.main_arg6) = m' ((c.tc : Thread Cert.LatentExpertsReferenceIdeal.nD Cert.LatentExpertsReferenceIdeal.τ).loc Cert.LatentExpertsReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hLatentExperts : Cert.LatentExperts.Facts) (hLatentExpertsIdeal : Cert.LatentExpertsIdeal.Facts) (hLatentExpertsReferenceIdeal : Cert.LatentExpertsReferenceIdeal.Facts) (hPre_scores_finite : Cert.Pre_scores_finite.Facts) (hPre_routed : Cert.Pre_routed.Facts) (hPre_routed_latents : Cert.Pre_routed_latents.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_LatentExperts (hLatentExperts := hLatentExperts) (hPre_routed_latents := hPre_routed_latents)
    ∧ quiescent_LatentExpertsIdeal (hLatentExpertsIdeal := hLatentExpertsIdeal) (hPre_routed_latents := hPre_routed_latents)
    ∧ quiescent_LatentExpertsReferenceIdeal (hLatentExpertsReferenceIdeal := hLatentExpertsReferenceIdeal)
    ∧ quiescent_LatentExpertsReferenceIdeal_pre_routed_latents (hLatentExpertsReferenceIdeal := hLatentExpertsReferenceIdeal) (hPre_routed_latents := hPre_routed_latents)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_LatentExperts_LatentExpertsIdeal
    ∧ algebraic_LatentExpertsIdeal_LatentExpertsReferenceIdeal (hLatentExpertsIdeal := hLatentExpertsIdeal) (hLatentExpertsReferenceIdeal := hLatentExpertsReferenceIdeal) (hPre_routed_latents := hPre_routed_latents)
-- ==== Pre_routed.lean ====
abbrev S319 : Shape := ⟨1, ![319]⟩
abbrev S1 : Shape := ⟨1, ![1]⟩
abbrev S1306624x128 : Shape := ⟨2, ![1306624, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S_ : Shape := ⟨0, ![]⟩

class Facts : Prop where
  bcast_S_S319 : S_.BroadcastsInDim S319 (![] : Fin 0 → Fin S319.rank)
  reducesTo_S319_S_d0 : S319.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S319 32) (main_arg1 : IVec S1 32) (main_arg2 : FVec F S1306624x128 .bf16) (main_arg3 : FVec F S128x1024x2048 .f32) (main_arg4 : FVec F S128x1024x1024 .f32) (main_arg5 : FVec F S128x2048 .f32) (main_arg6 : FVec F S128x1024 .f32) : IVec S_ 1 :=
  let main_c : IVec S_ 32 := constantI S_ 32 0#32
  let main_v0 : IVec S319 32 := broadcastInDim S319 ![] bcast_S_S319 main_c
  let main_v1 : IVec S319 1 := cmpi .sge main_arg0 main_v0
  let main_c_0 : IVec S_ 32 := constantI S_ 32 128#32
  let main_v2 : IVec S319 32 := broadcastInDim S319 ![] bcast_S_S319 main_c_0
  let main_v3 : IVec S319 1 := cmpi .slt main_arg0 main_v2
  let main_v4 : IVec S319 1 := andi main_v1 main_v3
  let main_c_1 : IVec S_ 1 := constantI S_ 1 1#1
  let main_v5 : IVec S_ 1 := (fun x v => Host.reduce IntOp.andi x v reducesTo_S319_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 319#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_routed_latents.lean ====
abbrev S287 : Shape := ⟨1, ![287]⟩
abbrev S1 : Shape := ⟨1, ![1]⟩
abbrev S1175552x128 : Shape := ⟨2, ![1175552, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S_ : Shape := ⟨0, ![]⟩

class Facts : Prop where
  bcast_S_S287 : S_.BroadcastsInDim S287 (![] : Fin 0 → Fin S287.rank)
  reducesTo_S287_S_d0 : S287.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S287 32) (main_arg1 : IVec S1 32) (main_arg2 : FVec F S1175552x128 .bf16) (main_arg3 : FVec F S128x1024x2048 .f32) (main_arg4 : FVec F S128x1024x1024 .f32) (main_arg5 : FVec F S128x2048 .f32) (main_arg6 : FVec F S128x1024 .f32) : IVec S_ 1 :=
  let main_c : IVec S_ 32 := constantI S_ 32 0#32
  let main_v0 : IVec S287 32 := broadcastInDim S287 ![] bcast_S_S287 main_c
  let main_v1 : IVec S287 1 := cmpi .sge main_arg0 main_v0
  let main_c_0 : IVec S_ 32 := constantI S_ 32 128#32
  let main_v2 : IVec S287 32 := broadcastInDim S287 ![] bcast_S_S287 main_c_0
  let main_v3 : IVec S287 1 := cmpi .slt main_arg0 main_v2
  let main_v4 : IVec S287 1 := andi main_v1 main_v3
  let main_c_1 : IVec S_ 1 := constantI S_ 1 1#1
  let main_v5 : IVec S_ 1 := (fun x v => Host.reduce IntOp.andi x v reducesTo_S287_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 287#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_scores_finite.lean ====
abbrev S16x2048x16x64 : Shape := ⟨4, ![16, 2048, 16, 64]⟩
abbrev S16x2048x4x64 : Shape := ⟨4, ![16, 2048, 4, 64]⟩
abbrev S16x256x4x64 : Shape := ⟨4, ![16, 256, 4, 64]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x2048x4x64 : S_.BroadcastsInDim S16x2048x4x64 (![] : Fin 0 → Fin S16x2048x4x64.rank)
  reducesTo_S16x2048x4x64_S_d0_1_2_3 : S16x2048x4x64.ReducesTo [0, 1, 2, 3] S_
  bcast_S_S16x256x4x64 : S_.BroadcastsInDim S16x256x4x64 (![] : Fin 0 → Fin S16x256x4x64.rank)
  reducesTo_S16x256x4x64_S_d0_1_2_3 : S16x256x4x64.ReducesTo [0, 1, 2, 3] S_

variable [Facts]

def fn {F : FTy → Type} [FloatOps F] (main_arg0 : FVec F S16x2048x16x64 .f32) (main_arg1 : FVec F S16x2048x4x64 .f32) (main_arg2 : FVec F S16x2048x4x64 .f32) (main_arg3 : FVec F S16x256x4x64 .f32) (main_arg4 : FVec F S16x256x4x64 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x4x64 .f32 := Host.absf main_arg1
  let main_cst_0 : FVec F S_ .f32 := constant S_ .f32 0x7F800000#32
  let main_v5 : FVec F S16x2048x4x64 .f32 := broadcastInDim S16x2048x4x64 ![] bcast_S_S16x2048x4x64 main_cst_0
  let main_v6 : IVec S16x2048x4x64 1 := cmpf .olt main_v4 main_v5
  let main_c_1 : IVec S_ 1 := constantI S_ 1 1#1
  let main_v7 : IVec S_ 1 := (fun x v => Host.reduce IntOp.andi x v reducesTo_S16x2048x4x64_S_d0_1_2_3 h_S_) main_v6 main_c_1
  let main_v8 : IVec S_ 1 := andi main_v3 main_v7
  let main_v9 : FVec F S16x256x4x64 .f32 := Host.absf main_arg3
  let main_cst_2 : FVec F S_ .f32 := constant S_ .f32 0x7F800000#32
  let main_v10 : FVec F S16x256x4x64 .f32 := broadcastInDim S16x256x4x64 ![] bcast_S_S16x256x4x64 main_cst_2
  let main_v11 : IVec S16x256x4x64 1 := cmpf .olt main_v9 main_v10
  let main_c_3 : IVec S_ 1 := constantI S_ 1 1#1
  let main_v12 : IVec S_ 1 := (fun x v => Host.reduce IntOp.andi x v reducesTo_S16x256x4x64_S_d0_1_2_3 h_S_) main_v11 main_c_3
  let main_v13 : IVec S_ 1 := andi main_v8 main_v12
  main_v13
-- ==== Kernel.lean ====
abbrev S16x2048x16x64 : Shape := ⟨4, ![16, 2048, 16, 64]⟩
abbrev S16x2048x4x64 : Shape := ⟨4, ![16, 2048, 4, 64]⟩
abbrev S16x256x4x64 : Shape := ⟨4, ![16, 256, 4, 64]⟩
abbrev S16x2048x1024 : Shape := ⟨3, ![16, 2048, 1024]⟩
abbrev S_ : Shape := ⟨0, ![]⟩
abbrev S16x2048x256 : Shape := ⟨3, ![16, 2048, 256]⟩
abbrev S16x256x256 : Shape := ⟨3, ![16, 256, 256]⟩
abbrev S1x256x1024 : Shape := ⟨3, ![1, 256, 1024]⟩
abbrev S1x2048x256 : Shape := ⟨3, ![1, 2048, 256]⟩
abbrev S1x256x256 : Shape := ⟨3, ![1, 256, 256]⟩
abbrev S1x128x64 : Shape := ⟨3, ![1, 128, 64]⟩
abbrev S128x64 : Shape := ⟨2, ![128, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S1x256x64 : Shape := ⟨3, ![1, 256, 64]⟩
abbrev S256x64 : Shape := ⟨2, ![256, 64]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x4x64, .f32⟩
  | .hbm, ⟨2, _⟩ => ⟨S16x2048x4x64, .f32⟩
  | .hbm, ⟨3, _⟩ => ⟨S16x256x4x64, .f32⟩
  | .hbm, ⟨4, _⟩ => ⟨S16x256x4x64, .f32⟩
  | .hbm, ⟨5, _⟩ => ⟨S16x2048x1024, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S16x2048x1024, .bf16⟩
  | .hbm, ⟨10, _⟩ => ⟨S16x2048x256, .f32⟩
  | .hbm, ⟨11, _⟩ => ⟨S16x2048x256, .bf16⟩
  | .hbm, ⟨12, _⟩ => ⟨S16x2048x256, .f32⟩
  | .hbm, ⟨13, _⟩ => ⟨S16x2048x256, .bf16⟩
  | .hbm, ⟨14, _⟩ => ⟨S16x256x256, .f32⟩
  | .hbm, ⟨15, _⟩ => ⟨S16x256x256, .bf16⟩
  | .hbm, ⟨16, _⟩ => ⟨S16x256x256, .f32⟩
  | .hbm, ⟨17, _⟩ => ⟨S16x256x256, .bf16⟩
  | .hbm, ⟨18, _⟩ => ⟨S16x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x1024, .bf16⟩
  | .local _ .vmem, ⟨11, _⟩ => ⟨S1x256x1024, .bf16⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x2048x16x64 : Shape := ⟨4, ![16, 2048, 16, 64]⟩
abbrev S16x2048x4x64 : Shape := ⟨4, ![16, 2048, 4, 64]⟩
abbrev S16x256x4x64 : Shape := ⟨4, ![16, 256, 4, 64]⟩
abbrev S16x2304x4x64 : Shape := ⟨4, ![16, 2304, 4, 64]⟩
abbrev S16x2048x4x4x64 : Shape := ⟨5, ![16, 2048, 4, 4, 64]⟩
abbrev S16x4x2304x2048x4 : Shape := ⟨5, ![16, 4, 2304, 2048, 4]⟩
abbrev S16x4x4x2048x2304 : Shape := ⟨5, ![16, 4, 4, 2048, 2304]⟩
abbrev S_ : Shape := ⟨0, ![]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩
abbrev S16x2048x1024 : Shape := ⟨3, ![16, 2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x4x64, .f32⟩
  | .hbm, ⟨2, _⟩ => ⟨S16x2048x4x64, .f32⟩
  | .hbm, ⟨3, _⟩ => ⟨S16x256x4x64, .f32⟩
  | .hbm, ⟨4, _⟩ => ⟨S16x256x4x64, .f32⟩
  | .hbm, ⟨5, _⟩ => ⟨S16x2304x4x64, .f32⟩
  | .hbm, ⟨6, _⟩ => ⟨S16x2304x4x64, .f32⟩
  | .hbm, ⟨7, _⟩ => ⟨S16x2048x4x4x64, .f32⟩
  | .hbm, ⟨8, _⟩ => ⟨S16x4x2304x2048x4, .f32⟩
  | .hbm, ⟨9, _⟩ => ⟨S16x4x4x2048x2304, .f32⟩
  | .hbm, ⟨10, _⟩ => ⟨S_, .f32⟩
  | .hbm, ⟨11, _⟩ => ⟨S16x4x4x2048x2304, .f32⟩
  | .hbm, ⟨12, _⟩ => ⟨S16x4x4x2048x2304, .f32⟩
  | .hbm, ⟨13, _⟩ => ⟨S_, .f32⟩
  | .hbm, ⟨14, _⟩ => ⟨S16x4x4x2048, .f32⟩
  | .hbm, ⟨15, _⟩ => ⟨S_, .f32⟩
  | .hbm, ⟨16, _⟩ => ⟨S16x4x4x2048, .f32⟩
  | .hbm, ⟨17, _⟩ => ⟨S16x4x4x2048, .f32⟩
  | .hbm, ⟨18, _⟩ => ⟨S16x4x4x2048x1, .f32⟩
  | .hbm, ⟨19, _⟩ => ⟨S16x4x4x2048x2304, .f32⟩
  | .hbm, ⟨20, _⟩ => ⟨S16x4x4x2048x2304, .f32⟩
  | .hbm, ⟨21, _⟩ => ⟨S16x4x4x2048x2304, .f32⟩
  | .hbm, ⟨22, _⟩ => ⟨S_, .f32⟩
  | .hbm, ⟨23, _⟩ => ⟨S16x4x4x2048, .f32⟩
  | .hbm, ⟨24, _⟩ => ⟨S16x4x4x2048x1, .f32⟩
  | .hbm, ⟨25, _⟩ => ⟨S16x4x4x2048x2304, .f32⟩
  | .hbm, ⟨26, _⟩ => ⟨S16x4x4x2048x2304, .f32⟩
  | .hbm, ⟨27, _⟩ => ⟨S16x4x64x4x2048, .f32⟩
  | .hbm, ⟨28, _⟩ => ⟨S16x2048x4x4x64, .f32⟩
  | .hbm, ⟨29, _⟩ => ⟨S16x2048x1024, .f32⟩
  | .hbm, ⟨30, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S319 : Shape := ⟨1, ![319]⟩
abbrev S1 : Shape := ⟨1, ![1]⟩
abbrev S1306624x128 : Shape := ⟨2, ![1306624, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S128x1x2048 : Shape := ⟨3, ![128, 1, 2048]⟩
abbrev S128x1x1024 : Shape := ⟨3, ![128, 1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4096x128 : Shape := ⟨2, ![4096, 128]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S2048x128 : Shape := ⟨2, ![2048, 128]⟩
abbrev S512x128 : Shape := ⟨2, ![512, 128]⟩
abbrev S2048x2x128 : Shape := ⟨3, ![2048, 2, 128]⟩
abbrev S512x2x128 : Shape := ⟨3, ![512, 2, 128]⟩
abbrev S512x1x128 : Shape := ⟨3, ![512, 1, 128]⟩
abbrev S512x1024 : Shape := ⟨2, ![512, 1024]⟩
abbrev S1x1024 : Shape := ⟨2, ![1, 1024]⟩

abbrev nBuf : Space → Nat
  | .hbm => 33
  | .vmem => 18
  | .smem => 2
  | _ => 0

abbrev bufTy : (tb : Table) → Fin (tcTables nBuf tb) → BufTy
  | .hbm, ⟨0, _⟩ => ⟨S1306624x128, .bf16⟩
  | .hbm, ⟨1, _⟩ => ⟨S128x1024x2048, .f32⟩
  | .hbm, ⟨2, _⟩ => ⟨S128x1024x1024, .f32⟩
  | .hbm, ⟨3, _⟩ => ⟨S128x2048, .f32⟩
  | .hbm, ⟨4, _⟩ => ⟨S128x1024, .f32⟩
  | .hbm, ⟨5, _⟩ => ⟨S128x1x2048, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S1306624x128, .bf16⟩
  | .local _ .vmem, ⟨0, _⟩ => ⟨S4096x128, .bf16⟩
  | .local _ .vmem, ⟨1, _⟩ => ⟨S4096x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S4096x128, .bf16⟩
  | .local _ .vmem, ⟨14, _⟩ => ⟨S4096x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S319, .i32⟩
  | .local _ .smem, ⟨1, _⟩ => ⟨S1, .i32⟩
  | _, _ => ⟨S1306624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![319], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
abbrev S319 : Shape := ⟨1, ![319]⟩
abbrev S1 : Shape := ⟨1, ![1]⟩
abbrev S1306624x128 : Shape := ⟨2, ![1306624, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S128x1x2048 : Shape := ⟨3, ![128, 1, 2048]⟩
abbrev S128x1x1024 : Shape := ⟨3, ![128, 1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4096x128 : Shape := ⟨2, ![4096, 128]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S2048x128 : Shape := ⟨2, ![2048, 128]⟩
abbrev S512x128 : Shape := ⟨2, ![512, 128]⟩
abbrev S2048x2x128 : Shape := ⟨3, ![2048, 2, 128]⟩
abbrev S512x2x128 : Shape := ⟨3, ![512, 2, 128]⟩
abbrev S512x1x128 : Shape := ⟨3, ![512, 1, 128]⟩
abbrev S512x1024 : Shape := ⟨2, ![512, 1024]⟩
abbrev S1x1024 : Shape := ⟨2, ![1, 1024]⟩

abbrev nBuf : Space → Nat
  | .hbm => 33
  | .vmem => 18
  | .smem => 2
  | _ => 0

abbrev bufTy : (tb : Table) → Fin (tcTables nBuf tb) → BufTy
  | .hbm, ⟨0, _⟩ => ⟨S1306624x128, .bf16⟩
  | .hbm, ⟨1, _⟩ => ⟨S128x1024x2048, .f32⟩
  | .hbm, ⟨2, _⟩ => ⟨S128x1024x1024, .f32⟩
  | .hbm, ⟨3, _⟩ => ⟨S128x2048, .f32⟩
  | .hbm, ⟨4, _⟩ => ⟨S128x1024, .f32⟩
  | .hbm, ⟨5, _⟩ => ⟨S128x1x2048, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S1306624x128, .bf16⟩
  | .local _ .vmem, ⟨0, _⟩ => ⟨S4096x128, .bf16⟩
  | .local _ .vmem, ⟨1, _⟩ => ⟨S4096x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S4096x128, .bf16⟩
  | .local _ .vmem, ⟨14, _⟩ => ⟨S4096x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S319, .i32⟩
  | .local _ .smem, ⟨1, _⟩ => ⟨S1, .i32⟩
  | _, _ => ⟨S1306624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![319], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S319.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S319) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S319 : Shape := ⟨1, ![319]⟩
abbrev S1 : Shape := ⟨1, ![1]⟩
abbrev S1306624x128 : Shape := ⟨2, ![1306624, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S163328x4x2x128 : Shape := ⟨4, ![163328, 4, 2, 128]⟩
abbrev S163328x4x1x128 : Shape := ⟨4, ![163328, 4, 1, 128]⟩
abbrev S163328x4x128 : Shape := ⟨3, ![163328, 4, 128]⟩
abbrev S163328x512 : Shape := ⟨2, ![163328, 512]⟩
abbrev S163328x1024 : Shape := ⟨2, ![163328, 1024]⟩
abbrev S319x512x1024 : Shape := ⟨3, ![319, 512, 1024]⟩
abbrev S_ : Shape := ⟨0, ![]⟩
abbrev S319x1 : Shape := ⟨2, ![319, 1]⟩
abbrev S319x1024x2048 : Shape := ⟨3, ![319, 1024, 2048]⟩
abbrev S319x512x2048 : Shape := ⟨3, ![319, 512, 2048]⟩
abbrev S319x2048 : Shape := ⟨2, ![319, 2048]⟩
abbrev S319x1x2048 : Shape := ⟨3, ![319, 1, 2048]⟩
abbrev S319x1024x1024 : Shape := ⟨3, ![319, 1024, 1024]⟩
abbrev S319x1024 : Shape := ⟨2, ![319, 1024]⟩
abbrev S319x1x1024 : Shape := ⟨3, ![319, 1, 1024]⟩
abbrev S319x1x1 : Shape := ⟨3, ![319, 1, 1]⟩
abbrev S163328x2x4x128 : Shape := ⟨4, ![163328, 2, 4, 128]⟩
abbrev S163328x1x4x128 : Shape := ⟨4, ![163328, 1, 4, 128]⟩

abbrev nBuf : Space → Nat
  | .hbm => 111
  | .vmem => 0
  | .smem => 0
  | _ => 0

abbrev bufTy : (tb : Table) → Fin (tcTables nBuf tb) → BufTy
  | .hbm, ⟨0, _⟩ => ⟨S319, .i32⟩
  | .hbm, ⟨1, _⟩ => ⟨S1, .i32⟩
  | .hbm, ⟨2, _⟩ => ⟨S1306624x128, .bf16⟩
  | .hbm, ⟨3, _⟩ => ⟨S128x1024x2048, .f32⟩
  | .hbm, ⟨4, _⟩ => ⟨S128x1024x1024, .f32⟩
  | .hbm, ⟨5, _⟩ => ⟨S128x2048, .f32⟩
  | .hbm, ⟨6, _⟩ => ⟨S128x1024, .f32⟩
  | .hbm, ⟨7, _⟩ => ⟨S163328x4x2x128, .bf16⟩
  | .hbm, ⟨8, _⟩ => ⟨S163328x4x1x128, .bf16⟩
  | .hbm, ⟨9, _⟩ => ⟨S163328x4x128, .bf16⟩
  | .hbm, ⟨10, _⟩ => ⟨S163328x512, .bf16⟩
  | .hbm, ⟨11, _⟩ => ⟨S163328x4x1x128, .bf16⟩
  | .hbm, ⟨12, _⟩ => ⟨S163328x4x128, .bf16⟩
  | .hbm, ⟨13, _⟩ => ⟨S163328x512, .bf16⟩
  | .hbm, ⟨14, _⟩ => ⟨S163328x1024, .bf16⟩
  | .hbm, ⟨15, _⟩ => ⟨S319x512x1024, .bf16⟩
  | .hbm, ⟨16, _⟩ => ⟨S319x512x1024, .f32⟩
  | .hbm, ⟨17, _⟩ => ⟨S_, .i32⟩
  | .hbm, ⟨18, _⟩ => ⟨S319, .i32⟩
  | .hbm, ⟨19, _⟩ => ⟨S319, .i1⟩
  | .hbm, ⟨20, _⟩ => ⟨S_, .i32⟩
  | .hbm, ⟨21, _⟩ => ⟨S319, .i32⟩
  | .hbm, ⟨22, _⟩ => ⟨S319, .i32⟩
  | .hbm, ⟨23, _⟩ => ⟨S319, .i32⟩
  | .hbm, ⟨24, _⟩ => ⟨S319x1, .i32⟩
  | .hbm, ⟨25, _⟩ => ⟨S319x1024x2048, .f32⟩
  | .hbm, ⟨26, _⟩ => ⟨S319x512x2048, .f32⟩
  | .hbm, ⟨27, _⟩ => ⟨S_, .i32⟩
  | .hbm, ⟨28, _⟩ => ⟨S319, .i32⟩
  | .hbm, ⟨29, _⟩ => ⟨S319, .i1⟩
  | .hbm, ⟨30, _⟩ => ⟨S_, .i32⟩
  | .hbm, ⟨31, _⟩ => ⟨S319, .i32⟩
  | .hbm, ⟨32, _⟩ => ⟨S319, .i32⟩
  | .hbm, ⟨33, _⟩ => ⟨S319, .i32⟩
  | .hbm, ⟨34, _⟩ => ⟨S319x1, .i32⟩
  | .hbm, ⟨35, _⟩ => ⟨S319x2048, .f32⟩
  | .hbm, ⟨36, _⟩ => ⟨S319x1x2048, .f32⟩
  | .hbm, ⟨37, _⟩ => ⟨S319x512x2048, .f32⟩
  | .hbm, ⟨38, _⟩ => ⟨S319x512x2048, .f32⟩
  | .hbm, ⟨39, _⟩ => ⟨S319x512x1024, .f32⟩
  | .hbm, ⟨40, _⟩ => ⟨S_, .f32⟩
  | .hbm, ⟨41, _⟩ => ⟨S319x512x1024, .f32⟩
  | .hbm, ⟨42, _⟩ => ⟨S319x512x1024, .f32⟩
  | .hbm, ⟨43, _⟩ => ⟨S319x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S319x512x1024, .f32⟩
  | .hbm, ⟨48, _⟩ => ⟨S319x512x1024, .f32⟩
  | .hbm, ⟨49, _⟩ => ⟨S_, .f32⟩
  | .hbm, ⟨50, _⟩ => ⟨S319x512x1024, .f32⟩
  | .hbm, ⟨51, _⟩ => ⟨S319x512x1024, .f32⟩
  | .hbm, ⟨52, _⟩ => ⟨S_, .f32⟩
  | .hbm, ⟨53, _⟩ => ⟨S319x512x1024, .f32⟩
  | .hbm, ⟨54, _⟩ => ⟨S319x512x1024, .f32⟩
  | .hbm, ⟨55, _⟩ => ⟨S319x512x1024, .f32⟩
  | .hbm, ⟨56, _⟩ => ⟨S_, .f32⟩
  | .hbm, ⟨57, _⟩ => ⟨S319x512x1024, .f32⟩
  | .hbm, ⟨58, _⟩ => ⟨S319x512x1024, .f32⟩
  | .hbm, ⟨59, _⟩ => ⟨S319x512x1024, .f32⟩
  | .hbm, ⟨60, _⟩ => ⟨S319x512x1024, .f32⟩
  | .hbm, ⟨61, _⟩ => ⟨S_, .f32⟩
  | .hbm, ⟨62, _⟩ => ⟨S319x512x1024, .f32⟩
  | .hbm, ⟨63, _⟩ => ⟨S319x512x1024, .f32⟩
  | .hbm, ⟨64, _⟩ => ⟨S_, .f32⟩
  | .hbm, ⟨65, _⟩ => ⟨S319x512x1024, .f32⟩
  | .hbm, ⟨66, _⟩ => ⟨S319x512x1024, .f32⟩
  | .hbm, ⟨67, _⟩ => ⟨S319x512x1024, .f32⟩
  | .hbm, ⟨68, _⟩ => ⟨S_, .i32⟩
  | .hbm, ⟨69, _⟩ => ⟨S319, .i32⟩
  | .hbm, ⟨70, _⟩ => ⟨S319, .i1⟩
  | .hbm, ⟨71, _⟩ => ⟨S_, .i32⟩
  | .hbm, ⟨72, _⟩ => ⟨S319, .i32⟩
  | .hbm, ⟨73, _⟩ => ⟨S319, .i32⟩
  | .hbm, ⟨74, _⟩ => ⟨S319, .i32⟩
  | .hbm, ⟨75, _⟩ => ⟨S319x1, .i32⟩
  | .hbm, ⟨76, _⟩ => ⟨S319x1024x1024, .f32⟩
  | .hbm, ⟨77, _⟩ => ⟨S319x512x1024, .f32⟩
  | .hbm, ⟨78, _⟩ => ⟨S_, .i32⟩
  | .hbm, ⟨79, _⟩ => ⟨S319, .i32⟩
  | .hbm, ⟨80, _⟩ => ⟨S319, .i1⟩
  | .hbm, ⟨81, _⟩ => ⟨S_, .i32⟩
  | .hbm, ⟨82, _⟩ => ⟨S319, .i32⟩
  | .hbm, ⟨83, _⟩ => ⟨S319, .i32⟩
  | .hbm, ⟨84, _⟩ => ⟨S319, .i32⟩
  | .hbm, ⟨85, _⟩ => ⟨S319x1, .i32⟩
  | .hbm, ⟨86, _⟩ => ⟨S319x1024, .f32⟩
  | .hbm, ⟨87, _⟩ => ⟨S319x1x1024, .f32⟩
  | .hbm, ⟨88, _⟩ => ⟨S319x512x1024, .f32⟩
  | .hbm, ⟨89, _⟩ => ⟨S319x512x1024, .f32⟩
  | .hbm, ⟨90, _⟩ => ⟨S319, .i32⟩
  | .hbm, ⟨91, _⟩ => ⟨S_, .i32⟩
  | .hbm, ⟨92, _⟩ => ⟨S319, .i32⟩
  | .hbm, ⟨93, _⟩ => ⟨S319, .i1⟩
  | .hbm, ⟨94, _⟩ => ⟨S319x1x1, .i1⟩
  | .hbm, ⟨95, _⟩ => ⟨S_, .f32⟩
  | .hbm, ⟨96, _⟩ => ⟨S_, .f32⟩
  | .hbm, ⟨97, _⟩ => ⟨S319x512x1024, .i1⟩
  | .hbm, ⟨98, _⟩ => ⟨S319x512x1024, .f32⟩
  | .hbm, ⟨99, _⟩ => ⟨S319x512x1024, .f32⟩
  | .hbm, ⟨100, _⟩ => ⟨S163328x1024, .f32⟩
  | .hbm, ⟨101, _⟩ => ⟨S163328x1024, .bf16⟩
  | .hbm, ⟨102, _⟩ => ⟨S163328x2x4x128, .bf16⟩
  | .hbm, ⟨103, _⟩ => ⟨S163328x1x4x128, .bf16⟩
  | .hbm, ⟨104, _⟩ => ⟨S163328x4x128, .bf16⟩
  | .hbm, ⟨105, _⟩ => ⟨S163328x1x4x128, .bf16⟩
  | .hbm, ⟨106, _⟩ => ⟨S163328x4x128, .bf16⟩
  | .hbm, ⟨107, _⟩ => ⟨S163328x4x1x128, .bf16⟩
  | .hbm, ⟨108, _⟩ => ⟨S163328x4x1x128, .bf16⟩
  | .hbm, ⟨109, _⟩ => ⟨S163328x4x2x128, .bf16⟩
  | .hbm, ⟨110, _⟩ => ⟨S1306624x128, .bf16⟩
  | _, _ => ⟨S319, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== LatentExperts.lean ====
abbrev S287 : Shape := ⟨1, ![287]⟩
abbrev S1 : Shape := ⟨1, ![1]⟩
abbrev S1175552x128 : Shape := ⟨2, ![1175552, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S128x1x2048 : Shape := ⟨3, ![128, 1, 2048]⟩
abbrev S128x1x1024 : Shape := ⟨3, ![128, 1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S4096x128 : Shape := ⟨2, ![4096, 128]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S2048x128 : Shape := ⟨2, ![2048, 128]⟩
abbrev S512x128 : Shape := ⟨2, ![512, 128]⟩
abbrev S2048x2x128 : Shape := ⟨3, ![2048, 2, 128]⟩
abbrev S512x2x128 : Shape := ⟨3, ![512, 2, 128]⟩
abbrev S512x1x128 : Shape := ⟨3, ![512, 1, 128]⟩
abbrev S512x1024 : Shape := ⟨2, ![512, 1024]⟩
abbrev S1x1024 : Shape := ⟨2, ![1, 1024]⟩

abbrev nBuf : Space → Nat
  | .hbm => 33
  | .vmem => 18
  | .smem => 2
  | _ => 0

abbrev bufTy : (tb : Table) → Fin (tcTables nBuf tb) → BufTy
  | .hbm, ⟨0, _⟩ => ⟨S1175552x128, .bf16⟩
  | .hbm, ⟨1, _⟩ => ⟨S128x1024x2048, .f32⟩
  | .hbm, ⟨2, _⟩ => ⟨S128x1024x1024, .f32⟩
  | .hbm, ⟨3, _⟩ => ⟨S128x2048, .f32⟩
  | .hbm, ⟨4, _⟩ => ⟨S128x1024, .f32⟩
  | .hbm, ⟨5, _⟩ => ⟨S128x1x2048, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S1175552x128, .bf16⟩
  | .local _ .vmem, ⟨0, _⟩ => ⟨S4096x128, .bf16⟩
  | .local _ .vmem, ⟨1, _⟩ => ⟨S4096x128, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S4096x128, .bf16⟩
  | .local _ .vmem, ⟨14, _⟩ => ⟨S4096x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S287, .i32⟩
  | .local _ .smem, ⟨1, _⟩ => ⟨S1, .i32⟩
  | _, _ => ⟨S1175552x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![287], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatentExpertsIdeal.lean ====
variable {F : FTy → Type} [FloatOps F]
-- ==== LatentExpertsReferenceIdeal.lean ====
abbrev S287 : Shape := ⟨1, ![287]⟩
abbrev S1 : Shape := ⟨1, ![1]⟩
abbrev S1175552x128 : Shape := ⟨2, ![1175552, 128]⟩
abbrev S128x1024x2048 : Shape := ⟨3, ![128, 1024, 2048]⟩
abbrev S128x1024x1024 : Shape := ⟨3, ![128, 1024, 1024]⟩
abbrev S128x2048 : Shape := ⟨2, ![128, 2048]⟩
abbrev S128x1024 : Shape := ⟨2, ![128, 1024]⟩
abbrev S146944x4x2x128 : Shape := ⟨4, ![146944, 4, 2, 128]⟩
abbrev S146944x4x1x128 : Shape := ⟨4, ![146944, 4, 1, 128]⟩
abbrev S146944x4x128 : Shape := ⟨3, ![146944, 4, 128]⟩
abbrev S146944x512 : Shape := ⟨2, ![146944, 512]⟩
abbrev S146944x1024 : Shape := ⟨2, ![146944, 1024]⟩
abbrev S287x512x1024 : Shape := ⟨3, ![287, 512, 1024]⟩
abbrev S_ : Shape := ⟨0, ![]⟩
abbrev S287x1 : Shape := ⟨2, ![287, 1]⟩
abbrev S287x1024x2048 : Shape := ⟨3, ![287, 1024, 2048]⟩
abbrev S287x512x2048 : Shape := ⟨3, ![287, 512, 2048]⟩
abbrev S287x2048 : Shape := ⟨2, ![287, 2048]⟩
abbrev S287x1x2048 : Shape := ⟨3, ![287, 1, 2048]⟩
abbrev S287x1024x1024 : Shape := ⟨3, ![287, 1024, 1024]⟩
abbrev S287x1024 : Shape := ⟨2, ![287, 1024]⟩
abbrev S287x1x1024 : Shape := ⟨3, ![287, 1, 1024]⟩
abbrev S287x1x1 : Shape := ⟨3, ![287, 1, 1]⟩
abbrev S146944x2x4x128 : Shape := ⟨4, ![146944, 2, 4, 128]⟩
abbrev S146944x1x4x128 : Shape := ⟨4, ![146944, 1, 4, 128]⟩

abbrev nBuf : Space → Nat
  | .hbm => 111
  | .vmem => 0
  | .smem => 0
  | _ => 0

abbrev bufTy : (tb : Table) → Fin (tcTables nBuf tb) → BufTy
  | .hbm, ⟨0, _⟩ => ⟨S287, .i32⟩
  | .hbm, ⟨1, _⟩ => ⟨S1, .i32⟩
  | .hbm, ⟨2, _⟩ => ⟨S1175552x128, .bf16⟩
  | .hbm, ⟨3, _⟩ => ⟨S128x1024x2048, .f32⟩
  | .hbm, ⟨4, _⟩ => ⟨S128x1024x1024, .f32⟩
  | .hbm, ⟨5, _⟩ => ⟨S128x2048, .f32⟩
  | .hbm, ⟨6, _⟩ => ⟨S128x1024, .f32⟩
  | .hbm, ⟨7, _⟩ => ⟨S146944x4x2x128, .bf16⟩
  | .hbm, ⟨8, _⟩ => ⟨S146944x4x1x128, .bf16⟩
  | .hbm, ⟨9, _⟩ => ⟨S146944x4x128, .bf16⟩
  | .hbm, ⟨10, _⟩ => ⟨S146944x512, .bf16⟩
  | .hbm, ⟨11, _⟩ => ⟨S146944x4x1x128, .bf16⟩
  | .hbm, ⟨12, _⟩ => ⟨S146944x4x128, .bf16⟩
  | .hbm, ⟨13, _⟩ => ⟨S146944x512, .bf16⟩
  | .hbm, ⟨14, _⟩ => ⟨S146944x1024, .bf16⟩
  | .hbm, ⟨15, _⟩ => ⟨S287x512x1024, .bf16⟩
  | .hbm, ⟨16, _⟩ => ⟨S287x512x1024, .f32⟩
  | .hbm, ⟨17, _⟩ => ⟨S_, .i32⟩
  | .hbm, ⟨18, _⟩ => ⟨S287, .i32⟩
  | .hbm, ⟨19, _⟩ => ⟨S287, .i1⟩
  | .hbm, ⟨20, _⟩ => ⟨S_, .i32⟩
  | .hbm, ⟨21, _⟩ => ⟨S287, .i32⟩
  | .hbm, ⟨22, _⟩ => ⟨S287, .i32⟩
  | .hbm, ⟨23, _⟩ => ⟨S287, .i32⟩
  | .hbm, ⟨24, _⟩ => ⟨S287x1, .i32⟩
  | .hbm, ⟨25, _⟩ => ⟨S287x1024x2048, .f32⟩
  | .hbm, ⟨26, _⟩ => ⟨S287x512x2048, .f32⟩
  | .hbm, ⟨27, _⟩ => ⟨S_, .i32⟩
  | .hbm, ⟨28, _⟩ => ⟨S287, .i32⟩
  | .hbm, ⟨29, _⟩ => ⟨S287, .i1⟩
  | .hbm, ⟨30, _⟩ => ⟨S_, .i32⟩
  | .hbm, ⟨31, _⟩ => ⟨S287, .i32⟩
  | .hbm, ⟨32, _⟩ => ⟨S287, .i32⟩
  | .hbm, ⟨33, _⟩ => ⟨S287, .i32⟩
  | .hbm, ⟨34, _⟩ => ⟨S287x1, .i32⟩
  | .hbm, ⟨35, _⟩ => ⟨S287x2048, .f32⟩
  | .hbm, ⟨36, _⟩ => ⟨S287x1x2048, .f32⟩
  | .hbm, ⟨37, _⟩ => ⟨S287x512x2048, .f32⟩
  | .hbm, ⟨38, _⟩ => ⟨S287x512x2048, .f32⟩
  | .hbm, ⟨39, _⟩ => ⟨S287x512x1024, .f32⟩
  | .hbm, ⟨40, _⟩ => ⟨S_, .f32⟩
  | .hbm, ⟨41, _⟩ => ⟨S287x512x1024, .f32⟩
  | .hbm, ⟨42, _⟩ => ⟨S287x512x1024, .f32⟩
  | .hbm, ⟨43, _⟩ => ⟨S287x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S287x512x1024, .f32⟩
  | .hbm, ⟨48, _⟩ => ⟨S287x512x1024, .f32⟩
  | .hbm, ⟨49, _⟩ => ⟨S_, .f32⟩
  | .hbm, ⟨50, _⟩ => ⟨S287x512x1024, .f32⟩
  | .hbm, ⟨51, _⟩ => ⟨S287x512x1024, .f32⟩
  | .hbm, ⟨52, _⟩ => ⟨S_, .f32⟩
  | .hbm, ⟨53, _⟩ => ⟨S287x512x1024, .f32⟩
  | .hbm, ⟨54, _⟩ => ⟨S287x512x1024, .f32⟩
  | .hbm, ⟨55, _⟩ => ⟨S287x512x1024, .f32⟩
  | .hbm, ⟨56, _⟩ => ⟨S_, .f32⟩
  | .hbm, ⟨57, _⟩ => ⟨S287x512x1024, .f32⟩
  | .hbm, ⟨58, _⟩ => ⟨S287x512x1024, .f32⟩
  | .hbm, ⟨59, _⟩ => ⟨S287x512x1024, .f32⟩
  | .hbm, ⟨60, _⟩ => ⟨S287x512x1024, .f32⟩
  | .hbm, ⟨61, _⟩ => ⟨S_, .f32⟩
  | .hbm, ⟨62, _⟩ => ⟨S287x512x1024, .f32⟩
  | .hbm, ⟨63, _⟩ => ⟨S287x512x1024, .f32⟩
  | .hbm, ⟨64, _⟩ => ⟨S_, .f32⟩
  | .hbm, ⟨65, _⟩ => ⟨S287x512x1024, .f32⟩
  | .hbm, ⟨66, _⟩ => ⟨S287x512x1024, .f32⟩
  | .hbm, ⟨67, _⟩ => ⟨S287x512x1024, .f32⟩
  | .hbm, ⟨68, _⟩ => ⟨S_, .i32⟩
  | .hbm, ⟨69, _⟩ => ⟨S287, .i32⟩
  | .hbm, ⟨70, _⟩ => ⟨S287, .i1⟩
  | .hbm, ⟨71, _⟩ => ⟨S_, .i32⟩
  | .hbm, ⟨72, _⟩ => ⟨S287, .i32⟩
  | .hbm, ⟨73, _⟩ => ⟨S287, .i32⟩
  | .hbm, ⟨74, _⟩ => ⟨S287, .i32⟩
  | .hbm, ⟨75, _⟩ => ⟨S287x1, .i32⟩
  | .hbm, ⟨76, _⟩ => ⟨S287x1024x1024, .f32⟩
  | .hbm, ⟨77, _⟩ => ⟨S287x512x1024, .f32⟩
  | .hbm, ⟨78, _⟩ => ⟨S_, .i32⟩
  | .hbm, ⟨79, _⟩ => ⟨S287, .i32⟩
  | .hbm, ⟨80, _⟩ => ⟨S287, .i1⟩
  | .hbm, ⟨81, _⟩ => ⟨S_, .i32⟩
  | .hbm, ⟨82, _⟩ => ⟨S287, .i32⟩
  | .hbm, ⟨83, _⟩ => ⟨S287, .i32⟩
  | .hbm, ⟨84, _⟩ => ⟨S287, .i32⟩
  | .hbm, ⟨85, _⟩ => ⟨S287x1, .i32⟩
  | .hbm, ⟨86, _⟩ => ⟨S287x1024, .f32⟩
  | .hbm, ⟨87, _⟩ => ⟨S287x1x1024, .f32⟩
  | .hbm, ⟨88, _⟩ => ⟨S287x512x1024, .f32⟩
  | .hbm, ⟨89, _⟩ => ⟨S287x512x1024, .f32⟩
  | .hbm, ⟨90, _⟩ => ⟨S287, .i32⟩
  | .hbm, ⟨91, _⟩ => ⟨S_, .i32⟩
  | .hbm, ⟨92, _⟩ => ⟨S287, .i32⟩
  | .hbm, ⟨93, _⟩ => ⟨S287, .i1⟩
  | .hbm, ⟨94, _⟩ => ⟨S287x1x1, .i1⟩
  | .hbm, ⟨95, _⟩ => ⟨S_, .f32⟩
  | .hbm, ⟨96, _⟩ => ⟨S_, .f32⟩
  | .hbm, ⟨97, _⟩ => ⟨S287x512x1024, .i1⟩
  | .hbm, ⟨98, _⟩ => ⟨S287x512x1024, .f32⟩
  | .hbm, ⟨99, _⟩ => ⟨S287x512x1024, .f32⟩
  | .hbm, ⟨100, _⟩ => ⟨S146944x1024, .f32⟩
  | .hbm, ⟨101, _⟩ => ⟨S146944x1024, .bf16⟩
  | .hbm, ⟨102, _⟩ => ⟨S146944x2x4x128, .bf16⟩
  | .hbm, ⟨103, _⟩ => ⟨S146944x1x4x128, .bf16⟩
  | .hbm, ⟨104, _⟩ => ⟨S146944x4x128, .bf16⟩
  | .hbm, ⟨105, _⟩ => ⟨S146944x1x4x128, .bf16⟩
  | .hbm, ⟨106, _⟩ => ⟨S146944x4x128, .bf16⟩
  | .hbm, ⟨107, _⟩ => ⟨S146944x4x1x128, .bf16⟩
  | .hbm, ⟨108, _⟩ => ⟨S146944x4x1x128, .bf16⟩
  | .hbm, ⟨109, _⟩ => ⟨S146944x4x2x128, .bf16⟩
  | .hbm, ⟨110, _⟩ => ⟨S1175552x128, .bf16⟩
  | _, _ => ⟨S287, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Proof.Row.lean ====
/- One row of the attention body: its output as a function of its scores and of the values. -/
module

public import proofs.«01_k».proof.Proof.Gen.KernelIdeal.Frame
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The row's output from its scores over the two key segments and the two columns of values: one softmax, its maximum
    and its denominator taken segment by segment, the quotient taken last. -/
def rowOut (s : Fin 2048 → EReal) (sc : Fin 256 → EReal) (w : Fin 2048 → EReal) (wc : Fin 256 → EReal) : EReal :=
  let M : EReal := max (Finset.univ.fold max ⊥ s) (Finset.univ.fold max ⊥ sc)
  Ideal.div ((∑ i, Ideal.exp (s i - M) * w i) + ∑ i, Ideal.exp (sc i - M) * wc i)
    ((∑ i, Ideal.exp (s i - M)) + ∑ i, Ideal.exp (sc i - M))

/-- The initial value of a row maximum is the least extended real. -/
theorem negInf : Ideal.ofBits .f32 0xFF800000#32 = ⊥ := by simp [Ideal.ofBits, Ideal.ieee]

/-- A unit's 512 rows from its scores and the values it reads. -/
theorem unit_apply (s : FVec Ideal S512x2048 .f32) (sc : FVec Ideal S512x256 .f32) (v : FVec Ideal S1x2048x64 .bf16)
    (vc : FVec Ideal S1x256x64 .bf16) (r : Fin 512) (d : Fin 64) :
    k0_pay12 (F := Ideal) s sc v vc (ix2 r d)
      = rowOut (fun i => s (ix2 r i)) (fun i => sc (ix2 r i)) (fun i => v (ix3 0 i d)) (fun i => vc (ix3 0 i d)) := by
  pointwise [k0_pay12, rowOut]
  rw [negInf]

end Cert.KernelIdeal.Att

end
-- ==== Proof.Softmax.lean ====
/- The softmax of the reference's row against the kernel's: over one list of keys each probability is divided before the
   product with the values, over two segments the quotient is taken last. -/
module

public import proofs.«01_k».proof.Proof.Row

@[expose] public section

set_option maxRecDepth 16384

noncomputable section

namespace Cert.Softmax

open Idealize.ShloMosaic

/-- The reference's row: each key's probability, divided by the denominator, times its value. -/
def refRow (s w : Fin 2304 → EReal) : EReal :=
  let M : EReal := max ⊥ (Finset.univ.fold max ⊥ s)
  ∑ i, w i * Ideal.div (Ideal.exp (s i - M)) (∑ j, Ideal.exp (s j - M))

/-- A key of the first segment, among all. -/
abbrev inl (i : Fin 2048) : Fin 2304 := ⟨i.val, by omega⟩
/-- A key of the second segment, among all. -/
abbrev inr (i : Fin 256) : Fin 2304 := ⟨2048 + i.val, by omega⟩

theorem sum_split (f : Fin 2304 → EReal) : ∑ i, f i = (∑ i, f (inl i)) + ∑ i, f (inr i) :=
  Fin.sum_univ_add (a := 2048) (b := 256) f

theorem fold_split (f : Fin 2304 → EReal) :
    Finset.univ.fold max ⊥ f = max (Finset.univ.fold max ⊥ fun i => f (inl i)) (Finset.univ.fold max ⊥ fun i => f (inr i)) := by
  show Finset.univ.sup f = max (Finset.univ.sup fun i => f (inl i)) (Finset.univ.sup fun i => f (inr i))
  apply le_antisymm
  · refine Finset.sup_le fun i _ => ?_
    by_cases h : i.val < 2048
    · exact le_trans (Finset.le_sup (f := fun i => f (inl i)) (Finset.mem_univ (⟨i.val, h⟩ : Fin 2048))) (le_max_left _ _)
    · have e : i = inr ⟨i.val - 2048, by omega⟩ := Fin.ext (by show i.val = 2048 + (i.val - 2048); omega)
      rw [e]
      exact le_trans (Finset.le_sup (f := fun i => f (inr i)) (Finset.mem_univ _)) (le_max_right _ _)
  · exact max_le (Finset.sup_le fun i _ => Finset.le_sup (Finset.mem_univ _)) (Finset.sup_le fun i _ => Finset.le_sup (Finset.mem_univ _))

theorem sum_mul_coe {n : Nat} (f : Fin n → EReal) {c : ℝ} (hc : 0 ≤ c) : (∑ i, f i) * (c : EReal) = ∑ i, f i * (c : EReal) := by
  induction (Finset.univ : Finset (Fin n)) using Finset.induction_on with
  | empty => simp
  | insert a s ha ih =>
    rw [Finset.sum_insert ha, Finset.sum_insert ha, ← ih,
      EReal.right_distrib_of_nonneg_of_ne_top (by exact_mod_cast hc) (EReal.coe_ne_top c)]

theorem coe_sum {n : Nat} (f : Fin n → ℝ) : ∑ i, ((f i : ℝ) : EReal) = ((∑ i, f i : ℝ) : EReal) := by
  induction (Finset.univ : Finset (Fin n)) using Finset.induction_on with
  | empty => simp
  | insert a s ha ih => rw [Finset.sum_insert ha, Finset.sum_insert ha, ih, EReal.coe_add]

/-- Where every score is a real number the two rows agree, whatever the values. -/
theorem row_eq (σ : Fin 2304 → ℝ) (w : Fin 2304 → EReal) :
    refRow (fun i => (σ i : EReal)) w
      = Cert.KernelIdeal.Att.rowOut (fun i => (σ (inl i) : EReal)) (fun i => (σ (inr i) : EReal)) (fun i => w (inl i)) (fun i => w (inr i)) := by
  obtain ⟨i0, -, hi0⟩ := Finset.exists_mem_eq_sup (Finset.univ : Finset (Fin 2304)) ⟨⟨0, by omega⟩, Finset.mem_univ _⟩ (fun i => (σ i : EReal))
  have hM : Finset.univ.fold max ⊥ (fun i => (σ i : EReal)) = (σ i0 : EReal) := hi0
  unfold refRow Cert.KernelIdeal.Att.rowOut
  rw [← fold_split (fun i => (σ i : EReal)), hM, max_eq_right bot_le]
  have hE : ∀ i, Ideal.exp ((σ i : EReal) - (σ i0 : EReal)) = ((Real.exp (σ i - σ i0) : ℝ) : EReal) := fun i => by
    rw [← EReal.coe_sub, Ideal.exp_coe]
  simp only [hE]
  rw [← sum_split (fun i => ((Real.exp (σ i - σ i0) : ℝ) : EReal)), ← sum_split (fun i => ((Real.exp (σ i - σ i0) : ℝ) : EReal) * w i), coe_sum]
  have hδ : 0 < ∑ i, Real.exp (σ i - σ i0) := Finset.sum_pos (fun i _ => Real.exp_pos _) ⟨i0, Finset.mem_univ _⟩
  rw [Ideal.div_coe hδ.ne', sum_mul_coe _ (one_div_pos.2 hδ).le]
  refine Finset.sum_congr rfl fun i _ => ?_
  rw [Ideal.div_coe hδ.ne', ← mul_assoc, mul_comm (w i)]

end Cert.Softmax

end
-- ==== Proof.Ref.lean ====
/- The reference's result read at an element. -/
module

public import proofs.«01_k».proof.Proof.Softmax
public import proofs.«01_k».proof.Proof.Gen.ReferenceIdeal.Read

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

variable (x0 : FVec Ideal S16x2048x16x64 .f32) (x1 x2 : FVec Ideal S16x2048x4x64 .f32) (x3 x4 : FVec Ideal S16x256x4x64 .f32)

/-- A score: the key's product with the query, then scaled. -/
theorem score_apply (b : Fin 16) (g j : Fin 4) (t : Fin 2048) (i : Fin 2304) :
    val_main_v6 (F := Ideal) x0 x1 x3 (ix5 b g j t i)
      = (∑ e : Fin 64, (val_main_v0 (F := Ideal) x1 x3 : FVec Ideal S16x2304x4x64 .f32) (ix4 b i g e) * x0 (ix4 b t ⟨g.val * 4 + j.val, by omega⟩ e))
        * Ideal.ofBits .f32 0x3E000000#32 := by
  pointwise [val_main_v6, val_main_v5, val_main_v4, val_main_v3, val_main_v2, val_main_cst]

/-- The row's largest score. -/
theorem max_apply (b : Fin 16) (g j : Fin 4) (t : Fin 2048) :
    val_main_v7 (F := Ideal) x0 x1 x3 (ix4 b g j t)
      = Finset.univ.fold max ⊥ (fun i => (val_main_v6 (F := Ideal) x0 x1 x3 : FVec Ideal S16x4x4x2048x2304 .f32) (ix5 b g j t i)) := by
  unfold val_main_v7
  generalize val_main_v6 (F := Ideal) x0 x1 x3 = s
  pointwise [val_main_cst_0]
  rw [Cert.KernelIdeal.Att.negInf]

/-- A score less the row's largest, exponentiated. -/
theorem exp_apply (b : Fin 16) (g j : Fin 4) (t : Fin 2048) (i : Fin 2304) :
    val_main_v13 (F := Ideal) x0 x1 x3 (ix5 b g j t i)
      = Ideal.exp ((val_main_v6 (F := Ideal) x0 x1 x3 : FVec Ideal S16x4x4x2048x2304 .f32) (ix5 b g j t i) - max ⊥ ((val_main_v7 (F := Ideal) x0 x1 x3 : FVec Ideal S16x4x4x2048 .f32) (ix4 b g j t))) := by
  rw [val_main_v13_apply, val_main_v12_apply, val_main_v11_apply, val_main_v10_apply, val_main_v9_apply, val_main_v8_apply, val_main_cst_1_apply]
  have e : idx_main_v10 (idx_main_v11 (ix5 b g j t i)) = ix4 b g j t := by funext a; fin_cases a <;> rfl
  rw [e]
  rw [← Cert.KernelIdeal.Att.negInf]
  rfl

/-- A weight: the exponential over the row's sum. -/
theorem prob_apply (b : Fin 16) (g j : Fin 4) (t : Fin 2048) (i : Fin 2304) :
    val_main_v17 (F := Ideal) x0 x1 x3 (ix5 b g j t i)
      = Ideal.div ((val_main_v13 (F := Ideal) x0 x1 x3 : FVec Ideal S16x4x4x2048x2304 .f32) (ix5 b g j t i)) (∑ l, (val_main_v13 (F := Ideal) x0 x1 x3 : FVec Ideal S16x4x4x2048x2304 .f32) (ix5 b g j t l)) := by
  rw [val_main_v17_apply, val_main_v16_apply, val_main_v15_apply, val_main_v14_apply, val_main_cst_2_apply]
  have e : ∀ l, idx_main_v14 (idx_main_v15 (idx_main_v16 (ix5 b g j t i))) l = ix5 b g j t l := by intro l; funext a; fin_cases a <;> rfl
  simp only [e]
  rw [show (FloatOps.ofBits FTy.f32 0#32 : Ideal .f32) = (0 : EReal) from by simp, zero_add]
  rfl

/-- An output element: the row's weights against the values. -/
theorem out_apply (b : Fin 16) (t : Fin 2048) (c : Fin 1024) :
    val_main_v21 (F := Ideal) x0 x1 x2 x3 x4 (ix3 b t c)
      = ∑ i : Fin 2304, (val_main_v1 (F := Ideal) x2 x4 : FVec Ideal S16x2304x4x64 .f32) (ix4 b i ⟨c.val / 64 / 4, by omega⟩ ⟨c.val % 64, by omega⟩)
        * (val_main_v17 (F := Ideal) x0 x1 x3 : FVec Ideal S16x4x4x2048x2304 .f32) (ix5 b ⟨c.val / 64 / 4, by omega⟩ ⟨c.val / 64 % 4, by omega⟩ t i) := by
  rw [val_main_v21_apply, val_main_v20_apply, val_main_v19_apply, val_main_v18_apply]
  refine Finset.sum_congr rfl fun i _ => ?_
  have hb := b.isLt
  have ht := t.isLt
  have hc := c.isLt
  have e1 : lidx_main_v18 (idx_main_v19 (idx_main_v20 (ix3 b t c))) i = ix4 b i ⟨c.val / 64 / 4, by omega⟩ ⟨c.val % 64, by omega⟩ := by
    funext a; fin_cases a <;> apply Fin.ext
    · show ((b.val * 2048 + t.val) * 1024 + c.val) / 2097152 = b.val; omega
    · rfl
    · show ((b.val * 2048 + t.val) * 1024 + c.val) / 256 % 4 = c.val / 64 / 4; omega
    · show ((b.val * 2048 + t.val) * 1024 + c.val) % 64 = c.val % 64; omega
  have e2 : ridx_main_v18 (idx_main_v19 (idx_main_v20 (ix3 b t c))) i = ix5 b ⟨c.val / 64 / 4, by omega⟩ ⟨c.val / 64 % 4, by omega⟩ t i := by
    funext a; fin_cases a <;> apply Fin.ext
    · show ((b.val * 2048 + t.val) * 1024 + c.val) / 2097152 = b.val; omega
    · show ((b.val * 2048 + t.val) * 1024 + c.val) / 256 % 4 = c.val / 64 / 4; omega
    · show ((b.val * 2048 + t.val) * 1024 + c.val) / 64 % 4 = c.val / 64 % 4; omega
    · show ((b.val * 2048 + t.val) * 1024 + c.val) / 1024 % 2048 = t.val; omega
    · rfl
  rw [e1, e2]

/-- The weights' row against the values is the shifted form of the softmax row. -/
theorem result_apply (b : Fin 16) (t : Fin 2048) (c : Fin 1024) :
    val_main_v21 (F := Ideal) x0 x1 x2 x3 x4 (ix3 b t c)
      = Cert.Softmax.refRow
          (fun i => (val_main_v6 (F := Ideal) x0 x1 x3 : FVec Ideal S16x4x4x2048x2304 .f32)
            (ix5 b ⟨c.val / 64 / 4, by omega⟩ ⟨c.val / 64 % 4, by omega⟩ t i))
          (fun i => (val_main_v1 (F := Ideal) x2 x4 : FVec Ideal S16x2304x4x64 .f32)
            (ix4 b i ⟨c.val / 64 / 4, by omega⟩ ⟨c.val % 64, by omega⟩)) := by
  rw [out_apply]
  unfold Cert.Softmax.refRow
  refine Finset.sum_congr rfl fun i _ => ?_
  rw [prob_apply]
  simp only [exp_apply, max_apply]

/-- The joined keys at a latent position. -/
theorem keys_inl (b : Fin 16) (g : Fin 4) (e : Fin 64) (i : Fin 2048) :
    val_main_v0 (F := Ideal) x1 x3 (ix4 b (Cert.Softmax.inl i) g e) = x1 (ix4 b i g e) := by
  pointwise [val_main_v0, Cert.Softmax.inl]

/-- The joined keys at a context position. -/
theorem keys_inr (b : Fin 16) (g : Fin 4) (e : Fin 64) (i : Fin 256) :
    val_main_v0 (F := Ideal) x1 x3 (ix4 b (Cert.Softmax.inr i) g e) = x3 (ix4 b i g e) := by
  pointwise [val_main_v0, Cert.Softmax.inr]

/-- The joined values at a latent position. -/
theorem values_inl (b : Fin 16) (g : Fin 4) (e : Fin 64) (i : Fin 2048) :
    val_main_v1 (F := Ideal) x2 x4 (ix4 b (Cert.Softmax.inl i) g e) = x2 (ix4 b i g e) := by
  pointwise [val_main_v1, Cert.Softmax.inl]

/-- The joined values at a context position. -/
theorem values_inr (b : Fin 16) (g : Fin 4) (e : Fin 64) (i : Fin 256) :
    val_main_v1 (F := Ideal) x2 x4 (ix4 b (Cert.Softmax.inr i) g e) = x4 (ix4 b i g e) := by
  pointwise [val_main_v1, Cert.Softmax.inr]

end Cert.ReferenceIdeal.Att

end
-- ==== Proof.Unit.lean ====
/- One unit of the attention body, read at an element: 128 rows of the four heads of one key group. -/
module

public import proofs.«01_k».proof.Proof.Row
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- A unit's output: its four heads' queries stacked, the keys and values of its group. -/
def unitO (q0 q1 q2 q3 : FVec Ideal S1x128x64 .bf16) (k : FVec Ideal S1x2048x64 .bf16) (kc : FVec Ideal S1x256x64 .bf16)
    (v : FVec Ideal S1x2048x64 .bf16) (vc : FVec Ideal S1x256x64 .bf16) : FVec Ideal S512x64 .f32 :=
  k0_pay12 (k0_pay7 q0 q1 q2 q3 k) (k0_pay8 q0 q1 q2 q3 kc) v vc

/-- The 128 rows of the unit's first head, as they are stored. -/
def part0 (o : FVec Ideal S512x64 .f32) : FVec Ideal S1x128x64 .bf16 :=
  shapeCast S1x128x64 (truncf .bf16 (extractStridedSlice S128x64 ![0, 0] o slices_S512x64_o0_0_S128x64) bitsLt_bf16_f32) shapeCasts_S128x64_S1x128x64
/-- The 128 rows of the unit's second head, as they are stored. -/
def part1 (o : FVec Ideal S512x64 .f32) : FVec Ideal S1x128x64 .bf16 :=
  shapeCast S1x128x64 (truncf .bf16 (extractStridedSlice S128x64 ![128, 0] o slices_S512x64_o128_0_S128x64) bitsLt_bf16_f32) shapeCasts_S128x64_S1x128x64
/-- The 128 rows of the unit's third head, as they are stored. -/
def part2 (o : FVec Ideal S512x64 .f32) : FVec Ideal S1x128x64 .bf16 :=
  shapeCast S1x128x64 (truncf .bf16 (extractStridedSlice S128x64 ![256, 0] o slices_S512x64_o256_0_S128x64) bitsLt_bf16_f32) shapeCasts_S128x64_S1x128x64
/-- The 128 rows of the unit's fourth head, as they are stored. -/
def part3 (o : FVec Ideal S512x64 .f32) : FVec Ideal S1x128x64 .bf16 :=
  shapeCast S1x128x64 (truncf .bf16 (extractStridedSlice S128x64 ![384, 0] o slices_S512x64_o384_0_S128x64) bitsLt_bf16_f32) shapeCasts_S128x64_S1x128x64

/-- One stored element of a head whose queries are `q`. -/
def headOut (q : FVec Ideal S1x128x64 .bf16) (k : FVec Ideal S1x2048x64 .bf16) (kc : FVec Ideal S1x256x64 .bf16)
    (v : FVec Ideal S1x2048x64 .bf16) (vc : FVec Ideal S1x256x64 .bf16) (r : Fin 128) (d : Fin 64) : EReal :=
  rowOut (fun i => ∑ e, q (ix3 0 r e) * k (ix3 0 i e)) (fun i => ∑ e, q (ix3 0 r e) * kc (ix3 0 i e))
    (fun i => v (ix3 0 i d)) (fun i => vc (ix3 0 i d))

section
variable (q0 q1 q2 q3 : FVec Ideal S1x128x64 .bf16) (k : FVec Ideal S1x2048x64 .bf16) (kc : FVec Ideal S1x256x64 .bf16)
  (v : FVec Ideal S1x2048x64 .bf16) (vc : FVec Ideal S1x256x64 .bf16) (r : Fin 128) (d : Fin 64)

theorem part0_apply : part0 (unitO q0 q1 q2 q3 k kc v vc) (ix3 0 r d) = headOut q0 k kc v vc r d := by
  have h : part0 (unitO q0 q1 q2 q3 k kc v vc) (ix3 0 r d) = unitO q0 q1 q2 q3 k kc v vc (ix2 ⟨r.val, by omega⟩ d) := by
    pointwise [part0]
  rw [h, unitO, unit_apply, headOut]
  congr 1
  · funext i; pointwise [k0_pay7, k0_pay6]
  · funext i; pointwise [k0_pay8, k0_pay6]

theorem part1_apply : part1 (unitO q0 q1 q2 q3 k kc v vc) (ix3 0 r d) = headOut q1 k kc v vc r d := by
  have h : part1 (unitO q0 q1 q2 q3 k kc v vc) (ix3 0 r d) = unitO q0 q1 q2 q3 k kc v vc (ix2 ⟨128 + r.val, by omega⟩ d) := by
    pointwise [part1]
  rw [h, unitO, unit_apply, headOut]
  congr 1
  · funext i; pointwise [k0_pay7, k0_pay6]
  · funext i; pointwise [k0_pay8, k0_pay6]

theorem part2_apply : part2 (unitO q0 q1 q2 q3 k kc v vc) (ix3 0 r d) = headOut q2 k kc v vc r d := by
  have h : part2 (unitO q0 q1 q2 q3 k kc v vc) (ix3 0 r d) = unitO q0 q1 q2 q3 k kc v vc (ix2 ⟨256 + r.val, by omega⟩ d) := by
    pointwise [part2]
  rw [h, unitO, unit_apply, headOut]
  congr 1
  · funext i; pointwise [k0_pay7, k0_pay6]; refine Finset.sum_congr rfl fun x _ => ?_
    rw [dif_neg (by omega), dif_neg (by omega), dif_pos (by omega)]; exact congrArg (fun a => q2 (ix3 0 a x) * k (ix3 0 i x)) (Fin.ext (by show 256 + r.val - 128 - 128 = r.val; omega))
  · funext i; pointwise [k0_pay8, k0_pay6]; refine Finset.sum_congr rfl fun x _ => ?_
    rw [dif_neg (by omega), dif_neg (by omega), dif_pos (by omega)]; exact congrArg (fun a => q2 (ix3 0 a x) * kc (ix3 0 i x)) (Fin.ext (by show 256 + r.val - 128 - 128 = r.val; omega))

theorem part3_apply : part3 (unitO q0 q1 q2 q3 k kc v vc) (ix3 0 r d) = headOut q3 k kc v vc r d := by
  have h : part3 (unitO q0 q1 q2 q3 k kc v vc) (ix3 0 r d) = unitO q0 q1 q2 q3 k kc v vc (ix2 ⟨384 + r.val, by omega⟩ d) := by
    pointwise [part3]
  rw [h, unitO, unit_apply, headOut]
  congr 1
  · funext i; pointwise [k0_pay7, k0_pay6]; refine Finset.sum_congr rfl fun x _ => ?_
    rw [dif_neg (by omega), dif_neg (by omega), dif_neg (by omega)]; exact congrArg (fun a => q3 (ix3 0 a x) * k (ix3 0 i x)) (Fin.ext (by show 384 + r.val - 128 - 128 - 128 = r.val; omega))
  · funext i; pointwise [k0_pay8, k0_pay6]; refine Finset.sum_congr rfl fun x _ => ?_
    rw [dif_neg (by omega), dif_neg (by omega), dif_neg (by omega)]; exact congrArg (fun a => q3 (ix3 0 a x) * kc (ix3 0 i x)) (Fin.ext (by show 384 + r.val - 128 - 128 - 128 = r.val; omega))
end

end Cert.KernelIdeal.Att

end
-- ==== Proof.Pieces.lean ====
/- The 32 stores of the attention body's output block, each as the rows of its head. -/
module

public import proofs.«01_k».proof.Proof.Unit

@[expose] public section

set_option maxRecDepth 16384

noncomputable section

namespace Cert.KernelIdeal.Att

open Cert.KernelIdeal Cert.KernelIdeal.Gen Idealize.ShloMosaic Idealize.ShloMosaic.TcCoe Idealize.SL.Sem

/-- The output block at row `row`, head `h` and lane `d`, from the staged blocks of queries, keys and values. -/
def blkAt (x0 : FVec Ideal S1x256x1024 .bf16) (x1 x2 : FVec Ideal S1x2048x256 .bf16) (x3 x4 : FVec Ideal S1x256x256 .bf16)
    (row : Fin 256) (h : Fin 16) (d : Fin 64) : EReal :=
  rowOut (fun i => ∑ e : Fin 64, x0 (ix3 0 row ⟨h.val * 64 + e.val, by omega⟩) * x1 (ix3 0 i ⟨h.val / 4 * 64 + e.val, by omega⟩))
    (fun i => ∑ e : Fin 64, x0 (ix3 0 row ⟨h.val * 64 + e.val, by omega⟩) * x3 (ix3 0 i ⟨h.val / 4 * 64 + e.val, by omega⟩))
    (fun i => x2 (ix3 0 i ⟨h.val / 4 * 64 + d.val, by omega⟩)) (fun i => x4 (ix3 0 i ⟨h.val / 4 * 64 + d.val, by omega⟩))

variable (x0 : Vec Ideal S1x256x1024 .bf16) (x1 x2 : Vec Ideal S1x2048x256 .bf16) (x3 x4 : Vec Ideal S1x256x256 .bf16)

theorem piece_0_0 (r : Fin 128) (d : Fin 64) :
    (k0_pay13 (k0_pay93 x0 x1 x2 x3 x4) (k0_pay94 x0 x1 x2 x3 x4) (View.ld x2 r0_4) (View.ld x4 r0_5) : FVec Ideal S1x128x64 .bf16) (ix3 0 r d)
      = blkAt x0 x1 x2 x3 x4 ⟨r.val, by omega⟩ 0 d := by
  have e : (k0_pay13 (k0_pay93 x0 x1 x2 x3 x4) (k0_pay94 x0 x1 x2 x3 x4) (View.ld x2 r0_4) (View.ld x4 r0_5) : FVec Ideal S1x128x64 .bf16)
      = part0 (unitO (View.ld x0 r0_0) (View.ld x0 r0_1) (View.ld x0 r0_2) (View.ld x0 r0_3) (View.ld x1 r0_4) (View.ld x3 r0_5) (View.ld x2 r0_4) (View.ld x4 r0_5)) := rfl
  rw [e, part0_apply]
  unfold headOut blkAt
  pointwise []

theorem piece_1_0 (r : Fin 128) (d : Fin 64) :
    (k0_pay14 (k0_pay98 x0 x1 x2 x3 x4) : FVec Ideal S1x128x64 .bf16) (ix3 0 r d)
      = blkAt x0 x1 x2 x3 x4 ⟨r.val, by omega⟩ 1 d := by
  have e : (k0_pay14 (k0_pay98 x0 x1 x2 x3 x4) : FVec Ideal S1x128x64 .bf16)
      = part1 (unitO (View.ld x0 r0_0) (View.ld x0 r0_1) (View.ld x0 r0_2) (View.ld x0 r0_3) (View.ld x1 r0_4) (View.ld x3 r0_5) (View.ld x2 r0_4) (View.ld x4 r0_5)) := rfl
  rw [e, part1_apply]
  unfold headOut blkAt
  pointwise []

theorem piece_2_0 (r : Fin 128) (d : Fin 64) :
    (k0_pay15 (k0_pay98 x0 x1 x2 x3 x4) : FVec Ideal S1x128x64 .bf16) (ix3 0 r d)
      = blkAt x0 x1 x2 x3 x4 ⟨r.val, by omega⟩ 2 d := by
  have e : (k0_pay15 (k0_pay98 x0 x1 x2 x3 x4) : FVec Ideal S1x128x64 .bf16)
      = part2 (unitO (View.ld x0 r0_0) (View.ld x0 r0_1) (View.ld x0 r0_2) (View.ld x0 r0_3) (View.ld x1 r0_4) (View.ld x3 r0_5) (View.ld x2 r0_4) (View.ld x4 r0_5)) := rfl
  rw [e, part2_apply]
  unfold headOut blkAt
  pointwise []

theorem piece_3_0 (r : Fin 128) (d : Fin 64) :
    (k0_pay16 (k0_pay98 x0 x1 x2 x3 x4) : FVec Ideal S1x128x64 .bf16) (ix3 0 r d)
      = blkAt x0 x1 x2 x3 x4 ⟨r.val, by omega⟩ 3 d := by
  have e : (k0_pay16 (k0_pay98 x0 x1 x2 x3 x4) : FVec Ideal S1x128x64 .bf16)
      = part3 (unitO (View.ld x0 r0_0) (View.ld x0 r0_1) (View.ld x0 r0_2) (View.ld x0 r0_3) (View.ld x1 r0_4) (View.ld x3 r0_5) (View.ld x2 r0_4) (View.ld x4 r0_5)) := rfl
  rw [e, part3_apply]
  unfold headOut blkAt
  pointwise []

theorem piece_0_1 (r : Fin 128) (d : Fin 64) :
    (k0_pay22 (k0_pay96 x0 x1 x2 x3 x4) (k0_pay97 x0 x1 x2 x3 x4) (View.ld x2 r0_4) (View.ld x4 r0_5) : FVec Ideal S1x128x64 .bf16) (ix3 0 r d)
      = blkAt x0 x1 x2 x3 x4 ⟨128 + r.val, by omega⟩ 0 d := by
  have e : (k0_pay22 (k0_pay96 x0 x1 x2 x3 x4) (k0_pay97 x0 x1 x2 x3 x4) (View.ld x2 r0_4) (View.ld x4 r0_5) : FVec Ideal S1x128x64 .bf16)
      = part0 (unitO (View.ld x0 r0_6) (View.ld x0 r0_7) (View.ld x0 r0_8) (View.ld x0 r0_9) (View.ld x1 r0_4) (View.ld x3 r0_5) (View.ld x2 r0_4) (View.ld x4 r0_5)) := rfl
  rw [e, part0_apply]
  unfold headOut blkAt
  pointwise []

theorem piece_1_1 (r : Fin 128) (d : Fin 64) :
    (k0_pay23 (k0_pay96 x0 x1 x2 x3 x4) (k0_pay97 x0 x1 x2 x3 x4) (View.ld x2 r0_4) (View.ld x4 r0_5) : FVec Ideal S1x128x64 .bf16) (ix3 0 r d)
      = blkAt x0 x1 x2 x3 x4 ⟨128 + r.val, by omega⟩ 1 d := by
  have e : (k0_pay23 (k0_pay96 x0 x1 x2 x3 x4) (k0_pay97 x0 x1 x2 x3 x4) (View.ld x2 r0_4) (View.ld x4 r0_5) : FVec Ideal S1x128x64 .bf16)
      = part1 (unitO (View.ld x0 r0_6) (View.ld x0 r0_7) (View.ld x0 r0_8) (View.ld x0 r0_9) (View.ld x1 r0_4) (View.ld x3 r0_5) (View.ld x2 r0_4) (View.ld x4 r0_5)) := rfl
  rw [e, part1_apply]
  unfold headOut blkAt
  pointwise []

theorem piece_2_1 (r : Fin 128) (d : Fin 64) :
    (k0_pay25 (k0_pay24 (k0_pay96 x0 x1 x2 x3 x4) (k0_pay97 x0 x1 x2 x3 x4) (View.ld x2 r0_4) (View.ld x4 r0_5)) : FVec Ideal S1x128x64 .bf16) (ix3 0 r d)
      = blkAt x0 x1 x2 x3 x4 ⟨128 + r.val, by omega⟩ 2 d := by
  have e : (k0_pay25 (k0_pay24 (k0_pay96 x0 x1 x2 x3 x4) (k0_pay97 x0 x1 x2 x3 x4) (View.ld x2 r0_4) (View.ld x4 r0_5)) : FVec Ideal S1x128x64 .bf16)
      = part2 (unitO (View.ld x0 r0_6) (View.ld x0 r0_7) (View.ld x0 r0_8) (View.ld x0 r0_9) (View.ld x1 r0_4) (View.ld x3 r0_5) (View.ld x2 r0_4) (View.ld x4 r0_5)) := rfl
  rw [e, part2_apply]
  unfold headOut blkAt
  pointwise []

theorem piece_3_1 (r : Fin 128) (d : Fin 64) :
    (k0_pay26 (k0_pay21 (k0_pay96 x0 x1 x2 x3 x4) (k0_pay97 x0 x1 x2 x3 x4) (View.ld x2 r0_4) (View.ld x4 r0_5)) : FVec Ideal S1x128x64 .bf16) (ix3 0 r d)
      = blkAt x0 x1 x2 x3 x4 ⟨128 + r.val, by omega⟩ 3 d := by
  have e : (k0_pay26 (k0_pay21 (k0_pay96 x0 x1 x2 x3 x4) (k0_pay97 x0 x1 x2 x3 x4) (View.ld x2 r0_4) (View.ld x4 r0_5)) : FVec Ideal S1x128x64 .bf16)
      = part3 (unitO (View.ld x0 r0_6) (View.ld x0 r0_7) (View.ld x0 r0_8) (View.ld x0 r0_9) (View.ld x1 r0_4) (View.ld x3 r0_5) (View.ld x2 r0_4) (View.ld x4 r0_5)) := rfl
  rw [e, part3_apply]
  unfold headOut blkAt
  pointwise []

theorem piece_4_0 (r : Fin 128) (d : Fin 64) :
    (k0_pay33 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16) (ix3 0 r d)
      = blkAt x0 x1 x2 x3 x4 ⟨r.val, by omega⟩ 4 d := by
  have e : (k0_pay33 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16)
      = part0 (unitO (View.ld x0 r0_10) (View.ld x0 r0_11) (View.ld x0 r0_12) (View.ld x0 r0_13) (View.ld x1 r0_14) (View.ld x3 r0_15) (View.ld x2 r0_14) (View.ld x4 r0_15)) := rfl
  rw [e, part0_apply]
  unfold headOut blkAt
  pointwise []

theorem piece_5_0 (r : Fin 128) (d : Fin 64) :
    (k0_pay34 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16) (ix3 0 r d)
      = blkAt x0 x1 x2 x3 x4 ⟨r.val, by omega⟩ 5 d := by
  have e : (k0_pay34 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16)
      = part1 (unitO (View.ld x0 r0_10) (View.ld x0 r0_11) (View.ld x0 r0_12) (View.ld x0 r0_13) (View.ld x1 r0_14) (View.ld x3 r0_15) (View.ld x2 r0_14) (View.ld x4 r0_15)) := rfl
  rw [e, part1_apply]
  unfold headOut blkAt
  pointwise []

theorem piece_6_0 (r : Fin 128) (d : Fin 64) :
    (k0_pay35 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16) (ix3 0 r d)
      = blkAt x0 x1 x2 x3 x4 ⟨r.val, by omega⟩ 6 d := by
  have e : (k0_pay35 (k0_pay99 x0 x1 x2 x3 x4) (k0_pay100 x0 x1 x2 x3 x4) (k0_pay103 x0 x1 x2 x3 x4) (k0_pay104 x0 x1 x2 x3 x4) (View.ld x2 r0_14) (View.ld x4 r0_15) : FVec Ideal S1x128x64 .bf16)
      = part2 (unitO (View.ld x0 r0_10) (View.ld x0 r0_11) (View.ld x0 r0_12) (View.ld x0 r0_13) (View.ld x1 r0_14) (View.ld x3 r0_15) (View.ld x2 r0_14) (View.ld x4 r0_15)) := rfl
  rw [e, part2_apply]
  unfold headOut blkAt
  pointwise []

theorem piece_7_0 (r : Fin 128) (d : Fin 64) :
    (k0_pay37 (k0_pay36 (k0_pay99 x0 x1 x2 x3 x4) (k0_pay100 x0 x1 x2 x3 x4) (k0_pay103 x0 x1 x2 x3 x4) (k0_pay104 x0 x1 x2 x3 x4) (View.ld x2 r0_14) (View.ld x4 r0_15)) : FVec Ideal S1x128x64 .bf16) (ix3 0 r d)
      = blkAt x0 x1 x2 x3 x4 ⟨r.val, by omega⟩ 7 d := by
  have e : (k0_pay37 (k0_pay36 (k0_pay99 x0 x1 x2 x3 x4) (k0_pay100 x0 x1 x2 x3 x4) (k0_pay103 x0 x1 x2 x3 x4) (k0_pay104 x0 x1 x2 x3 x4) (View.ld x2 r0_14) (View.ld x4 r0_15)) : FVec Ideal S1x128x64 .bf16)
      = part3 (unitO (View.ld x0 r0_10) (View.ld x0 r0_11) (View.ld x0 r0_12) (View.ld x0 r0_13) (View.ld x1 r0_14) (View.ld x3 r0_15) (View.ld x2 r0_14) (View.ld x4 r0_15)) := rfl
  rw [e, part3_apply]
  unfold headOut blkAt
  pointwise []

theorem piece_4_1 (r : Fin 128) (d : Fin 64) :
    (k0_pay47 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16) (ix3 0 r d)
      = blkAt x0 x1 x2 x3 x4 ⟨128 + r.val, by omega⟩ 4 d := by
  have e : (k0_pay47 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16)
      = part0 (unitO (View.ld x0 r0_16) (View.ld x0 r0_17) (View.ld x0 r0_18) (View.ld x0 r0_19) (View.ld x1 r0_14) (View.ld x3 r0_15) (View.ld x2 r0_14) (View.ld x4 r0_15)) := rfl
  rw [e, part0_apply]
  unfold headOut blkAt
  pointwise []

theorem piece_5_1 (r : Fin 128) (d : Fin 64) :
    (k0_pay48 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16) (ix3 0 r d)
      = blkAt x0 x1 x2 x3 x4 ⟨128 + r.val, by omega⟩ 5 d := by
  have e : (k0_pay48 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16)
      = part1 (unitO (View.ld x0 r0_16) (View.ld x0 r0_17) (View.ld x0 r0_18) (View.ld x0 r0_19) (View.ld x1 r0_14) (View.ld x3 r0_15) (View.ld x2 r0_14) (View.ld x4 r0_15)) := rfl
  rw [e, part1_apply]
  unfold headOut blkAt
  pointwise []

theorem piece_6_1 (r : Fin 128) (d : Fin 64) :
    (k0_pay49 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16) (ix3 0 r d)
      = blkAt x0 x1 x2 x3 x4 ⟨128 + r.val, by omega⟩ 6 d := by
  have e : (k0_pay49 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16)
      = part2 (unitO (View.ld x0 r0_16) (View.ld x0 r0_17) (View.ld x0 r0_18) (View.ld x0 r0_19) (View.ld x1 r0_14) (View.ld x3 r0_15) (View.ld x2 r0_14) (View.ld x4 r0_15)) := rfl
  rw [e, part2_apply]
  unfold headOut blkAt
  pointwise []

theorem piece_7_1 (r : Fin 128) (d : Fin 64) :
    (k0_pay50 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16) (ix3 0 r d)
      = blkAt x0 x1 x2 x3 x4 ⟨128 + r.val, by omega⟩ 7 d := by
  have e : (k0_pay50 (k0_pay107 x0 x1 x2 x3 x4) (k0_pay108 x0 x1 x2 x3 x4) (k0_pay109 x0 x1 x2 x3 x4) (k0_pay110 x0 x1 x2 x3 x4) (View.ld x2 r0_14) (View.ld x4 r0_15) : FVec Ideal S1x128x64 .bf16)
      = part3 (unitO (View.ld x0 r0_16) (View.ld x0 r0_17) (View.ld x0 r0_18) (View.ld x0 r0_19) (View.ld x1 r0_14) (View.ld x3 r0_15) (View.ld x2 r0_14) (View.ld x4 r0_15)) := rfl
  rw [e, part3_apply]
  unfold headOut blkAt
  pointwise []

theorem piece_8_0 (r : Fin 128) (d : Fin 64) :
    (k0_pay60 (k0_pay113 x0 x1 x2 x3 x4) (k0_pay114 x0 x1 x2 x3 x4) (k0_pay115 x0 x1 x2 x3 x4) (View.ld x4 r0_25) : FVec Ideal S1x128x64 .bf16) (ix3 0 r d)
      = blkAt x0 x1 x2 x3 x4 ⟨r.val, by omega⟩ 8 d := by
  have e : (k0_pay60 (k0_pay113 x0 x1 x2 x3 x4) (k0_pay114 x0 x1 x2 x3 x4) (k0_pay115 x0 x1 x2 x3 x4) (View.ld x4 r0_25) : FVec Ideal S1x128x64 .bf16)
      = part0 (unitO (View.ld x0 r0_20) (View.ld x0 r0_21) (View.ld x0 r0_22) (View.ld x0 r0_23) (View.ld x1 r0_24) (View.ld x3 r0_25) (View.ld x2 r0_24) (View.ld x4 r0_25)) := rfl
  rw [e, part0_apply]
  unfold headOut blkAt
  pointwise []

theorem piece_9_0 (r : Fin 128) (d : Fin 64) :
    (k0_pay61 (k0_pay113 x0 x1 x2 x3 x4) (k0_pay114 x0 x1 x2 x3 x4) (k0_pay115 x0 x1 x2 x3 x4) (View.ld x4 r0_25) : FVec Ideal S1x128x64 .bf16) (ix3 0 r d)
      = blkAt x0 x1 x2 x3 x4 ⟨r.val, by omega⟩ 9 d := by
  have e : (k0_pay61 (k0_pay113 x0 x1 x2 x3 x4) (k0_pay114 x0 x1 x2 x3 x4) (k0_pay115 x0 x1 x2 x3 x4) (View.ld x4 r0_25) : FVec Ideal S1x128x64 .bf16)
      = part1 (unitO (View.ld x0 r0_20) (View.ld x0 r0_21) (View.ld x0 r0_22) (View.ld x0 r0_23) (View.ld x1 r0_24) (View.ld x3 r0_25) (View.ld x2 r0_24) (View.ld x4 r0_25)) := rfl
  rw [e, part1_apply]
  unfold headOut blkAt
  pointwise []

theorem piece_10_0 (r : Fin 128) (d : Fin 64) :
    (k0_pay62 (k0_pay113 x0 x1 x2 x3 x4) (k0_pay114 x0 x1 x2 x3 x4) (k0_pay115 x0 x1 x2 x3 x4) (View.ld x4 r0_25) : FVec Ideal S1x128x64 .bf16) (ix3 0 r d)
      = blkAt x0 x1 x2 x3 x4 ⟨r.val, by omega⟩ 10 d := by
  have e : (k0_pay62 (k0_pay113 x0 x1 x2 x3 x4) (k0_pay114 x0 x1 x2 x3 x4) (k0_pay115 x0 x1 x2 x3 x4) (View.ld x4 r0_25) : FVec Ideal S1x128x64 .bf16)
      = part2 (unitO (View.ld x0 r0_20) (View.ld x0 r0_21) (View.ld x0 r0_22) (View.ld x0 r0_23) (View.ld x1 r0_24) (View.ld x3 r0_25) (View.ld x2 r0_24) (View.ld x4 r0_25)) := rfl
  rw [e, part2_apply]
  unfold headOut blkAt
  pointwise []

theorem piece_11_0 (r : Fin 128) (d : Fin 64) :
    (k0_pay63 (k0_pay113 x0 x1 x2 x3 x4) (k0_pay114 x0 x1 x2 x3 x4) (k0_pay115 x0 x1 x2 x3 x4) (View.ld x4 r0_25) : FVec Ideal S1x128x64 .bf16) (ix3 0 r d)
      = blkAt x0 x1 x2 x3 x4 ⟨r.val, by omega⟩ 11 d := by
  have e : (k0_pay63 (k0_pay113 x0 x1 x2 x3 x4) (k0_pay114 x0 x1 x2 x3 x4) (k0_pay115 x0 x1 x2 x3 x4) (View.ld x4 r0_25) : FVec Ideal S1x128x64 .bf16)
      = part3 (unitO (View.ld x0 r0_20) (View.ld x0 r0_21) (View.ld x0 r0_22) (View.ld x0 r0_23) (View.ld x1 r0_24) (View.ld x3 r0_25) (View.ld x2 r0_24) (View.ld x4 r0_25)) := rfl
  rw [e, part3_apply]
  unfold headOut blkAt
  pointwise []

theorem piece_8_1 (r : Fin 128) (d : Fin 64) :
    (k0_pay75 (k0_pay120 x0 x1 x2 x3 x4) (k0_pay121 x0 x1 x2 x3 x4) : FVec Ideal S1x128x64 .bf16) (ix3 0 r d)
      = blkAt x0 x1 x2 x3 x4 ⟨128 + r.val, by omega⟩ 8 d := by
  have e : (k0_pay75 (k0_pay120 x0 x1 x2 x3 x4) (k0_pay121 x0 x1 x2 x3 x4) : FVec Ideal S1x128x64 .bf16)
      = part0 (unitO (View.ld x0 r0_26) (View.ld x0 r0_27) (View.ld x0 r0_28) (View.ld x0 r0_29) (View.ld x1 r0_24) (View.ld x3 r0_25) (View.ld x2 r0_24) (View.ld x4 r0_25)) := rfl
  rw [e, part0_apply]
  unfold headOut blkAt
  pointwise []

theorem piece_9_1 (r : Fin 128) (d : Fin 64) :
    (k0_pay76 (k0_pay120 x0 x1 x2 x3 x4) (k0_pay121 x0 x1 x2 x3 x4) : FVec Ideal S1x128x64 .bf16) (ix3 0 r d)
      = blkAt x0 x1 x2 x3 x4 ⟨128 + r.val, by omega⟩ 9 d := by
  have e : (k0_pay76 (k0_pay120 x0 x1 x2 x3 x4) (k0_pay121 x0 x1 x2 x3 x4) : FVec Ideal S1x128x64 .bf16)
      = part1 (unitO (View.ld x0 r0_26) (View.ld x0 r0_27) (View.ld x0 r0_28) (View.ld x0 r0_29) (View.ld x1 r0_24) (View.ld x3 r0_25) (View.ld x2 r0_24) (View.ld x4 r0_25)) := rfl
  rw [e, part1_apply]
  unfold headOut blkAt
  pointwise []

theorem piece_10_1 (r : Fin 128) (d : Fin 64) :
    (k0_pay77 (k0_pay120 x0 x1 x2 x3 x4) (k0_pay121 x0 x1 x2 x3 x4) : FVec Ideal S1x128x64 .bf16) (ix3 0 r d)
      = blkAt x0 x1 x2 x3 x4 ⟨128 + r.val, by omega⟩ 10 d := by
  have e : (k0_pay77 (k0_pay120 x0 x1 x2 x3 x4) (k0_pay121 x0 x1 x2 x3 x4) : FVec Ideal S1x128x64 .bf16)
      = part2 (unitO (View.ld x0 r0_26) (View.ld x0 r0_27) (View.ld x0 r0_28) (View.ld x0 r0_29) (View.ld x1 r0_24) (View.ld x3 r0_25) (View.ld x2 r0_24) (View.ld x4 r0_25)) := rfl
  rw [e, part2_apply]
  unfold headOut blkAt
  pointwise []

theorem piece_11_1 (r : Fin 128) (d : Fin 64) :
    (k0_pay78 (k0_pay120 x0 x1 x2 x3 x4) (k0_pay121 x0 x1 x2 x3 x4) : FVec Ideal S1x128x64 .bf16) (ix3 0 r d)
      = blkAt x0 x1 x2 x3 x4 ⟨128 + r.val, by omega⟩ 11 d := by
  have e : (k0_pay78 (k0_pay120 x0 x1 x2 x3 x4) (k0_pay121 x0 x1 x2 x3 x4) : FVec Ideal S1x128x64 .bf16)
      = part3 (unitO (View.ld x0 r0_26) (View.ld x0 r0_27) (View.ld x0 r0_28) (View.ld x0 r0_29) (View.ld x1 r0_24) (View.ld x3 r0_25) (View.ld x2 r0_24) (View.ld x4 r0_25)) := rfl
  rw [e, part3_apply]
  unfold headOut blkAt
  pointwise []

theorem piece_12_0 (r : Fin 128) (d : Fin 64) :
    (k0_pay83 (k0_pay118 x0 x1 x2 x3 x4) (k0_pay119 x0 x1 x2 x3 x4) (View.ld x2 r0_34) (View.ld x4 r0_35) : FVec Ideal S1x128x64 .bf16) (ix3 0 r d)
      = blkAt x0 x1 x2 x3 x4 ⟨r.val, by omega⟩ 12 d := by
  have e : (k0_pay83 (k0_pay118 x0 x1 x2 x3 x4) (k0_pay119 x0 x1 x2 x3 x4) (View.ld x2 r0_34) (View.ld x4 r0_35) : FVec Ideal S1x128x64 .bf16)
      = part0 (unitO (View.ld x0 r0_30) (View.ld x0 r0_31) (View.ld x0 r0_32) (View.ld x0 r0_33) (View.ld x1 r0_34) (View.ld x3 r0_35) (View.ld x2 r0_34) (View.ld x4 r0_35)) := rfl
  rw [e, part0_apply]
  unfold headOut blkAt
  pointwise []

theorem piece_13_0 (r : Fin 128) (d : Fin 64) :
    (k0_pay84 (k0_pay125 x0 x1 x2 x3 x4) : FVec Ideal S1x128x64 .bf16) (ix3 0 r d)
      = blkAt x0 x1 x2 x3 x4 ⟨r.val, by omega⟩ 13 d := by
  have e : (k0_pay84 (k0_pay125 x0 x1 x2 x3 x4) : FVec Ideal S1x128x64 .bf16)
      = part1 (unitO (View.ld x0 r0_30) (View.ld x0 r0_31) (View.ld x0 r0_32) (View.ld x0 r0_33) (View.ld x1 r0_34) (View.ld x3 r0_35) (View.ld x2 r0_34) (View.ld x4 r0_35)) := rfl
  rw [e, part1_apply]
  unfold headOut blkAt
  pointwise []

theorem piece_14_0 (r : Fin 128) (d : Fin 64) :
    (k0_pay85 (k0_pay125 x0 x1 x2 x3 x4) : FVec Ideal S1x128x64 .bf16) (ix3 0 r d)
      = blkAt x0 x1 x2 x3 x4 ⟨r.val, by omega⟩ 14 d := by
  have e : (k0_pay85 (k0_pay125 x0 x1 x2 x3 x4) : FVec Ideal S1x128x64 .bf16)
      = part2 (unitO (View.ld x0 r0_30) (View.ld x0 r0_31) (View.ld x0 r0_32) (View.ld x0 r0_33) (View.ld x1 r0_34) (View.ld x3 r0_35) (View.ld x2 r0_34) (View.ld x4 r0_35)) := rfl
  rw [e, part2_apply]
  unfold headOut blkAt
  pointwise []

theorem piece_15_0 (r : Fin 128) (d : Fin 64) :
    (k0_pay86 (k0_pay125 x0 x1 x2 x3 x4) : FVec Ideal S1x128x64 .bf16) (ix3 0 r d)
      = blkAt x0 x1 x2 x3 x4 ⟨r.val, by omega⟩ 15 d := by
  have e : (k0_pay86 (k0_pay125 x0 x1 x2 x3 x4) : FVec Ideal S1x128x64 .bf16)
      = part3 (unitO (View.ld x0 r0_30) (View.ld x0 r0_31) (View.ld x0 r0_32) (View.ld x0 r0_33) (View.ld x1 r0_34) (View.ld x3 r0_35) (View.ld x2 r0_34) (View.ld x4 r0_35)) := rfl
  rw [e, part3_apply]
  unfold headOut blkAt
  pointwise []

theorem piece_12_1 (r : Fin 128) (d : Fin 64) :
    (k0_pay2 (k0_pay126 x0 x1 x2 x3 x4) (k0_pay127 x0 x1 x2 x3 x4) (k0_pay128 x0 x1 x2 x3 x4) (View.ld x4 r0_35) : FVec Ideal S1x128x64 .bf16) (ix3 0 r d)
      = blkAt x0 x1 x2 x3 x4 ⟨128 + r.val, by omega⟩ 12 d := by
  have e : (k0_pay2 (k0_pay126 x0 x1 x2 x3 x4) (k0_pay127 x0 x1 x2 x3 x4) (k0_pay128 x0 x1 x2 x3 x4) (View.ld x4 r0_35) : FVec Ideal S1x128x64 .bf16)
      = part0 (unitO (View.ld x0 r0_36) (View.ld x0 r0_37) (View.ld x0 r0_38) (View.ld x0 r0_39) (View.ld x1 r0_34) (View.ld x3 r0_35) (View.ld x2 r0_34) (View.ld x4 r0_35)) := rfl
  rw [e, part0_apply]
  unfold headOut blkAt
  pointwise []

theorem piece_13_1 (r : Fin 128) (d : Fin 64) :
    (k0_pay3 (k0_pay126 x0 x1 x2 x3 x4) (k0_pay127 x0 x1 x2 x3 x4) (k0_pay128 x0 x1 x2 x3 x4) (View.ld x4 r0_35) : FVec Ideal S1x128x64 .bf16) (ix3 0 r d)
      = blkAt x0 x1 x2 x3 x4 ⟨128 + r.val, by omega⟩ 13 d := by
  have e : (k0_pay3 (k0_pay126 x0 x1 x2 x3 x4) (k0_pay127 x0 x1 x2 x3 x4) (k0_pay128 x0 x1 x2 x3 x4) (View.ld x4 r0_35) : FVec Ideal S1x128x64 .bf16)
      = part1 (unitO (View.ld x0 r0_36) (View.ld x0 r0_37) (View.ld x0 r0_38) (View.ld x0 r0_39) (View.ld x1 r0_34) (View.ld x3 r0_35) (View.ld x2 r0_34) (View.ld x4 r0_35)) := rfl
  rw [e, part1_apply]
  unfold headOut blkAt
  pointwise []

theorem piece_14_1 (r : Fin 128) (d : Fin 64) :
    (k0_pay4 (k0_pay126 x0 x1 x2 x3 x4) (k0_pay127 x0 x1 x2 x3 x4) (k0_pay128 x0 x1 x2 x3 x4) (View.ld x4 r0_35) : FVec Ideal S1x128x64 .bf16) (ix3 0 r d)
      = blkAt x0 x1 x2 x3 x4 ⟨128 + r.val, by omega⟩ 14 d := by
  have e : (k0_pay4 (k0_pay126 x0 x1 x2 x3 x4) (k0_pay127 x0 x1 x2 x3 x4) (k0_pay128 x0 x1 x2 x3 x4) (View.ld x4 r0_35) : FVec Ideal S1x128x64 .bf16)
      = part2 (unitO (View.ld x0 r0_36) (View.ld x0 r0_37) (View.ld x0 r0_38) (View.ld x0 r0_39) (View.ld x1 r0_34) (View.ld x3 r0_35) (View.ld x2 r0_34) (View.ld x4 r0_35)) := rfl
  rw [e, part2_apply]
  unfold headOut blkAt
  pointwise []

theorem piece_15_1 (r : Fin 128) (d : Fin 64) :
    (k0_pay5 (k0_pay126 x0 x1 x2 x3 x4) (k0_pay127 x0 x1 x2 x3 x4) (k0_pay128 x0 x1 x2 x3 x4) (View.ld x4 r0_35) : FVec Ideal S1x128x64 .bf16) (ix3 0 r d)
      = blkAt x0 x1 x2 x3 x4 ⟨128 + r.val, by omega⟩ 15 d := by
  have e : (k0_pay5 (k0_pay126 x0 x1 x2 x3 x4) (k0_pay127 x0 x1 x2 x3 x4) (k0_pay128 x0 x1 x2 x3 x4) (View.ld x4 r0_35) : FVec Ideal S1x128x64 .bf16)
      = part3 (unitO (View.ld x0 r0_36) (View.ld x0 r0_37) (View.ld x0 r0_38) (View.ld x0 r0_39) (View.ld x1 r0_34) (View.ld x3 r0_35) (View.ld x2 r0_34) (View.ld x4 r0_35)) := rfl
  rw [e, part3_apply]
  unfold headOut blkAt
  pointwise []

/-- The output block as one function of the staged blocks. -/
def blk (y : S1x256x1024.Idx) : EReal :=
  blkAt x0 x1 x2 x3 x4 (y 1) ⟨(y 2).val / 64, by have h := (y 2).isLt; change (y 2).val < 1024 at h; omega⟩ ⟨(y 2).val % 64, by omega⟩

theorem blk_of (y : S1x256x1024.Idx) (row : Fin 256) (h : Fin 16) (d : Fin 64) (h1 : (y 1).val = row.val)
    (h2 : (y 2).val = h.val * 64 + d.val) : blkAt x0 x1 x2 x3 x4 row h d = blk x0 x1 x2 x3 x4 y := by
  have e1 : row = y 1 := Fin.ext h1.symm
  have e2 : h = ⟨(y 2).val / 64, by have h := (y 2).isLt; change (y 2).val < 1024 at h; omega⟩ := Fin.ext (by show h.val = (y 2).val / 64; omega)
  have e3 : d = ⟨(y 2).val % 64, by omega⟩ := Fin.ext (by show d.val = (y 2).val % 64; omega)
  unfold blk
  rw [← e2, ← e3, ← e1]

/-- The body's output block is that function: its 32 stores are restrictions of it, and they cover the block. -/
theorem out_eq : out0_5 (F := Ideal) x0 x1 x2 x3 x4 = blk x0 x1 x2 x3 x4 := by
  funext y
  unfold out0_5
  refine View.canon_apply_of_pieces (Val := Elt Ideal) (blk x0 x1 x2 x3 x4) _ ?_ y (cover0_5 _ _ _ _ _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
  · intro w; idx_vars w
    obtain rfl : w0 = 0 := Subsingleton.elim _ _
    exact (piece_15_1 x0 x1 x2 x3 x4 w1 w2).trans (blk_of x0 x1 x2 x3 x4 _ _ 15 w2 (by show 128 + 1 * w1.val = 128 + w1.val; omega) (by show 960 + 1 * w2.val = 15 * 64 + w2.val; omega))
  · intro w; idx_vars w
    obtain rfl : w0 = 0 := Subsingleton.elim _ _
    exact (piece_14_1 x0 x1 x2 x3 x4 w1 w2).trans (blk_of x0 x1 x2 x3 x4 _ _ 14 w2 (by show 128 + 1 * w1.val = 128 + w1.val; omega) (by show 896 + 1 * w2.val = 14 * 64 + w2.val; omega))
  · intro w; idx_vars w
    obtain rfl : w0 = 0 := Subsingleton.elim _ _
    exact (piece_13_1 x0 x1 x2 x3 x4 w1 w2).trans (blk_of x0 x1 x2 x3 x4 _ _ 13 w2 (by show 128 + 1 * w1.val = 128 + w1.val; omega) (by show 832 + 1 * w2.val = 13 * 64 + w2.val; omega))
  · intro w; idx_vars w
    obtain rfl : w0 = 0 := Subsingleton.elim _ _
    exact (piece_12_1 x0 x1 x2 x3 x4 w1 w2).trans (blk_of x0 x1 x2 x3 x4 _ _ 12 w2 (by show 128 + 1 * w1.val = 128 + w1.val; omega) (by show 768 + 1 * w2.val = 12 * 64 + w2.val; omega))
  · intro w; idx_vars w
    obtain rfl : w0 = 0 := Subsingleton.elim _ _
    exact (piece_15_0 x0 x1 x2 x3 x4 w1 w2).trans (blk_of x0 x1 x2 x3 x4 _ _ 15 w2 (by show 0 + 1 * w1.val = w1.val; omega) (by show 960 + 1 * w2.val = 15 * 64 + w2.val; omega))
  · intro w; idx_vars w
    obtain rfl : w0 = 0 := Subsingleton.elim _ _
    exact (piece_14_0 x0 x1 x2 x3 x4 w1 w2).trans (blk_of x0 x1 x2 x3 x4 _ _ 14 w2 (by show 0 + 1 * w1.val = w1.val; omega) (by show 896 + 1 * w2.val = 14 * 64 + w2.val; omega))
  · intro w; idx_vars w
    obtain rfl : w0 = 0 := Subsingleton.elim _ _
    exact (piece_13_0 x0 x1 x2 x3 x4 w1 w2).trans (blk_of x0 x1 x2 x3 x4 _ _ 13 w2 (by show 0 + 1 * w1.val = w1.val; omega) (by show 832 + 1 * w2.val = 13 * 64 + w2.val; omega))
  · intro w; idx_vars w
    obtain rfl : w0 = 0 := Subsingleton.elim _ _
    exact (piece_12_0 x0 x1 x2 x3 x4 w1 w2).trans (blk_of x0 x1 x2 x3 x4 _ _ 12 w2 (by show 0 + 1 * w1.val = w1.val; omega) (by show 768 + 1 * w2.val = 12 * 64 + w2.val; omega))
  · intro w; idx_vars w
    obtain rfl : w0 = 0 := Subsingleton.elim _ _
    exact (piece_11_1 x0 x1 x2 x3 x4 w1 w2).trans (blk_of x0 x1 x2 x3 x4 _ _ 11 w2 (by show 128 + 1 * w1.val = 128 + w1.val; omega) (by show 704 + 1 * w2.val = 11 * 64 + w2.val; omega))
  · intro w; idx_vars w
    obtain rfl : w0 = 0 := Subsingleton.elim _ _
    exact (piece_10_1 x0 x1 x2 x3 x4 w1 w2).trans (blk_of x0 x1 x2 x3 x4 _ _ 10 w2 (by show 128 + 1 * w1.val = 128 + w1.val; omega) (by show 640 + 1 * w2.val = 10 * 64 + w2.val; omega))
  · intro w; idx_vars w
    obtain rfl : w0 = 0 := Subsingleton.elim _ _
    exact (piece_9_1 x0 x1 x2 x3 x4 w1 w2).trans (blk_of x0 x1 x2 x3 x4 _ _ 9 w2 (by show 128 + 1 * w1.val = 128 + w1.val; omega) (by show 576 + 1 * w2.val = 9 * 64 + w2.val; omega))
  · intro w; idx_vars w
    obtain rfl : w0 = 0 := Subsingleton.elim _ _
    exact (piece_8_1 x0 x1 x2 x3 x4 w1 w2).trans (blk_of x0 x1 x2 x3 x4 _ _ 8 w2 (by show 128 + 1 * w1.val = 128 + w1.val; omega) (by show 512 + 1 * w2.val = 8 * 64 + w2.val; omega))
  · intro w; idx_vars w
    obtain rfl : w0 = 0 := Subsingleton.elim _ _
    exact (piece_11_0 x0 x1 x2 x3 x4 w1 w2).trans (blk_of x0 x1 x2 x3 x4 _ _ 11 w2 (by show 0 + 1 * w1.val = w1.val; omega) (by show 704 + 1 * w2.val = 11 * 64 + w2.val; omega))
  · intro w; idx_vars w
    obtain rfl : w0 = 0 := Subsingleton.elim _ _
    exact (piece_10_0 x0 x1 x2 x3 x4 w1 w2).trans (blk_of x0 x1 x2 x3 x4 _ _ 10 w2 (by show 0 + 1 * w1.val = w1.val; omega) (by show 640 + 1 * w2.val = 10 * 64 + w2.val; omega))
  · intro w; idx_vars w
    obtain rfl : w0 = 0 := Subsingleton.elim _ _
    exact (piece_9_0 x0 x1 x2 x3 x4 w1 w2).trans (blk_of x0 x1 x2 x3 x4 _ _ 9 w2 (by show 0 + 1 * w1.val = w1.val; omega) (by show 576 + 1 * w2.val = 9 * 64 + w2.val; omega))
  · intro w; idx_vars w
    obtain rfl : w0 = 0 := Subsingleton.elim _ _
    exact (piece_8_0 x0 x1 x2 x3 x4 w1 w2).trans (blk_of x0 x1 x2 x3 x4 _ _ 8 w2 (by show 0 + 1 * w1.val = w1.val; omega) (by show 512 + 1 * w2.val = 8 * 64 + w2.val; omega))
  · intro w; idx_vars w
    obtain rfl : w0 = 0 := Subsingleton.elim _ _
    exact (piece_7_1 x0 x1 x2 x3 x4 w1 w2).trans (blk_of x0 x1 x2 x3 x4 _ _ 7 w2 (by show 128 + 1 * w1.val = 128 + w1.val; omega) (by show 448 + 1 * w2.val = 7 * 64 + w2.val; omega))
  · intro w; idx_vars w
    obtain rfl : w0 = 0 := Subsingleton.elim _ _
    exact (piece_6_1 x0 x1 x2 x3 x4 w1 w2).trans (blk_of x0 x1 x2 x3 x4 _ _ 6 w2 (by show 128 + 1 * w1.val = 128 + w1.val; omega) (by show 384 + 1 * w2.val = 6 * 64 + w2.val; omega))
  · intro w; idx_vars w
    obtain rfl : w0 = 0 := Subsingleton.elim _ _
    exact (piece_5_1 x0 x1 x2 x3 x4 w1 w2).trans (blk_of x0 x1 x2 x3 x4 _ _ 5 w2 (by show 128 + 1 * w1.val = 128 + w1.val; omega) (by show 320 + 1 * w2.val = 5 * 64 + w2.val; omega))
  · intro w; idx_vars w
    obtain rfl : w0 = 0 := Subsingleton.elim _ _
    exact (piece_4_1 x0 x1 x2 x3 x4 w1 w2).trans (blk_of x0 x1 x2 x3 x4 _ _ 4 w2 (by show 128 + 1 * w1.val = 128 + w1.val; omega) (by show 256 + 1 * w2.val = 4 * 64 + w2.val; omega))
  · intro w; idx_vars w
    obtain rfl : w0 = 0 := Subsingleton.elim _ _
    exact (piece_7_0 x0 x1 x2 x3 x4 w1 w2).trans (blk_of x0 x1 x2 x3 x4 _ _ 7 w2 (by show 0 + 1 * w1.val = w1.val; omega) (by show 448 + 1 * w2.val = 7 * 64 + w2.val; omega))
  · intro w; idx_vars w
    obtain rfl : w0 = 0 := Subsingleton.elim _ _
    exact (piece_6_0 x0 x1 x2 x3 x4 w1 w2).trans (blk_of x0 x1 x2 x3 x4 _ _ 6 w2 (by show 0 + 1 * w1.val = w1.val; omega) (by show 384 + 1 * w2.val = 6 * 64 + w2.val; omega))
  · intro w; idx_vars w
    obtain rfl : w0 = 0 := Subsingleton.elim _ _
    exact (piece_5_0 x0 x1 x2 x3 x4 w1 w2).trans (blk_of x0 x1 x2 x3 x4 _ _ 5 w2 (by show 0 + 1 * w1.val = w1.val; omega) (by show 320 + 1 * w2.val = 5 * 64 + w2.val; omega))
  · intro w; idx_vars w
    obtain rfl : w0 = 0 := Subsingleton.elim _ _
    exact (piece_4_0 x0 x1 x2 x3 x4 w1 w2).trans (blk_of x0 x1 x2 x3 x4 _ _ 4 w2 (by show 0 + 1 * w1.val = w1.val; omega) (by show 256 + 1 * w2.val = 4 * 64 + w2.val; omega))
  · intro w; idx_vars w
    obtain rfl : w0 = 0 := Subsingleton.elim _ _
    exact (piece_3_1 x0 x1 x2 x3 x4 w1 w2).trans (blk_of x0 x1 x2 x3 x4 _ _ 3 w2 (by show 128 + 1 * w1.val = 128 + w1.val; omega) (by show 192 + 1 * w2.val = 3 * 64 + w2.val; omega))
  · intro w; idx_vars w
    obtain rfl : w0 = 0 := Subsingleton.elim _ _
    exact (piece_2_1 x0 x1 x2 x3 x4 w1 w2).trans (blk_of x0 x1 x2 x3 x4 _ _ 2 w2 (by show 128 + 1 * w1.val = 128 + w1.val; omega) (by show 128 + 1 * w2.val = 2 * 64 + w2.val; omega))
  · intro w; idx_vars w
    obtain rfl : w0 = 0 := Subsingleton.elim _ _
    exact (piece_1_1 x0 x1 x2 x3 x4 w1 w2).trans (blk_of x0 x1 x2 x3 x4 _ _ 1 w2 (by show 128 + 1 * w1.val = 128 + w1.val; omega) (by show 64 + 1 * w2.val = 1 * 64 + w2.val; omega))
  · intro w; idx_vars w
    obtain rfl : w0 = 0 := Subsingleton.elim _ _
    exact (piece_0_1 x0 x1 x2 x3 x4 w1 w2).trans (blk_of x0 x1 x2 x3 x4 _ _ 0 w2 (by show 128 + 1 * w1.val = 128 + w1.val; omega) (by show 0 + 1 * w2.val = 0 * 64 + w2.val; omega))
  · intro w; idx_vars w
    obtain rfl : w0 = 0 := Subsingleton.elim _ _
    exact (piece_3_0 x0 x1 x2 x3 x4 w1 w2).trans (blk_of x0 x1 x2 x3 x4 _ _ 3 w2 (by show 0 + 1 * w1.val = w1.val; omega) (by show 192 + 1 * w2.val = 3 * 64 + w2.val; omega))
  · intro w; idx_vars w
    obtain rfl : w0 = 0 := Subsingleton.elim _ _
    exact (piece_2_0 x0 x1 x2 x3 x4 w1 w2).trans (blk_of x0 x1 x2 x3 x4 _ _ 2 w2 (by show 0 + 1 * w1.val = w1.val; omega) (by show 128 + 1 * w2.val = 2 * 64 + w2.val; omega))
  · intro w; idx_vars w
    obtain rfl : w0 = 0 := Subsingleton.elim _ _
    exact (piece_1_0 x0 x1 x2 x3 x4 w1 w2).trans (blk_of x0 x1 x2 x3 x4 _ _ 1 w2 (by show 0 + 1 * w1.val = w1.val; omega) (by show 64 + 1 * w2.val = 1 * 64 + w2.val; omega))
  · intro w; idx_vars w
    obtain rfl : w0 = 0 := Subsingleton.elim _ _
    exact (piece_0_0 x0 x1 x2 x3 x4 w1 w2).trans (blk_of x0 x1 x2 x3 x4 _ _ 0 w2 (by show 0 + 1 * w1.val = w1.val; omega) (by show 0 + 1 * w2.val = 0 * 64 + w2.val; omega))

end Cert.KernelIdeal.Att

end
-- ==== Proof.Final.lean ====
/- The attention kernel's result array, as one function of the arguments. -/
module

public import proofs.«01_k».proof.Proof.Pieces
public import proofs.«01_k».proof.Proof.Gen.KernelIdeal.Value
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

/-- The result at batch `b`, position `t`, head `h` and lane `d`: queries scaled by one eighth, one softmax over the
    two key segments. -/
def attAt (q : FVec Ideal S16x2048x16x64 .f32) (k v : FVec Ideal S16x2048x4x64 .f32) (kc vc : FVec Ideal S16x256x4x64 .f32)
    (b : Fin 16) (t : Fin 2048) (h : Fin 16) (d : Fin 64) : EReal :=
  rowOut (fun i => ∑ e : Fin 64, (q (ix4 b t h e) * Ideal.ofBits .f32 0x3E000000#32) * k (ix4 b i ⟨h.val / 4, by omega⟩ e))
    (fun i => ∑ e : Fin 64, (q (ix4 b t h e) * Ideal.ofBits .f32 0x3E000000#32) * kc (ix4 b i ⟨h.val / 4, by omega⟩ e))
    (fun i => v (ix4 b i ⟨h.val / 4, by omega⟩ d)) (fun i => vc (ix4 b i ⟨h.val / 4, by omega⟩ d))

variable (m : (ℓ : Loc nD τ sig) → Buf (Elt Ideal) ℓ)

/-- The queries as launched. -/
abbrev Aq (c : Dev nD) : FVec Ideal S16x2048x16x64 .f32 := m ((c : Thread nD τ).loc main_arg0)
/-- The keys as launched. -/
abbrev Ak (c : Dev nD) : FVec Ideal S16x2048x4x64 .f32 := m ((c : Thread nD τ).loc main_arg1)
/-- The values as launched. -/
abbrev Av (c : Dev nD) : FVec Ideal S16x2048x4x64 .f32 := m ((c : Thread nD τ).loc main_arg2)
/-- The context's keys as launched. -/
abbrev Akc (c : Dev nD) : FVec Ideal S16x256x4x64 .f32 := m ((c : Thread nD τ).loc main_arg3)
/-- The context's values as launched. -/
abbrev Avc (c : Dev nD) : FVec Ideal S16x256x4x64 .f32 := m ((c : Thread nD τ).loc main_arg4)

theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![t.val / 8, t.val % 8, 0] :=
  (by decide +kernel : ∀ t : Fin grid0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![t.val / 8, t.val % 8, 0])

theorem V_q (c : Dev nD) (b : Fin 16) (i : Fin 2048) (g : Fin 16) (e : Fin 64) (k : Fin 1024) (hk : k.val = g.val * 64 + e.val) :
    (V m c main_v3 : FVec Ideal S16x2048x1024 .bf16) (ix3 b i k) = Aq m c (ix4 b i g e) * Ideal.ofBits .f32 0x3E000000#32 := by
  have h1 : (⟨k.val / 64, by omega⟩ : Fin 16) = g := Fin.ext (by show k.val / 64 = g.val; omega)
  have h2 : (⟨k.val % 64, by omega⟩ : Fin 64) = e := Fin.ext (by show k.val % 64 = e.val; omega)
  refine Eq.trans (b := Aq m c (ix4 b i ⟨k.val / 64, by omega⟩ ⟨k.val % 64, by omega⟩) * Ideal.ofBits .f32 0x3E000000#32) ?_ (by rw [h1, h2])
  entry_read
  pointwise []

theorem V_k (c : Dev nD) (b : Fin 16) (i : Fin 2048) (g : Fin 4) (e : Fin 64) (k : Fin 256) (hk : k.val = g.val * 64 + e.val) :
    (V m c main_v5 : FVec Ideal S16x2048x256 .bf16) (ix3 b i k) = Ak m c (ix4 b i g e) := by
  have h1 : (⟨k.val / 64, by omega⟩ : Fin 4) = g := Fin.ext (by show k.val / 64 = g.val; omega)
  have h2 : (⟨k.val % 64, by omega⟩ : Fin 64) = e := Fin.ext (by show k.val % 64 = e.val; omega)
  refine Eq.trans (b := Ak m c (ix4 b i ⟨k.val / 64, by omega⟩ ⟨k.val % 64, by omega⟩)) ?_ (by rw [h1, h2])
  entry_read
  pointwise []

theorem V_v (c : Dev nD) (b : Fin 16) (i : Fin 2048) (g : Fin 4) (e : Fin 64) (k : Fin 256) (hk : k.val = g.val * 64 + e.val) :
    (V m c main_v7 : FVec Ideal S16x2048x256 .bf16) (ix3 b i k) = Av m c (ix4 b i g e) := by
  have h1 : (⟨k.val / 64, by omega⟩ : Fin 4) = g := Fin.ext (by show k.val / 64 = g.val; omega)
  have h2 : (⟨k.val % 64, by omega⟩ : Fin 64) = e := Fin.ext (by show k.val % 64 = e.val; omega)
  refine Eq.trans (b := Av m c (ix4 b i ⟨k.val / 64, by omega⟩ ⟨k.val % 64, by omega⟩)) ?_ (by rw [h1, h2])
  entry_read
  pointwise []

theorem V_kc (c : Dev nD) (b : Fin 16) (i : Fin 256) (g : Fin 4) (e : Fin 64) (k : Fin 256) (hk : k.val = g.val * 64 + e.val) :
    (V m c main_v9 : FVec Ideal S16x256x256 .bf16) (ix3 b i k) = Akc m c (ix4 b i g e) := by
  have h1 : (⟨k.val / 64, by omega⟩ : Fin 4) = g := Fin.ext (by show k.val / 64 = g.val; omega)
  have h2 : (⟨k.val % 64, by omega⟩ : Fin 64) = e := Fin.ext (by show k.val % 64 = e.val; omega)
  refine Eq.trans (b := Akc m c (ix4 b i ⟨k.val / 64, by omega⟩ ⟨k.val % 64, by omega⟩)) ?_ (by rw [h1, h2])
  entry_read
  pointwise []

theorem V_vc (c : Dev nD) (b : Fin 16) (i : Fin 256) (g : Fin 4) (e : Fin 64) (k : Fin 256) (hk : k.val = g.val * 64 + e.val) :
    (V m c main_v11 : FVec Ideal S16x256x256 .bf16) (ix3 b i k) = Avc m c (ix4 b i g e) := by
  have h1 : (⟨k.val / 64, by omega⟩ : Fin 4) = g := Fin.ext (by show k.val / 64 = g.val; omega)
  have h2 : (⟨k.val % 64, by omega⟩ : Fin 64) = e := Fin.ext (by show k.val % 64 = e.val; omega)
  refine Eq.trans (b := Avc m c (ix4 b i ⟨k.val / 64, by omega⟩ ⟨k.val % 64, by omega⟩)) ?_ (by rw [h1, h2])
  entry_read
  pointwise []

theorem blk_q (c : Dev nD) (t : Fin cfg0.N) (i : Fin 256) (g : Fin 16) (e : Fin 64) (k : Fin 1024) (hk : k.val = g.val * 64 + e.val) :
    (iblk m c 0 t : FVec Ideal S1x256x1024 .bf16) (ix3 0 i k) = Aq m c (ix4 ⟨t.val / 8, by have h : t.val < 128 := t.isLt; omega⟩ ⟨t.val % 8 * 256 + i.val, by omega⟩ g e) * Ideal.ofBits .f32 0x3E000000#32 := by
  have ht : t.val < 128 := t.isLt
  refine Eq.trans ?_ (V_q m c ⟨t.val / 8, by omega⟩ ⟨t.val % 8 * 256 + i.val, by omega⟩ g e k hk)
  blk_ext [iblk, idx t]

theorem blk_k (c : Dev nD) (t : Fin cfg0.N) (i : Fin 2048) (g : Fin 4) (e : Fin 64) (k : Fin 256) (hk : k.val = g.val * 64 + e.val) :
    (iblk m c 1 t : FVec Ideal S1x2048x256 .bf16) (ix3 0 i k) = Ak m c (ix4 ⟨t.val / 8, by have h : t.val < 128 := t.isLt; omega⟩ i g e) := by
  have ht : t.val < 128 := t.isLt
  refine Eq.trans ?_ (V_k m c ⟨t.val / 8, by omega⟩ i g e k hk)
  blk_ext [iblk, idx t]

theorem blk_v (c : Dev nD) (t : Fin cfg0.N) (i : Fin 2048) (g : Fin 4) (e : Fin 64) (k : Fin 256) (hk : k.val = g.val * 64 + e.val) :
    (iblk m c 2 t : FVec Ideal S1x2048x256 .bf16) (ix3 0 i k) = Av m c (ix4 ⟨t.val / 8, by have h : t.val < 128 := t.isLt; omega⟩ i g e) := by
  have ht : t.val < 128 := t.isLt
  refine Eq.trans ?_ (V_v m c ⟨t.val / 8, by omega⟩ i g e k hk)
  blk_ext [iblk, idx t]

theorem blk_kc (c : Dev nD) (t : Fin cfg0.N) (i : Fin 256) (g : Fin 4) (e : Fin 64) (k : Fin 256) (hk : k.val = g.val * 64 + e.val) :
    (iblk m c 3 t : FVec Ideal S1x256x256 .bf16) (ix3 0 i k) = Akc m c (ix4 ⟨t.val / 8, by have h : t.val < 128 := t.isLt; omega⟩ i g e) := by
  have ht : t.val < 128 := t.isLt
  refine Eq.trans ?_ (V_kc m c ⟨t.val / 8, by omega⟩ i g e k hk)
  blk_ext [iblk, idx t]

theorem blk_vc (c : Dev nD) (t : Fin cfg0.N) (i : Fin 256) (g : Fin 4) (e : Fin 64) (k : Fin 256) (hk : k.val = g.val * 64 + e.val) :
    (iblk m c 4 t : FVec Ideal S1x256x256 .bf16) (ix3 0 i k) = Avc m c (ix4 ⟨t.val / 8, by have h : t.val < 128 := t.isLt; omega⟩ i g e) := by
  have ht : t.val < 128 := t.isLt
  refine Eq.trans ?_ (V_vc m c ⟨t.val / 8, by omega⟩ i g e k hk)
  blk_ext [iblk, idx t]

/-- The result array. -/
def G (c : Dev nD) : FVec Ideal S16x2048x1024 .bf16 := fun i =>
  attAt (Aq m c) (Ak m c) (Av m c) (Akc m c) (Avc m c) (i 0) (i 1)
    ⟨(i 2).val / 64, by have h := (i 2).isLt; change (i 2).val < 1024 at h; omega⟩ ⟨(i 2).val % 64, by omega⟩

/-- What a grid point writes at an element of its block is the result there. -/
theorem point (c : Dev nD) (t : Fin cfg0.N) (y : S1x256x1024.Idx) :
    blk (iblk m c 0 t) (iblk m c 1 t) (iblk m c 2 t) (iblk m c 3 t) (iblk m c 4 t) y = G m c ((win0_5.blk t).view.emb y) := by
  have ht : t.val < 128 := t.isLt
  idx_vars y
  obtain rfl : y0 = 0 := Subsingleton.elim _ _
  have e0 : ((win0_5.blk t).view.emb (ix3 0 y1 y2 : S1x256x1024.Idx) : S16x2048x1024.Idx)
      = ix3 ⟨t.val / 8, by omega⟩ ⟨t.val % 8 * 256 + y1.val, by omega⟩ y2 := by
    blk_ext [idx t]
  rw [e0]
  show blkAt _ _ _ _ _ y1 ⟨y2.val / 64, _⟩ ⟨y2.val % 64, _⟩
    = attAt _ _ _ _ _ ⟨t.val / 8, _⟩ ⟨t.val % 8 * 256 + y1.val, _⟩ ⟨y2.val / 64, _⟩ ⟨y2.val % 64, _⟩
  unfold blkAt attAt
  congr 1
  · funext i; refine Finset.sum_congr rfl fun e _ => ?_
    exact Ideal.mul_congr (blk_q m c t _ _ e _ rfl) (blk_k m c t _ _ e _ rfl)
  · funext i; refine Finset.sum_congr rfl fun e _ => ?_
    exact Ideal.mul_congr (blk_q m c t _ _ e _ rfl) (blk_kc m c t _ _ e _ rfl)
  · funext i; exact blk_v m c t _ _ _ _ rfl
  · funext i; exact blk_vc m c t _ _ _ _ rfl

/-- The result array after the run. -/
theorem final (c : Dev nD) : (dats m 0 c).arrAt 5 (cfgs 0).N = G m c := by
  refine (dats m 0 c).arrAt_eq_of_covers 5 _ (by decide +kernel) fun t _ y => ?_
  blk_simp
  rw [after0_5, out_eq]
  exact point m c t y

end Cert.KernelIdeal.Att

end
-- ==== Proof.Bridge.lean ====
/- The precondition read as real inputs, and the reference's result met with the kernel's. -/
module

public import proofs.«01_k».proof.Pre_scores_finite
public import proofs.«01_k».proof.Proof.Ref
public import proofs.«01_k».proof.Proof.Final
public import Idealize.ShloMosaic.Lib.ReduceAll
public import Idealize.ShloMosaic.Lib.Affine
public import Idealize.ShloMosaic.Lib.Decide

@[expose] public section

set_option maxRecDepth 16384

noncomputable section

namespace Cert.Bridge

open Idealize.ShloMosaic
open Cert.Pre_scores_finite (S16x2048x16x64 S16x2048x4x64 S16x256x4x64)
open Cert.KernelIdeal.Att (attAt rowOut)
open Cert.Softmax (inl inr)

/-- The precondition's shape facts. -/
instance preFacts : Cert.Pre_scores_finite.Facts where
  bcast_S_S16x2048x16x64 := by decide
  reducesTo_S16x2048x16x64_S_d0_1_2_3 := by decide
  h_S_ := by decide
  bcast_S_S16x2048x4x64 := by decide
  reducesTo_S16x2048x4x64_S_d0_1_2_3 := by decide
  bcast_S_S16x256x4x64 := by decide
  reducesTo_S16x256x4x64_S_d0_1_2_3 := by decide

/-- An extended real whose absolute value compares below infinity is a real. -/
theorem real_of_lt (x : Ideal .f32) (h : FloatOps.cmpf CmpFPredicate.olt (FloatOps.hostAbsf x) (FloatOps.ofBits .f32 0x7F800000#32) = 1#1) :
    ∃ r : ℝ, x = (r : EReal) := by
  have hinf : (FloatOps.ofBits .f32 0x7F800000#32 : Ideal .f32) = (⊤ : EReal) := by simp [Ideal.ofBits, Ideal.ieee]
  rw [hinf] at h
  change EReal at x
  induction x with
  | bot => simp [FloatOps.hostAbsf, FloatOps.cmpf, Ideal.cmp] at h
  | top => simp [FloatOps.hostAbsf, FloatOps.cmpf, Ideal.cmp] at h
  | coe r => exact ⟨r, rfl⟩

variable (q : FVec Ideal S16x2048x16x64 .f32) (k v : FVec Ideal S16x2048x4x64 .f32) (kc vc : FVec Ideal S16x256x4x64 .f32)

/-- What the precondition says of the arrays: queries and keys are reals. -/
theorem reals (h : Cert.Pre_scores_finite.fn (F := Ideal) q k v kc vc = fun _ => 1#1) :
    (∀ i, ∃ r : ℝ, q i = (r : EReal)) ∧ (∀ i, ∃ r : ℝ, k i = (r : EReal)) ∧ (∀ i, ∃ r : ℝ, kc i = (r : EReal)) := by
  have h0 := congrFun h ix0
  obtain ⟨h1, h3⟩ := IntOp.andi_eq_one.1 h0
  obtain ⟨h1, h2⟩ := IntOp.andi_eq_one.1 h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

/-- The scale's bits are one eighth. -/
theorem eighth : Ideal.ofBits .f32 0x3E000000#32 = ((1 / 8 : ℝ) : EReal) := by
  simp [Ideal.ofBits, Ideal.ieee]
  rw [← EReal.coe_mul]
  congr 1
  norm_num

/-- One score, from either side: the scale on the query or on the product. -/
theorem score_comm (x y : Fin 64 → ℝ) :
    (∑ e, ((x e : EReal) * Ideal.ofBits .f32 0x3E000000#32) * (y e : EReal)) = ((∑ e, x e * (1 / 8) * y e : ℝ) : EReal)
      ∧ (∑ e, (y e : EReal) * (x e : EReal)) * Ideal.ofBits .f32 0x3E000000#32 = ((∑ e, x e * (1 / 8) * y e : ℝ) : EReal) := by
  rw [eighth]
  constructor
  · rw [← Cert.Softmax.coe_sum]
    exact Finset.sum_congr rfl fun e _ => by rw [EReal.coe_mul, EReal.coe_mul]
  · have h : (∑ e, (y e : EReal) * (x e : EReal)) = ((∑ e, y e * x e : ℝ) : EReal) := by
      rw [← Cert.Softmax.coe_sum]
      exact Finset.sum_congr rfl fun e _ => by rw [EReal.coe_mul]
    rw [h, ← EReal.coe_mul, Finset.sum_mul]
    exact congrArg _ (Finset.sum_congr rfl fun e _ => by ring)

open Cert.ReferenceIdeal.Read Cert.ReferenceIdeal.Att in
/-- The reference's result is the attention's, wherever the queries and keys are reals. -/
theorem meets (h : Cert.Pre_scores_finite.fn (F := Ideal) q k v kc vc = fun _ => 1#1) (b : Fin 16) (t : Fin 2048) (c : Fin 1024) :
    val_main_v21 (F := Ideal) q k v kc vc (ix3 b t c)
      = attAt q k v kc vc b t ⟨c.val / 64, by omega⟩ ⟨c.val % 64, by omega⟩ := by
  obtain ⟨hq, hk, hkc⟩ := reals q k v kc vc h
  choose qr hqr using hq
  choose kr hkr using hk
  choose kcr hkcr using hkc
  have hh : (⟨c.val / 64 / 4 * 4 + c.val / 64 % 4, by omega⟩ : Fin 16) = ⟨c.val / 64, by omega⟩ := Fin.ext (by show c.val / 64 / 4 * 4 + c.val / 64 % 4 = c.val / 64; omega)
  have s1 : ∀ i : Fin 2048, val_main_v6 (F := Ideal) q k kc (ix5 b ⟨c.val / 64 / 4, by omega⟩ ⟨c.val / 64 % 4, by omega⟩ t (inl i))
      = ((∑ e : Fin 64, qr (ix4 b t ⟨c.val / 64, by omega⟩ e) * (1 / 8) * kr (ix4 b i ⟨c.val / 64 / 4, by omega⟩ e) : ℝ) : EReal) := by
    intro i
    rw [score_apply, ← (score_comm _ _).2]
    congr 1
    refine Finset.sum_congr rfl fun e _ => ?_
    rw [keys_inl, hkr, hh, hqr]
  have s2 : ∀ i : Fin 256, val_main_v6 (F := Ideal) q k kc (ix5 b ⟨c.val / 64 / 4, by omega⟩ ⟨c.val / 64 % 4, by omega⟩ t (inr i))
      = ((∑ e : Fin 64, qr (ix4 b t ⟨c.val / 64, by omega⟩ e) * (1 / 8) * kcr (ix4 b i ⟨c.val / 64 / 4, by omega⟩ e) : ℝ) : EReal) := by
    intro i
    rw [score_apply, ← (score_comm _ _).2]
    congr 1
    refine Finset.sum_congr rfl fun e _ => ?_
    rw [keys_inr, hkcr, hh, hqr]
  have hs : ∀ i : Fin 2304, ∃ r : ℝ, val_main_v6 (F := Ideal) q k kc (ix5 b ⟨c.val / 64 / 4, by omega⟩ ⟨c.val / 64 % 4, by omega⟩ t i) = (r : EReal) := by
    intro i
    by_cases hi : i.val < 2048
    · exact ⟨_, s1 ⟨i.val, hi⟩⟩
    · have e : i = inr ⟨i.val - 2048, by omega⟩ := Fin.ext (by show i.val = 2048 + (i.val - 2048); omega)
      rw [e]
      exact ⟨_, s2 _⟩
  choose σ hσ using hs
  rw [result_apply]
  simp only [hσ]
  rw [Cert.Softmax.row_eq]
  unfold attAt
  congr 1
  · funext i
    rw [← hσ, s1, ← (score_comm _ _).1]
    exact Finset.sum_congr rfl fun e _ => by rw [hqr, hkr]
  · funext i
    rw [← hσ, s2, ← (score_comm _ _).1]
    exact Finset.sum_congr rfl fun e _ => by rw [hqr, hkcr]
  · funext i
    rw [values_inl]
  · funext i
    rw [values_inr]

/-- The two results, as arrays. -/
theorem meet (m : (ℓ : Loc Cert.KernelIdeal.nD Cert.KernelIdeal.τ Cert.KernelIdeal.sig) → Buf (Elt Ideal) ℓ) (c : Dev Cert.KernelIdeal.nD)
    (h : Cert.Pre_scores_finite.fn (F := Ideal) (Cert.KernelIdeal.Att.Aq m c) (Cert.KernelIdeal.Att.Ak m c) (Cert.KernelIdeal.Att.Av m c)
      (Cert.KernelIdeal.Att.Akc m c) (Cert.KernelIdeal.Att.Avc m c) = fun _ => 1#1) :
    Cert.ReferenceIdeal.Read.val_main_v21 (F := Ideal) (Cert.KernelIdeal.Att.Aq m c) (Cert.KernelIdeal.Att.Ak m c) (Cert.KernelIdeal.Att.Av m c)
      (Cert.KernelIdeal.Att.Akc m c) (Cert.KernelIdeal.Att.Avc m c) = Cert.KernelIdeal.Att.G m c := by
  funext y
  idx_vars y
  exact meets _ _ _ _ _ h y0 y1 y2

end Cert.Bridge

end
-- ==== Proof.ExpertsTab.lean ====
module

public import proofs.«01_k».proof.Proof.Gen.Experts
public import proofs.«01_k».proof.Proof.Gen.Experts.Launch
public import proofs.«01_k».proof.Proof.Gen.Experts.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.ExpertsKit
public import Idealize.ShloMosaic.Lib.WordCmp
public import Idealize.ShloMosaic.Lib.Affine
@[expose] public section

set_option maxRecDepth 16384

noncomputable section

namespace Cert.Experts.Hand

open Cert.Experts.Gen
open Idealize.ShloMosaic Idealize.ShloMosaic.TcCoe

variable {F : FTy → Type} [BitOps F]
variable (m : (ℓ : Loc nD τ sig) → Buf (Elt F) ℓ)

/-- The expert of tile `j` and the number of tiles that hold tokens, as the tables say. -/
def teN (j : Fin 319) : BitVec 32 := tbl m 0 (fun a : Fin 1 => (⟨j.val, by fin_cases a; exact j.isLt⟩ : Fin ((![319] : Fin 1 → ℕ) a)))
def nvN : BitVec 32 := tbl m 1 (fun a : Fin 1 => (⟨0, by fin_cases a; exact Nat.one_pos⟩ : Fin ((![1] : Fin 1 → ℕ) a)))

/-- Each expert's number is one of the 128, and between one and all tiles hold tokens. -/
structure InRange : Prop where
  te : ∀ j, (teN m j).toNat < 128
  one : 1 ≤ (nvN m).toNat
  all : (nvN m).toNat ≤ 319

/-- A grid point as a tile's number. -/
abbrev tile (i : grid0.Coords) : Fin 319 := ⟨(i 0).val, (i 0).isLt⟩

theorem first0 (n : ℕ) (x : Fin 1) : n + 1 * x.val = n := by omega

/-- Words whose signed value is known. -/
theorem intOf {x : BitVec 32} {e : Int} (h : Affine.IsInt x e) : x.toInt = e := by unfold Affine.IsInt at h; exact h
theorem isOf {x : BitVec 32} {e : Int} (h : x.toInt = e) : Affine.IsInt x e := by unfold Affine.IsInt; exact h

theorem te_at (i : grid0.Coords) : (tbl m).at 0 (Rect.unit (s := S319) (k0_off1 i) S1.size (k0_off1_inb i)) numel1_S1 = teN m (tile i) := by
  unfold teN
  refine congrArg (tbl m 0) (funext fun a => ?_)
  fin_cases a; apply Fin.ext
  have h : k0_off1 i 0 = (i 0).val := by rw [k0_off1_eq]; rfl
  refine (congrArg (· + 1 * _) h).trans ?_
  exact first0 _ _

theorem nv_at : (tbl m).at 1 (Rect.unit (s := S1) ![0] S1.size inb_S1_S1_0) numel1_S1 = nvN m := by
  unfold nvN
  refine congrArg (tbl m 1) (funext fun a => ?_)
  fin_cases a; apply Fin.ext
  exact first0 0 _

theorem transform_1 (i : grid0.Coords) : cc0_transform_1 k0_off1_inb numel1_S1 (tbl m) i = ![(teN m (tile i)).toNat, 0, 0] := by
  have h := te_at m i
  unfold cc0_transform_1
  exact congrArg (fun v : BitVec 32 => ![v.toNat, 0, 0]) h
theorem transform_2 (i : grid0.Coords) : cc0_transform_2 k0_off1_inb numel1_S1 (tbl m) i = ![(teN m (tile i)).toNat, 0, 0] := by
  have h := te_at m i
  unfold cc0_transform_2
  exact congrArg (fun v : BitVec 32 => ![v.toNat, 0, 0]) h
theorem transform_3 (i : grid0.Coords) : cc0_transform_3 k0_off1_inb numel1_S1 (tbl m) i = ![(teN m (tile i)).toNat, 0, 0] := by
  have h := te_at m i
  unfold cc0_transform_3
  exact congrArg (fun v : BitVec 32 => ![v.toNat, 0, 0]) h
theorem transform_4 (i : grid0.Coords) : cc0_transform_4 k0_off1_inb numel1_S1 (tbl m) i = ![(teN m (tile i)).toNat, 0, 0] := by
  have h := te_at m i
  unfold cc0_transform_4
  exact congrArg (fun v : BitVec 32 => ![v.toNat, 0, 0]) h
theorem transform_5 (i : grid0.Coords) : cc0_transform_5 k0_off1_inb numel1_S1 (tbl m) i = ![(teN m (tile i)).toNat, 0, 0] := by
  have h := te_at m i
  unfold cc0_transform_5
  exact congrArg (fun v : BitVec 32 => ![v.toNat, 0, 0]) h

/-- The tokens' block: the point's own, or the last tile's past it. -/
theorem transform_0 (h : InRange m) (i : grid0.Coords) : cc0_transform_0 inb_S1_S1_0 numel1_S1 (tbl m) i = ![min (i 0).val ((nvN m).toNat - 1), 0] := by
  have hn := nv_at m
  have h1 := h.one; have h2 := h.all
  have hi : (i 0).val < 319 := (i 0).isLt
  have hN : Affine.IsInt (nvN m) ((nvN m).toNat : Int) := isOf (WordCmp.toInt_eq_toNat_of_lt_half (by change (nvN m).toNat < 2 ^ 31; omega))
  unfold cc0_transform_0
  refine (congrArg (fun v : BitVec 32 => ![(Scalar.minsi (BitVec.ofNat 32 (i 0).val) (Scalar.subi v 1#32)).toNat, 0]) hn).trans ?_
  have hA := Affine.minsi (Affine.ofNat (e := ((i 0).val : Int)) (i 0).val ⟨rfl, by omega⟩) (Affine.subi hN (Affine.ofNat (e := 1) 1 ⟨rfl, by omega⟩) (e := ((nvN m).toNat : Int) - 1) ⟨rfl, by omega, by omega⟩) rfl
  have hT : (Scalar.minsi (BitVec.ofNat 32 (i 0).val) (Scalar.subi (nvN m) 1#32)).toNat = min (i 0).val ((nvN m).toNat - 1) := by
    have := intOf hA
    rw [BitVec.toInt_eq_toNat_cond] at this
    split at this <;> omega
  exact congrArg (fun k : ℕ => ![k, 0]) hT

set_option maxHeartbeats 1600000 in
/-- Tables in range select blocks inside the arrays. -/
theorem ok_of_inRange (h : InRange m) : Ok m := by
  have h1 := h.one; have h2 := h.all
  unfold Ok ok0
  refine ⟨fun i => ?_, fun i => ?_, fun i => ?_, fun i => ?_, fun i => ?_, fun i => ?_⟩
  · have hT := transform_0 m h i
    refine ⟨fun a => ?_, .inr (Affine.block_words_dvd (of_decide_eq_true rfl) (by decide))⟩
    rw [hT]
    have hi : (i 0).val < 319 := (i 0).isLt
    fin_cases a
    · change (min (i 0).val ((nvN m).toNat - 1) + 1) * 4096 ≤ 1306624; omega
    · change (0 + 1) * 128 ≤ 128; omega
  · have hT := transform_1 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 2048 ≤ 2048; omega
  · have hT := transform_2 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 1024 ≤ 1024; omega
  · have hT := transform_3 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_4 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_5 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega

end Cert.Experts.Hand

end
-- ==== Proof.ExpertsIdealKit.lean ====
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at grid point `t`, on the staging buffers the pipeline hands it there. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

/-- The buffers of core `c` when the kernel call starts: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The host operations up to the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host operations leave `main_arg0` alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg1` alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg2` alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg3` alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg4` alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg5` alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg6` alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The contents of the two prefetched tables at the kernel call. -/
def tbl : pre0.Contents (Elt F) := fun j => V m (0 : Dev nD) (pre0.ref j)
/-- There is one device, so each device's tables hold these contents. -/
theorem V_pre (c : Dev nD) (j : Fin 2) : V m c (pre0.ref j) = tbl m j := by
  obtain rfl : c = 0 := Subsingleton.elim _ _; rfl
/-- Each block the tables select lies inside its array. -/
abbrev Ok : Prop := ok0 (F := F) (tbl m)
/-- The pipeline at these table contents. -/
abbrev adm (hO : Ok m) : (pcfg0 (F := F)).Adm := ⟨tbl m, hO⟩
abbrev cfgM (hO : Ok m) : Pipeline.Cfg sig Λ₀ := cfg0 (adm m hO)

/-- Each table as the body takes it: a whole buffer. -/
abbrev tbM0_0 : Memref sig .tc .smem S319 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`, and half of it held at contents `f` (the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the body may read, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array at the kernel call. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer of input window 0 holds its block at each point, for proof data that leave the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 1 holds its block at each point, for proof data that leave the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 2 holds its block at each point, for proof data that leave the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 3 holds its block at each point, for proof data that leave the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 4 holds its block at each point, for proof data that leave the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 5 holds its block at each point, for proof data that leave the block in place. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 6 holds its block at each point, for proof data that leave the block in place. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run ending at the launch theorem's post ends with each argument array as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-- The staging buffer of each window at point `t`, with the fact that it is a whole buffer. -/
abbrev ms0_0 (hO : Ok m) (t : Fin (cfgM m hO).N) : Memref sig .tc .vmem S4096x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x256 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4096x128 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The three scratch buffers, holding one expert's gate, up and down weights. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

/-- The launch theorem's scratch resources, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ExpertsIdeal.Hand

end
-- ==== Proof.ExpertsIdealVal.lean ====
module

public import proofs.«01_k».proof.Proof.Gen.ExpertsIdeal
public import proofs.«01_k».proof.Proof.Gen.ExpertsIdeal.Launch
public import proofs.«01_k».proof.Proof.Gen.ExpertsIdeal.Skeleton
public import proofs.«01_k».proof.Proof.ExpertsIdealKit
public import Idealize.ShloMosaic.Lib.Pipeline.ReadBack
public import Idealize.ShloMosaic.Lib.WholeRead
public import Idealize.ShloMosaic.Lib.ValueIdxCoords
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What a change of expert leaves in the three scratch buffers -/

/-- Columns `256 b … 256 b + 255` of the expert's fused weights. -/
def wblk (x1 : Vec F S1x1024x2048 .f32) (b : Fin 8) : Vec F S1x1024x256 .f32 :=
  fun z => x1 (ix3 (0 : Fin 1) (z 1 : Fin 1024) (⟨256 * b.val + (z 2).val, by have := b.isLt; have := (z 2).isLt; change (z 2).val < 256 at this; change _ < 2048; omega⟩ : Fin 2048))

/-- The block and the column within it of a column of the gate or up weights. -/
def colBlk (y : S1024x1024.Idx) : Fin 8 := ⟨(y 1).val / 128, by have := (y 1).isLt; change (y 1).val < 1024 at this; omega⟩

/-- The place of an entry within its block. -/
def colIn (y : S1024x1024.Idx) : S1024x128.Idx := ix2 (y 0 : Fin 1024) (⟨(y 1).val % 128, by omega⟩ : Fin 128)

/-- The gate weights the scratch holds: block by block the left half of the selector's product. -/
def gateW (x1 : Vec F S1x1024x2048 .f32) (x6 : Vec F S256x256 .bf16) : Vec F S1024x1024 .bf16 :=
  fun y => k0_pay12 (wblk x1 (colBlk y)) x6 (colIn y)

/-- The up weights the scratch holds: block by block the right half of the selector's product. -/
def upW (x1 : Vec F S1x1024x2048 .f32) (x6 : Vec F S256x256 .bf16) : Vec F S1024x1024 .bf16 :=
  fun y => k0_pay13 (wblk x1 (colBlk y)) x6 (colIn y)

/-- The entry of block `b` that a stored piece puts at its place. -/
theorem colBlk_emb (b : Fin 8) (off : ℕ) (hoff : off = 128 * b.val) (inb : ∀ a, (![0, off] : Fin 2 → ℕ) a + S1024x128.size a ≤ S1024x1024.size a) (x : S1024x128.Idx) :
    colBlk ((Rect.unit (s := S1024x1024) ![0, off] S1024x128.size inb).emb x) = b
      ∧ colIn ((Rect.unit (s := S1024x1024) ![0, off] S1024x128.size inb).emb x) = x := by
  have hx : (x 1).val < 128 := (x 1).isLt
  have h0 : ((Rect.unit (s := S1024x1024) ![0, off] S1024x128.size inb).emb x 0).val = (x 0).val := by
    change 0 + 1 * (x 0).val = _; omega
  have h1 : ((Rect.unit (s := S1024x1024) ![0, off] S1024x128.size inb).emb x 1).val = off + (x 1).val := by
    change off + 1 * (x 1).val = _; omega
  refine ⟨Fin.ext ?_, ?_⟩
  · change ((Rect.unit (s := S1024x1024) ![0, off] S1024x128.size inb).emb x 1).val / 128 = b.val
    rw [h1]; omega
  · funext a; fin_cases a
    · exact Fin.ext h0
    · apply Fin.ext
      change ((Rect.unit (s := S1024x1024) ![0, off] S1024x128.size inb).emb x 1).val % 128 = (x 1).val
      rw [h1]; omega

variable {κ : Kind} {sp : Space}

/-- The eight stores of the gate weights, read back. -/
theorem read_gate (v : View sig κ sp S1024x1024 .bf16) (f : v.ty.Contents (Elt F)) (x1 : Vec F S1x1024x2048 .f32) (x6 : Vec F S256x256 .bf16) :
    v.read (Elt F) (v.writes (Elt F) f [
    ⟨Rect.unit (s := S1024x1024) ![0, 896] S1024x128.size inb_S1024x1024_S1024x128_0_896, k0_pay4 (wblk x1 7) x6⟩,
    ⟨Rect.unit (s := S1024x1024) ![0, 768] S1024x128.size inb_S1024x1024_S1024x128_0_768, k0_pay1 (k0_pay30 (wblk x1 6) x6)⟩,
    ⟨Rect.unit (s := S1024x1024) ![0, 640] S1024x128.size inb_S1024x1024_S1024x128_0_640, k0_pay28 (wblk x1 5) x6⟩,
    ⟨Rect.unit (s := S1024x1024) ![0, 512] S1024x128.size inb_S1024x1024_S1024x128_0_512, k0_pay25 (k0_pay23 (wblk x1 4)) x6⟩,
    ⟨Rect.unit (s := S1024x1024) ![0, 384] S1024x128.size inb_S1024x1024_S1024x128_0_384, k0_pay21 (wblk x1 3) x6⟩,
    ⟨Rect.unit (s := S1024x1024) ![0, 256] S1024x128.size inb_S1024x1024_S1024x128_0_256, k0_pay18 (wblk x1 2) x6⟩,
    ⟨Rect.unit (s := S1024x1024) ![0, 128] S1024x128.size inb_S1024x1024_S1024x128_0_128, k0_pay15 (wblk x1 1) x6⟩,
    ⟨Rect.unit (s := S1024x1024) ![0, 0] S1024x128.size inb_S1024x1024_S1024x128_0_0, k0_pay12 (wblk x1 0) x6⟩]) = gateW x1 x6 := by
  funext y
  have hc := View.cover_of_tiledL (Val := Elt F) (e := .bf16) [
    ⟨Rect.unit (s := S1024x1024) ![0, 896] S1024x128.size inb_S1024x1024_S1024x128_0_896, k0_pay4 (wblk x1 7) x6⟩,
    ⟨Rect.unit (s := S1024x1024) ![0, 768] S1024x128.size inb_S1024x1024_S1024x128_0_768, k0_pay1 (k0_pay30 (wblk x1 6) x6)⟩,
    ⟨Rect.unit (s := S1024x1024) ![0, 640] S1024x128.size inb_S1024x1024_S1024x128_0_640, k0_pay28 (wblk x1 5) x6⟩,
    ⟨Rect.unit (s := S1024x1024) ![0, 512] S1024x128.size inb_S1024x1024_S1024x128_0_512, k0_pay25 (k0_pay23 (wblk x1 4)) x6⟩,
    ⟨Rect.unit (s := S1024x1024) ![0, 384] S1024x128.size inb_S1024x1024_S1024x128_0_384, k0_pay21 (wblk x1 3) x6⟩,
    ⟨Rect.unit (s := S1024x1024) ![0, 256] S1024x128.size inb_S1024x1024_S1024x128_0_256, k0_pay18 (wblk x1 2) x6⟩,
    ⟨Rect.unit (s := S1024x1024) ![0, 128] S1024x128.size inb_S1024x1024_S1024x128_0_128, k0_pay15 (wblk x1 1) x6⟩,
    ⟨Rect.unit (s := S1024x1024) ![0, 0] S1024x128.size inb_S1024x1024_S1024x128_0_0, k0_pay12 (wblk x1 0) x6⟩] S1024x128.size (by sl_kernel_rfl) y
  rw [View.read_writes_apply_eq_canon _ _ _ _ hc]
  refine View.canon_append_of_piecesOf (gateW x1 x6) [] _ ?_ y hc
  refine ⟨fun x => ?_, fun x => ?_, fun x => ?_, fun x => ?_, fun x => ?_, fun x => ?_, fun x => ?_, fun x => ?_, trivial⟩
  · obtain ⟨e1, e2⟩ := colBlk_emb 7 896 rfl inb_S1024x1024_S1024x128_0_896 x
    unfold gateW; rw [e1, e2]; rfl
  · obtain ⟨e1, e2⟩ := colBlk_emb 6 768 rfl inb_S1024x1024_S1024x128_0_768 x
    unfold gateW; rw [e1, e2]; rfl
  · obtain ⟨e1, e2⟩ := colBlk_emb 5 640 rfl inb_S1024x1024_S1024x128_0_640 x
    unfold gateW; rw [e1, e2]; rfl
  · obtain ⟨e1, e2⟩ := colBlk_emb 4 512 rfl inb_S1024x1024_S1024x128_0_512 x
    unfold gateW; rw [e1, e2]; rfl
  · obtain ⟨e1, e2⟩ := colBlk_emb 3 384 rfl inb_S1024x1024_S1024x128_0_384 x
    unfold gateW; rw [e1, e2]; rfl
  · obtain ⟨e1, e2⟩ := colBlk_emb 2 256 rfl inb_S1024x1024_S1024x128_0_256 x
    unfold gateW; rw [e1, e2]; rfl
  · obtain ⟨e1, e2⟩ := colBlk_emb 1 128 rfl inb_S1024x1024_S1024x128_0_128 x
    unfold gateW; rw [e1, e2]; rfl
  · obtain ⟨e1, e2⟩ := colBlk_emb 0 0 rfl inb_S1024x1024_S1024x128_0_0 x
    unfold gateW; rw [e1, e2]

/-- The eight stores of the up weights, read back. -/
theorem read_up (v : View sig κ sp S1024x1024 .bf16) (f : v.ty.Contents (Elt F)) (x1 : Vec F S1x1024x2048 .f32) (x6 : Vec F S256x256 .bf16) :
    v.read (Elt F) (v.writes (Elt F) f [
    ⟨Rect.unit (s := S1024x1024) ![0, 896] S1024x128.size inb_S1024x1024_S1024x128_0_896, k0_pay5 (wblk x1 7) x6⟩,
    ⟨Rect.unit (s := S1024x1024) ![0, 768] S1024x128.size inb_S1024x1024_S1024x128_0_768, k0_pay2 (k0_pay30 (wblk x1 6) x6)⟩,
    ⟨Rect.unit (s := S1024x1024) ![0, 640] S1024x128.size inb_S1024x1024_S1024x128_0_640, k0_pay29 (wblk x1 5) x6⟩,
    ⟨Rect.unit (s := S1024x1024) ![0, 512] S1024x128.size inb_S1024x1024_S1024x128_0_512, k0_pay26 (k0_pay23 (wblk x1 4)) x6⟩,
    ⟨Rect.unit (s := S1024x1024) ![0, 384] S1024x128.size inb_S1024x1024_S1024x128_0_384, k0_pay22 (wblk x1 3) x6⟩,
    ⟨Rect.unit (s := S1024x1024) ![0, 256] S1024x128.size inb_S1024x1024_S1024x128_0_256, k0_pay19 (wblk x1 2) x6⟩,
    ⟨Rect.unit (s := S1024x1024) ![0, 128] S1024x128.size inb_S1024x1024_S1024x128_0_128, k0_pay16 (wblk x1 1) x6⟩,
    ⟨Rect.unit (s := S1024x1024) ![0, 0] S1024x128.size inb_S1024x1024_S1024x128_0_0, k0_pay13 (wblk x1 0) x6⟩]) = upW x1 x6 := by
  funext y
  have hc := View.cover_of_tiledL (Val := Elt F) (e := .bf16) [
    ⟨Rect.unit (s := S1024x1024) ![0, 896] S1024x128.size inb_S1024x1024_S1024x128_0_896, k0_pay5 (wblk x1 7) x6⟩,
    ⟨Rect.unit (s := S1024x1024) ![0, 768] S1024x128.size inb_S1024x1024_S1024x128_0_768, k0_pay2 (k0_pay30 (wblk x1 6) x6)⟩,
    ⟨Rect.unit (s := S1024x1024) ![0, 640] S1024x128.size inb_S1024x1024_S1024x128_0_640, k0_pay29 (wblk x1 5) x6⟩,
    ⟨Rect.unit (s := S1024x1024) ![0, 512] S1024x128.size inb_S1024x1024_S1024x128_0_512, k0_pay26 (k0_pay23 (wblk x1 4)) x6⟩,
    ⟨Rect.unit (s := S1024x1024) ![0, 384] S1024x128.size inb_S1024x1024_S1024x128_0_384, k0_pay22 (wblk x1 3) x6⟩,
    ⟨Rect.unit (s := S1024x1024) ![0, 256] S1024x128.size inb_S1024x1024_S1024x128_0_256, k0_pay19 (wblk x1 2) x6⟩,
    ⟨Rect.unit (s := S1024x1024) ![0, 128] S1024x128.size inb_S1024x1024_S1024x128_0_128, k0_pay16 (wblk x1 1) x6⟩,
    ⟨Rect.unit (s := S1024x1024) ![0, 0] S1024x128.size inb_S1024x1024_S1024x128_0_0, k0_pay13 (wblk x1 0) x6⟩] S1024x128.size (by sl_kernel_rfl) y
  rw [View.read_writes_apply_eq_canon _ _ _ _ hc]
  refine View.canon_append_of_piecesOf (upW x1 x6) [] _ ?_ y hc
  refine ⟨fun x => ?_, fun x => ?_, fun x => ?_, fun x => ?_, fun x => ?_, fun x => ?_, fun x => ?_, fun x => ?_, trivial⟩
  · obtain ⟨e1, e2⟩ := colBlk_emb 7 896 rfl inb_S1024x1024_S1024x128_0_896 x
    unfold upW; rw [e1, e2]; rfl
  · obtain ⟨e1, e2⟩ := colBlk_emb 6 768 rfl inb_S1024x1024_S1024x128_0_768 x
    unfold upW; rw [e1, e2]; rfl
  · obtain ⟨e1, e2⟩ := colBlk_emb 5 640 rfl inb_S1024x1024_S1024x128_0_640 x
    unfold upW; rw [e1, e2]; rfl
  · obtain ⟨e1, e2⟩ := colBlk_emb 4 512 rfl inb_S1024x1024_S1024x128_0_512 x
    unfold upW; rw [e1, e2]; rfl
  · obtain ⟨e1, e2⟩ := colBlk_emb 3 384 rfl inb_S1024x1024_S1024x128_0_384 x
    unfold upW; rw [e1, e2]; rfl
  · obtain ⟨e1, e2⟩ := colBlk_emb 2 256 rfl inb_S1024x1024_S1024x128_0_256 x
    unfold upW; rw [e1, e2]; rfl
  · obtain ⟨e1, e2⟩ := colBlk_emb 1 128 rfl inb_S1024x1024_S1024x128_0_128 x
    unfold upW; rw [e1, e2]; rfl
  · obtain ⟨e1, e2⟩ := colBlk_emb 0 0 rfl inb_S1024x1024_S1024x128_0_0 x
    unfold upW; rw [e1, e2]

/-! ## The row of tokens a step reads and writes: four interleaved pieces of 512 rows -/

/-- The rows `4 t + j` of the block seen as 2048 rows of pairs. -/
abbrev quarter (j : ℕ) (inb : ∀ a, S512x2x128.size a = 0 ∨ (![j, 0, 0] : Fin 3 → ℕ) a + (![4, 1, 1] : Fin 3 → ℕ) a * (S512x2x128.size a - 1) < S2048x2x128.size a) : Rect S2048x2x128 :=
  ⟨⟨![j, 0, 0], S512x2x128.size, ![4, 1, 1], inb⟩, spos_4_1_1⟩

/-- Piece `j` of the step's tokens. -/
def tokQ (x0 : Vec F S4096x128 .bf16) (j : Fin 4) : Vec F S512x2x128 .bf16 :=
  fun z => x0 (Shape.reshapeEquiv reshapes_S4096x128_S2048x2x128.1 (ix3 (⟨4 * (z 0).val + j.val, by have := (z 0).isLt; change (z 0).val < 512 at this; have := j.isLt; omega⟩ : Fin 2048) (z 1 : Fin 2) (z 2 : Fin 128)))

/-- Four pieces put back together, over the block seen as 2048 rows of pairs. -/
def weaveAt (p : Fin 4 → Vec F S512x2x128 .bf16) : Vec F S2048x2x128 .bf16 := fun x =>
  p ⟨(x 0).val % 4, by omega⟩ (ix3 (⟨(x 0).val / 4, by have := (x 0).isLt; change (x 0).val < 2048 at this; omega⟩ : Fin 512) (x 1 : Fin 2) (x 2 : Fin 128))

/-- Four pieces put back together. -/
def weave (p : Fin 4 → Vec F S512x2x128 .bf16) : Vec F S4096x128 .bf16 := fun y =>
  weaveAt p ((Shape.reshapeEquiv reshapes_S4096x128_S2048x2x128.1).symm y)

/-- The step's result before it is packed: the expert's feed-forward of the step's tokens. -/
def ffn (x0 : Vec F S4096x128 .bf16) (x3 x4 x5 : Vec F S1x1x1024 .f32) (g u d : Vec F S1024x1024 .bf16) : FVec F S512x1024 .f32 :=
  k0_pay34 (k0_pay31 (tokQ x0 0) (tokQ x0 1) (tokQ x0 2) (tokQ x0 3)) (k0_pay32 (tokQ x0 0) (tokQ x0 1) (tokQ x0 2) (tokQ x0 3) g x3) (k0_pay33 (F := F)) u x4 d x5

/-- What a step that computes leaves in its output block. -/
def outY (x0 : Vec F S4096x128 .bf16) (x3 x4 x5 : Vec F S1x1x1024 .f32) (g u d : Vec F S1024x1024 .bf16) : Vec F S4096x128 .bf16 :=
  weave ![k0_pay35 (k0_pay31 (tokQ x0 0) (tokQ x0 1) (tokQ x0 2) (tokQ x0 3)) (k0_pay32 (tokQ x0 0) (tokQ x0 1) (tokQ x0 2) (tokQ x0 3) g x3) (k0_pay33 (F := F)) u x4 d x5,
    k0_pay7 (k0_pay36 (k0_pay31 (tokQ x0 0) (tokQ x0 1) (tokQ x0 2) (tokQ x0 3)) (k0_pay32 (tokQ x0 0) (tokQ x0 1) (tokQ x0 2) (tokQ x0 3) g x3) (k0_pay33 (F := F)) u x4 d x5)
      (k0_pay37 (k0_pay31 (tokQ x0 0) (tokQ x0 1) (tokQ x0 2) (tokQ x0 3)) (k0_pay32 (tokQ x0 0) (tokQ x0 1) (tokQ x0 2) (tokQ x0 3) g x3) (k0_pay33 (F := F)) u x4 d x5),
    k0_pay8 (ffn x0 x3 x4 x5 g u d), k0_pay9 (ffn x0 x3 x4 x5 g u d)]

/-- Where piece `j` sits. -/
theorem quarter_emb (j : Fin 4) (inb) (z : S512x2x128.Idx) :
    (quarter j.val inb).emb z = (ix3 (⟨4 * (z 0).val + j.val, by have := (z 0).isLt; change (z 0).val < 512 at this; have := j.isLt; omega⟩ : Fin 2048) (z 1 : Fin 2) (z 2 : Fin 128)) := by
  funext a; fin_cases a
  · apply Fin.ext; change j.val + 4 * (z 0).val = 4 * (z 0).val + j.val; omega
  · apply Fin.ext; change 0 + 1 * (z 1).val = (z 1).val; omega
  · apply Fin.ext; change 0 + 1 * (z 2).val = (z 2).val; omega

/-- A load of piece `j` of a whole buffer. -/
theorem readAt_quarter (m : Memref sig .tc .vmem S4096x128 .bf16) (hm : m.IsWhole) (hc) (x0 : Vec F S4096x128 .bf16) (j : Fin 4) (inb) :
    View.readAt (Elt F) (m.reshape S2048x2x128 reshapes_S4096x128_S2048x2x128.1 reshapes_S4096x128_S2048x2x128.2 hc).view (⟨![j.val, 0, 0], S512x2x128.size, ![4, 1, 1], inb⟩ : LoadRect S2048x2x128) (hm.unread x0) = tokQ x0 j := by
  funext z
  refine (congrFun (hm.read_unread x0) (Shape.reshapeEquiv reshapes_S4096x128_S2048x2x128.1 ((quarter j.val inb).emb z))).trans ?_
  rw [quarter_emb]; rfl

/-- The four strided stores of a step, read back. -/
theorem read_weave (m : Memref sig .tc .vmem S4096x128 .bf16) (hc) (f : m.view.ty.Contents (Elt F)) (p0 p1 p2 p3 : Vec F S512x2x128 .bf16) (i0 i1 i2 i3) :
    View.read (Elt F) m.view ((m.reshape S2048x2x128 reshapes_S4096x128_S2048x2x128.1 reshapes_S4096x128_S2048x2x128.2 hc).view.writes (Elt F) f
      [⟨quarter 3 i3, p3⟩, ⟨quarter 2 i2, p2⟩, ⟨quarter 1 i1, p1⟩, ⟨quarter 0 i0, p0⟩]) = weave ![p0, p1, p2, p3] := by
  funext y
  obtain ⟨x, rfl⟩ := (Shape.reshapeEquiv reshapes_S4096x128_S2048x2x128.1).surjective y
  have hc' : ∃ p ∈ ([⟨quarter 3 i3, p3⟩, ⟨quarter 2 i2, p2⟩, ⟨quarter 1 i1, p1⟩, ⟨quarter 0 i0, p0⟩] : List (View.Piece (Elt F) S2048x2x128 .bf16)), x ∈ p.1.set := by
    have hx : (x 0).val < 2048 := (x 0).isLt
    have key : ∀ (j : Fin 4) (inb), (x 0).val % 4 = j.val → x ∈ (quarter j.val inb).set := fun j inb hj => by
      have e : (quarter j.val inb).emb (ix3 (⟨(x 0).val / 4, by omega⟩ : Fin 512) (x 1 : Fin 2) (x 2 : Fin 128)) = x := by
        rw [quarter_emb]; funext a; fin_cases a
        · apply Fin.ext; change 4 * ((x 0).val / 4) + j.val = (x 0).val; omega
        · rfl
        · rfl
      rw [← e, ← Rect.map_emb_univ]; exact Finset.mem_map_of_mem _ (Finset.mem_univ _)
    have h4 : (x 0).val % 4 = 0 ∨ (x 0).val % 4 = 1 ∨ (x 0).val % 4 = 2 ∨ (x 0).val % 4 = 3 := by omega
    rcases h4 with h | h | h | h
    · exact ⟨⟨quarter 0 i0, p0⟩, .tail _ (.tail _ (.tail _ (.head _))), key 0 i0 h⟩
    · exact ⟨⟨quarter 1 i1, p1⟩, .tail _ (.tail _ (.head _)), key 1 i1 h⟩
    · exact ⟨⟨quarter 2 i2, p2⟩, .tail _ (.head _), key 2 i2 h⟩
    · exact ⟨⟨quarter 3 i3, p3⟩, .head _, key 3 i3 h⟩
  refine (View.read_writes_apply_eq_canon (m.reshape S2048x2x128 reshapes_S4096x128_S2048x2x128.1 reshapes_S4096x128_S2048x2x128.2 hc).view f x _ ?_).trans ?_
  · exact hc'
  · refine View.canon_append_of_piecesOf (fun x => weave ![p0, p1, p2, p3] (Shape.reshapeEquiv reshapes_S4096x128_S2048x2x128.1 x)) [] _ ?_ x hc'
    have key : ∀ (j : Fin 4) (inb) (z : S512x2x128.Idx), (weave ![p0, p1, p2, p3] (Shape.reshapeEquiv reshapes_S4096x128_S2048x2x128.1 ((quarter j.val inb).emb z))) = (![p0, p1, p2, p3] : Fin 4 → Vec F S512x2x128 .bf16) j z := fun j inb z => by
      have hz : (z 0).val < 512 := (z 0).isLt
      have hj := j.isLt
      rw [quarter_emb]
      refine (congrArg (weaveAt _) (Equiv.symm_apply_apply _ _)).trans ?_
      have e1 : (⟨(4 * (z 0).val + j.val) % 4, by omega⟩ : Fin 4) = j := Fin.ext (by change (4 * (z 0).val + j.val) % 4 = j.val; omega)
      have e2 : (⟨(4 * (z 0).val + j.val) / 4, by omega⟩ : Fin 512) = z 0 := Fin.ext (by change (4 * (z 0).val + j.val) / 4 = (z 0).val; omega)
      change (![p0, p1, p2, p3] : Fin 4 → Vec F S512x2x128 .bf16) ⟨(4 * (z 0).val + j.val) % 4, _⟩ (ix3 (⟨(4 * (z 0).val + j.val) / 4, _⟩ : Fin 512) (z 1 : Fin 2) (z 2 : Fin 128)) = _
      rw [e1, e2]
      exact congrArg _ (eq_ix3 z).symm
    exact ⟨fun z => (key 3 i3 z).symm, fun z => (key 2 i2 z).symm, fun z => (key 1 i1 z).symm, fun z => (key 0 i0 z).symm, trivial⟩

end Cert.ExpertsIdeal.Hand

end
-- ==== Proof.ExpertsIdealBack.lean ====
module

public import proofs.«01_k».proof.Proof.Gen.ExpertsIdeal
public import proofs.«01_k».proof.Proof.Gen.ExpertsIdeal.Launch
public import proofs.«01_k».proof.Proof.Gen.ExpertsIdeal.Skeleton
public import proofs.«01_k».proof.Proof.ExpertsIdealVal
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word the body reads of the count table. -/
abbrev nvW (c : Dev nD) (xt1 : TbBuf0 (F := F) c tbM0_1) : BitVec 32 :=
  View.readAt (Elt F) tbM0_1.view (Rect.unit (s := S1) ![0] S1.size inb_S1_S1_0).toLoadRect xt1 (Shape.Idx.first (lt_of_lt_of_eq Nat.zero_lt_one numel1_S1.symm))

/-- The word the body reads of the expert table at point `i`. -/
abbrev teW (c : Dev nD) (i : grid0.Coords) (xt0 : TbBuf0 (F := F) c tbM0_0) : BitVec 32 :=
  View.readAt (Elt F) tbM0_0.view (Rect.unit (s := S319) (k0_off1 i) S1.size (k0_off1_inb i)).toLoadRect xt0 (Shape.Idx.first (lt_of_lt_of_eq Nat.zero_lt_one numel1_S1.symm))

/-- The word the body reads of the expert table at the point before `i`. -/
abbrev tpW (c : Dev nD) (i : grid0.Coords) (xt0 : TbBuf0 (F := F) c tbM0_0) : BitVec 32 :=
  View.readAt (Elt F) tbM0_0.view (Rect.unit (s := S319) (k0_off2 i) S1.size (k0_off2_inb i)).toLoadRect xt0 (Shape.Idx.first (lt_of_lt_of_eq Nat.zero_lt_one numel1_S1.symm))

/-- The condition under which the body reads the weights of a new expert. -/
abbrev condL (i : grid0.Coords) (n a b : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b)))) 0#32 = 1#1

/-- A load of a whole buffer. -/
theorem readAt_all {S : Shape} {e : EltTy} (m : Memref sig .tc .vmem S e) (hm : m.IsWhole) {off : Fin S.rank → ℕ} (inb : ∀ a, off a + S.size a ≤ S.size a) (X : S.Idx → Elt F e) :
    View.readAt (Elt F) m.view (Rect.unit off S.size inb).toLoadRect (hm.unread X) = X :=
  (View.readAt_full m.view (hm.unread X) inb).trans (hm.read_unread X)

/-- A load of 256 columns of the expert's fused weights. -/
theorem readAt_wblk (m : Memref sig .tc .vmem S1x1024x2048 .f32) (hm : m.IsWhole) (x1 : Vec F S1x1024x2048 .f32) (b : Fin 8) (off : ℕ) (hoff : off = 256 * b.val)
    (inb : ∀ a, (![0, 0, off] : Fin 3 → ℕ) a + S1x1024x256.size a ≤ S1x1024x2048.size a) :
    View.readAt (Elt F) m.view (Rect.unit (s := S1x1024x2048) ![0, 0, off] S1x1024x256.size inb).toLoadRect (hm.unread x1) = wblk x1 b := by
  funext z
  refine (hm.readAt_unread x1 _ z).trans (congrArg x1 ?_)
  subst hoff
  funext a; fin_cases a
  · exact Subsingleton.elim (α := Fin 1) _ _
  · apply Fin.ext; change 0 + 1 * (z 1).val = (z 1).val; omega
  · apply Fin.ext; change 256 * b.val + 1 * (z 2).val = 256 * b.val + (z 2).val; omega

/-- The gate scratch after a change of expert. -/
theorem gate_writes (arg4 : Memref sig .tc .vmem S1x1024x2048 .f32) (harg4 : arg4.IsWhole) (arg9 : Memref sig .tc .vmem S256x256 .bf16) (harg9 : arg9.IsWhole)
    (m : Memref sig .tc .vmem S1024x1024 .bf16) (hm : m.IsWhole) (f : m.view.ty.Contents (Elt F)) (x1 : Vec F S1x1024x2048 .f32) (x6 : Vec F S256x256 .bf16) (L : List (View.Piece (Elt F) S1024x1024 .bf16))
    (hL : L = [
    ⟨Rect.unit (s := S1024x1024) ![0, 896] S1024x128.size inb_S1024x1024_S1024x128_0_896, k0_pay4 (View.readAt (Elt F) arg4.view (Rect.unit (s := S1x1024x2048) ![0, 0, 1792] S1x1024x256.size inb_S1x1024x2048_S1x1024x256_0_0_1792).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 768] S1024x128.size inb_S1024x1024_S1024x128_0_768, k0_pay1 (k0_pay30 (View.readAt (Elt F) arg4.view (Rect.unit (s := S1x1024x2048) ![0, 0, 1536] S1x1024x256.size inb_S1x1024x2048_S1x1024x256_0_0_1536).toLoadRect (harg4.unread x1)) (View.readAt (Elt F) arg9.view (Rect.unit (s := S256x256) ![0, 0] S256x256.size inb_S256x256_S256x256_0_0).toLoadRect (harg9.unread x6)))⟩,
    ⟨Rect.unit (s := S1024x1024) ![0, 640] S1024x128.size inb_S1024x1024_S1024x128_0_640, k0_pay28 (View.readAt (Elt F) arg4.view (Rect.unit (s := S1x1024x2048) ![0, 0, 1280] S1x1024x256.size inb_S1x1024x2048_S1x1024x256_0_0_1280).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 512] S1024x128.size inb_S1024x1024_S1024x128_0_512, k0_pay25 (k0_pay23 (View.readAt (Elt F) arg4.view (Rect.unit (s := S1x1024x2048) ![0, 0, 1024] S1x1024x256.size inb_S1x1024x2048_S1x1024x256_0_0_1024).toLoadRect (harg4.unread x1))) (View.readAt (Elt F) arg9.view (Rect.unit (s := S256x256) ![0, 0] S256x256.size inb_S256x256_S256x256_0_0).toLoadRect (harg9.unread x6))⟩,
    ⟨Rect.unit (s := S1024x1024) ![0, 384] S1024x128.size inb_S1024x1024_S1024x128_0_384, k0_pay21 (View.readAt (Elt F) arg4.view (Rect.unit (s := S1x1024x2048) ![0, 0, 768] S1x1024x256.size inb_S1x1024x2048_S1x1024x256_0_0_768).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 256] S1024x128.size inb_S1024x1024_S1024x128_0_256, k0_pay18 (View.readAt (Elt F) arg4.view (Rect.unit (s := S1x1024x2048) ![0, 0, 512] S1x1024x256.size inb_S1x1024x2048_S1x1024x256_0_0_512).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 128] S1024x128.size inb_S1024x1024_S1024x128_0_128, k0_pay15 (View.readAt (Elt F) arg4.view (Rect.unit (s := S1x1024x2048) ![0, 0, 256] S1x1024x256.size inb_S1x1024x2048_S1x1024x256_0_0_256).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 0] S1024x128.size inb_S1024x1024_S1024x128_0_0, k0_pay12 (View.readAt (Elt F) arg4.view (Rect.unit (s := S1x1024x2048) ![0, 0, 0] S1x1024x256.size inb_S1x1024x2048_S1x1024x256_0_0_0).toLoadRect (harg4.unread x1)) (View.readAt (Elt F) arg9.view (Rect.unit (s := S256x256) ![0, 0] S256x256.size inb_S256x256_S256x256_0_0).toLoadRect (harg9.unread x6))⟩]) : m.view.writes (Elt F) f L = hm.unread (gateW x1 x6) := by
  subst hL
  apply hm.eq_unread
  rw [readAt_wblk arg4 harg4 x1 0 0 rfl, readAt_wblk arg4 harg4 x1 1 256 rfl, readAt_wblk arg4 harg4 x1 2 512 rfl, readAt_wblk arg4 harg4 x1 3 768 rfl, readAt_wblk arg4 harg4 x1 4 1024 rfl, readAt_wblk arg4 harg4 x1 5 1280 rfl, readAt_wblk arg4 harg4 x1 6 1536 rfl, readAt_wblk arg4 harg4 x1 7 1792 rfl, readAt_all arg9 harg9]
  exact read_gate m.view f x1 x6

/-- The up scratch after a change of expert. -/
theorem up_writes (arg4 : Memref sig .tc .vmem S1x1024x2048 .f32) (harg4 : arg4.IsWhole) (arg9 : Memref sig .tc .vmem S256x256 .bf16) (harg9 : arg9.IsWhole)
    (m : Memref sig .tc .vmem S1024x1024 .bf16) (hm : m.IsWhole) (f : m.view.ty.Contents (Elt F)) (x1 : Vec F S1x1024x2048 .f32) (x6 : Vec F S256x256 .bf16) (L : List (View.Piece (Elt F) S1024x1024 .bf16))
    (hL : L = [
    ⟨Rect.unit (s := S1024x1024) ![0, 896] S1024x128.size inb_S1024x1024_S1024x128_0_896, k0_pay5 (View.readAt (Elt F) arg4.view (Rect.unit (s := S1x1024x2048) ![0, 0, 1792] S1x1024x256.size inb_S1x1024x2048_S1x1024x256_0_0_1792).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 768] S1024x128.size inb_S1024x1024_S1024x128_0_768, k0_pay2 (k0_pay30 (View.readAt (Elt F) arg4.view (Rect.unit (s := S1x1024x2048) ![0, 0, 1536] S1x1024x256.size inb_S1x1024x2048_S1x1024x256_0_0_1536).toLoadRect (harg4.unread x1)) (View.readAt (Elt F) arg9.view (Rect.unit (s := S256x256) ![0, 0] S256x256.size inb_S256x256_S256x256_0_0).toLoadRect (harg9.unread x6)))⟩,
    ⟨Rect.unit (s := S1024x1024) ![0, 640] S1024x128.size inb_S1024x1024_S1024x128_0_640, k0_pay29 (View.readAt (Elt F) arg4.view (Rect.unit (s := S1x1024x2048) ![0, 0, 1280] S1x1024x256.size inb_S1x1024x2048_S1x1024x256_0_0_1280).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 512] S1024x128.size inb_S1024x1024_S1024x128_0_512, k0_pay26 (k0_pay23 (View.readAt (Elt F) arg4.view (Rect.unit (s := S1x1024x2048) ![0, 0, 1024] S1x1024x256.size inb_S1x1024x2048_S1x1024x256_0_0_1024).toLoadRect (harg4.unread x1))) (View.readAt (Elt F) arg9.view (Rect.unit (s := S256x256) ![0, 0] S256x256.size inb_S256x256_S256x256_0_0).toLoadRect (harg9.unread x6))⟩,
    ⟨Rect.unit (s := S1024x1024) ![0, 384] S1024x128.size inb_S1024x1024_S1024x128_0_384, k0_pay22 (View.readAt (Elt F) arg4.view (Rect.unit (s := S1x1024x2048) ![0, 0, 768] S1x1024x256.size inb_S1x1024x2048_S1x1024x256_0_0_768).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 256] S1024x128.size inb_S1024x1024_S1024x128_0_256, k0_pay19 (View.readAt (Elt F) arg4.view (Rect.unit (s := S1x1024x2048) ![0, 0, 512] S1x1024x256.size inb_S1x1024x2048_S1x1024x256_0_0_512).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 128] S1024x128.size inb_S1024x1024_S1024x128_0_128, k0_pay16 (View.readAt (Elt F) arg4.view (Rect.unit (s := S1x1024x2048) ![0, 0, 256] S1x1024x256.size inb_S1x1024x2048_S1x1024x256_0_0_256).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 0] S1024x128.size inb_S1024x1024_S1024x128_0_0, k0_pay13 (View.readAt (Elt F) arg4.view (Rect.unit (s := S1x1024x2048) ![0, 0, 0] S1x1024x256.size inb_S1x1024x2048_S1x1024x256_0_0_0).toLoadRect (harg4.unread x1)) (View.readAt (Elt F) arg9.view (Rect.unit (s := S256x256) ![0, 0] S256x256.size inb_S256x256_S256x256_0_0).toLoadRect (harg9.unread x6))⟩]) : m.view.writes (Elt F) f L = hm.unread (upW x1 x6) := by
  subst hL
  apply hm.eq_unread
  rw [readAt_wblk arg4 harg4 x1 0 0 rfl, readAt_wblk arg4 harg4 x1 1 256 rfl, readAt_wblk arg4 harg4 x1 2 512 rfl, readAt_wblk arg4 harg4 x1 3 768 rfl, readAt_wblk arg4 harg4 x1 4 1024 rfl, readAt_wblk arg4 harg4 x1 5 1280 rfl, readAt_wblk arg4 harg4 x1 6 1536 rfl, readAt_wblk arg4 harg4 x1 7 1792 rfl, readAt_all arg9 harg9]
  exact read_up m.view f x1 x6

/-- The down scratch after a change of expert. -/
theorem down_writes (arg5 : Memref sig .tc .vmem S1x1024x1024 .f32) (harg5 : arg5.IsWhole)
    (m : Memref sig .tc .vmem S1024x1024 .bf16) (hm : m.IsWhole) (f : m.view.ty.Contents (Elt F)) (x2 : Vec F S1x1024x1024 .f32) (L : List (View.Piece (Elt F) S1024x1024 .bf16))
    (hL : L = [⟨Rect.unit (s := S1024x1024) ![0, 0] S1024x1024.size inb_S1024x1024_S1024x1024_0_0, k0_pay6 (View.readAt (Elt F) arg5.view (Rect.unit (s := S1x1024x1024) ![0, 0, 0] S1x1024x1024.size inb_S1x1024x1024_S1x1024x1024_0_0_0).toLoadRect (harg5.unread x2))⟩]) :
    m.view.writes (Elt F) f L = hm.unread (k0_pay6 x2) := by
  subst hL
  apply hm.eq_unread
  rw [readAt_all arg5 harg5]
  funext y
  have hy : (Rect.unit (s := S1024x1024) ![0, 0] S1024x1024.size inb_S1024x1024_S1024x1024_0_0).emb y = y := Rect.emb_unit_full _ _
  conv_lhs => rw [← hy]
  exact View.read_writes_cons_emb _ _ _ _ _ _

/-- The output block after the four strided stores of a step that computes. -/
theorem read_out (arg10 : Memref sig .tc .vmem S4096x128 .bf16) (hc) (f : arg10.view.ty.Contents (Elt F)) (i0 i1 i2 i3)
    (x0 : Vec F S4096x128 .bf16) (x3 x4 x5 : Vec F S1x1x1024 .f32) (g u d : Vec F S1024x1024 .bf16)
    (a0 a1 a2 a3 : Vec F S512x2x128 .bf16) (b3 b4 b5 : Vec F S1x1x1024 .f32) (g' u' d' : Vec F S1024x1024 .bf16)
    (h0 : a0 = tokQ x0 0) (h1 : a1 = tokQ x0 1) (h2 : a2 = tokQ x0 2) (h3 : a3 = tokQ x0 3) (hb3 : b3 = x3) (hb4 : b4 = x4) (hb5 : b5 = x5)
    (hg : g' = g) (hu : u' = u) (hd : d' = d) :
    View.read (Elt F) arg10.view (View.write (Elt F) ((arg10.reshape S2048x2x128 reshapes_S4096x128_S2048x2x128.1 reshapes_S4096x128_S2048x2x128.2 hc).access (quarter 3 i3)) (View.write (Elt F) ((arg10.reshape S2048x2x128 reshapes_S4096x128_S2048x2x128.1 reshapes_S4096x128_S2048x2x128.2 hc).access (quarter 2 i2)) (View.write (Elt F) ((arg10.reshape S2048x2x128 reshapes_S4096x128_S2048x2x128.1 reshapes_S4096x128_S2048x2x128.2 hc).access (quarter 1 i1)) (View.write (Elt F) ((arg10.reshape S2048x2x128 reshapes_S4096x128_S2048x2x128.1 reshapes_S4096x128_S2048x2x128.2 hc).access (quarter 0 i0)) f
        (k0_pay35 (k0_pay31 a0 a1 a2 a3) (k0_pay32 a0 a1 a2 a3 g' b3) (k0_pay33 (F := F)) u' b4 d' b5) Finset.univ)
        (k0_pay7 (k0_pay36 (k0_pay31 a0 a1 a2 a3) (k0_pay32 a0 a1 a2 a3 g' b3) (k0_pay33 (F := F)) u' b4 d' b5) (k0_pay37 (k0_pay31 a0 a1 a2 a3) (k0_pay32 a0 a1 a2 a3 g' b3) (k0_pay33 (F := F)) u' b4 d' b5)) Finset.univ)
        (k0_pay8 (k0_pay34 (k0_pay31 a0 a1 a2 a3) (k0_pay32 a0 a1 a2 a3 g' b3) (k0_pay33 (F := F)) u' b4 d' b5)) Finset.univ)
        (k0_pay9 (k0_pay34 (k0_pay31 a0 a1 a2 a3) (k0_pay32 a0 a1 a2 a3 g' b3) (k0_pay33 (F := F)) u' b4 d' b5)) Finset.univ) = outY x0 x3 x4 x5 g u d := by
  subst h0 h1 h2 h3 hb3 hb4 hb5 hg hu hd
  exact read_weave arg10 hc f _ _ _ _ i0 i1 i2 i3

/-- The zero block a step past the last expert tile leaves. -/
theorem read_zero (m : Memref sig .tc .vmem S4096x128 .bf16) (f : m.view.ty.Contents (Elt F)) :
    View.read (Elt F) m.view (m.view.writes (Elt F) f [⟨Rect.unit (s := S4096x128) ![0, 0] S4096x128.size inb_S4096x128_S4096x128_0_0, k0_pay10 (F := F)⟩]) = k0_pay10 (F := F) := by
  funext y
  have hy : (Rect.unit (s := S4096x128) ![0, 0] S4096x128.size inb_S4096x128_S4096x128_0_0).emb y = y := Rect.emb_unit_full _ _
  conv_lhs => rw [← hy]
  exact View.read_writes_cons_emb _ _ _ _ _ _

end Cert.ExpertsIdeal.Hand

end
-- ==== Proof.ExpertsIdealTab.lean ====
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.ExpertsIdealKit
public import proofs.«01_k».proof.Proof.ExpertsIdealBack
public import Idealize.ShloMosaic.Lib.WordCmp
public import Idealize.ShloMosaic.Lib.Affine
@[expose] public section

set_option maxRecDepth 16384

noncomputable section

namespace Cert.ExpertsIdeal.Hand

open Cert.ExpertsIdeal.Gen
open Idealize.ShloMosaic Idealize.ShloMosaic.TcCoe

variable {F : FTy → Type} [FloatOps F]
variable (m : (ℓ : Loc nD τ sig) → Buf (Elt F) ℓ)

/-- The expert of tile `j` and the number of tiles that hold tokens, as the tables say. -/
def teN (j : Fin 319) : BitVec 32 := tbl m 0 (fun a : Fin 1 => (⟨j.val, by fin_cases a; exact j.isLt⟩ : Fin ((![319] : Fin 1 → ℕ) a)))
def nvN : BitVec 32 := tbl m 1 (fun a : Fin 1 => (⟨0, by fin_cases a; exact Nat.one_pos⟩ : Fin ((![1] : Fin 1 → ℕ) a)))

/-- Each expert's number is one of the 128, and between one and all tiles hold tokens. -/
structure InRange : Prop where
  te : ∀ j, (teN m j).toNat < 128
  one : 1 ≤ (nvN m).toNat
  all : (nvN m).toNat ≤ 319

/-- A grid point as a tile's number. -/
abbrev tile (i : grid0.Coords) : Fin 319 := ⟨(i 0).val, (i 0).isLt⟩

theorem first0 (n : ℕ) (x : Fin 1) : n + 1 * x.val = n := by omega

/-- Words whose signed value is known. -/
theorem intOf {x : BitVec 32} {e : Int} (h : Affine.IsInt x e) : x.toInt = e := by unfold Affine.IsInt at h; exact h
theorem isOf {x : BitVec 32} {e : Int} (h : x.toInt = e) : Affine.IsInt x e := by unfold Affine.IsInt; exact h

theorem te_at (i : grid0.Coords) : (tbl m).at 0 (Rect.unit (s := S319) (k0_off1 i) S1.size (k0_off1_inb i)) numel1_S1 = teN m (tile i) := by
  unfold teN
  refine congrArg (tbl m 0) (funext fun a => ?_)
  fin_cases a; apply Fin.ext
  have h : k0_off1 i 0 = (i 0).val := by rw [k0_off1_eq]; rfl
  refine (congrArg (· + 1 * _) h).trans ?_
  exact first0 _ _

theorem nv_at : (tbl m).at 1 (Rect.unit (s := S1) ![0] S1.size inb_S1_S1_0) numel1_S1 = nvN m := by
  unfold nvN
  refine congrArg (tbl m 1) (funext fun a => ?_)
  fin_cases a; apply Fin.ext
  exact first0 0 _

theorem transform_1 (i : grid0.Coords) : cc0_transform_1 k0_off1_inb numel1_S1 (tbl m) i = ![(teN m (tile i)).toNat, 0, 0] := by
  have h := te_at m i
  unfold cc0_transform_1
  exact congrArg (fun v : BitVec 32 => ![v.toNat, 0, 0]) h
theorem transform_2 (i : grid0.Coords) : cc0_transform_2 k0_off1_inb numel1_S1 (tbl m) i = ![(teN m (tile i)).toNat, 0, 0] := by
  have h := te_at m i
  unfold cc0_transform_2
  exact congrArg (fun v : BitVec 32 => ![v.toNat, 0, 0]) h
theorem transform_3 (i : grid0.Coords) : cc0_transform_3 k0_off1_inb numel1_S1 (tbl m) i = ![(teN m (tile i)).toNat, 0, 0] := by
  have h := te_at m i
  unfold cc0_transform_3
  exact congrArg (fun v : BitVec 32 => ![v.toNat, 0, 0]) h
theorem transform_4 (i : grid0.Coords) : cc0_transform_4 k0_off1_inb numel1_S1 (tbl m) i = ![(teN m (tile i)).toNat, 0, 0] := by
  have h := te_at m i
  unfold cc0_transform_4
  exact congrArg (fun v : BitVec 32 => ![v.toNat, 0, 0]) h
theorem transform_5 (i : grid0.Coords) : cc0_transform_5 k0_off1_inb numel1_S1 (tbl m) i = ![(teN m (tile i)).toNat, 0, 0] := by
  have h := te_at m i
  unfold cc0_transform_5
  exact congrArg (fun v : BitVec 32 => ![v.toNat, 0, 0]) h

/-- The tokens' block: the point's own, or the last tile's past it. -/
theorem transform_0 (h : InRange m) (i : grid0.Coords) : cc0_transform_0 inb_S1_S1_0 numel1_S1 (tbl m) i = ![min (i 0).val ((nvN m).toNat - 1), 0] := by
  have hn := nv_at m
  have h1 := h.one; have h2 := h.all
  have hi : (i 0).val < 319 := (i 0).isLt
  have hN : Affine.IsInt (nvN m) ((nvN m).toNat : Int) := isOf (WordCmp.toInt_eq_toNat_of_lt_half (by change (nvN m).toNat < 2 ^ 31; omega))
  unfold cc0_transform_0
  refine (congrArg (fun v : BitVec 32 => ![(Scalar.minsi (BitVec.ofNat 32 (i 0).val) (Scalar.subi v 1#32)).toNat, 0]) hn).trans ?_
  have hA := Affine.minsi (Affine.ofNat (e := ((i 0).val : Int)) (i 0).val ⟨rfl, by omega⟩) (Affine.subi hN (Affine.ofNat (e := 1) 1 ⟨rfl, by omega⟩) (e := ((nvN m).toNat : Int) - 1) ⟨rfl, by omega, by omega⟩) rfl
  have hT : (Scalar.minsi (BitVec.ofNat 32 (i 0).val) (Scalar.subi (nvN m) 1#32)).toNat = min (i 0).val ((nvN m).toNat - 1) := by
    have := intOf hA
    rw [BitVec.toInt_eq_toNat_cond] at this
    split at this <;> omega
  exact congrArg (fun k : ℕ => ![k, 0]) hT

set_option maxHeartbeats 1600000 in
/-- Tables in range select blocks inside the arrays. -/
theorem ok_of_inRange (h : InRange m) : Ok m := by
  have h1 := h.one; have h2 := h.all
  unfold Ok ok0
  refine ⟨fun i => ?_, fun i => ?_, fun i => ?_, fun i => ?_, fun i => ?_, fun i => ?_⟩
  · have hT := transform_0 m h i
    refine ⟨fun a => ?_, .inr (Affine.block_words_dvd (of_decide_eq_true rfl) (by decide))⟩
    rw [hT]
    have hi : (i 0).val < 319 := (i 0).isLt
    fin_cases a
    · change (min (i 0).val ((nvN m).toNat - 1) + 1) * 4096 ≤ 1306624; omega
    · change (0 + 1) * 128 ≤ 128; omega
  · have hT := transform_1 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 2048 ≤ 2048; omega
  · have hT := transform_2 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 1024 ≤ 1024; omega
  · have hT := transform_3 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_4 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_5 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega

/-- The words the body reads are the tables'. -/
theorem nvW_eq (c : Dev nD) : nvW (F := F) c (tbl m 1) = nvN m := nv_at m
theorem teW_eq (c : Dev nD) (i : grid0.Coords) : teW (F := F) c i (tbl m 0) = teN m (tile i) := te_at m i

/-- The tile before a point's, for a point that is not the first. -/
theorem tpW_eq (c : Dev nD) (i : grid0.Coords) (hz : (i 0).val ≠ 0) :
    tpW (F := F) c i (tbl m 0) = teN m ⟨(i 0).val - 1, by have := (i 0).isLt; exact lt_of_le_of_lt (Nat.sub_le _ _) this⟩ := by
  have hi : (i 0).val < 319 := (i 0).isLt
  have hoff : k0_off2 i 0 = (i 0).val - 1 := by
    have hA := Affine.indexCast (Affine.maxsi (Affine.subi (Affine.ofNat (e := ((i 0).val : Int)) (i 0).val ⟨rfl, by omega⟩) (Affine.ofNat (e := 1) 1 ⟨rfl, by omega⟩) (e := ((i 0).val : Int) - 1) ⟨rfl, by omega, by omega⟩) (Affine.ofNat (e := 0) 0 ⟨rfl, by omega⟩) (e := ((i 0).val : Int) - 1) (by omega))
    have := intOf hA
    rw [BitVec.toInt_eq_toNat_cond] at this
    unfold k0_off2
    change (Scalar.indexCast (Scalar.maxsi (Scalar.subi (BitVec.ofNat 32 (i 0).val) 1#32) 0#32)).toNat = _
    split at this <;> omega
  unfold teN
  refine congrArg (tbl m 0) (funext fun a => ?_)
  fin_cases a; apply Fin.ext
  refine (congrArg (· + 1 * _) hoff).trans ?_
  exact first0 _ _

/-- The body's comparison of the point with the count. -/
theorem slt_iff (h : InRange m) (i : grid0.Coords) : Scalar.cmpi .slt (BitVec.ofNat 32 (i 0).val) (nvN m) = BitVec.ofBool (decide ((i 0).val < (nvN m).toNat)) := by
  have hi : (i 0).val < 319 := (i 0).isLt
  have h2 := h.all
  have hn : (BitVec.ofNat 32 (i 0).val).toNat = (i 0).val := WordCmp.toNat_ofNat_of_lt (by omega)
  have := WordCmp.cmpi_slt_of_lt (w := 32) (x := BitVec.ofNat 32 (i 0).val) (y := nvN m) (by rw [hn]; omega) (by omega)
  rw [hn] at this
  exact this

theorem bit_ne (b : Bool) : (Scalar.cmpi .ne (Scalar.extui (BitVec.ofBool b) : BitVec 32) 0#32 = 1#1) ↔ b = true := by
  cases b <;> decide
theorem bit_nne (b : Bool) : (Scalar.cmpi .ne (Scalar.extui (Scalar.xori (BitVec.ofBool b) 1#1) : BitVec 32) 0#32 = 1#1) ↔ b = false := by
  cases b <;> decide

theorem cond2_iff (h : InRange m) (i : grid0.Coords) : k0_cond2 i (nvN m) = 1#1 ↔ (i 0).val < (nvN m).toNat := by
  change (Scalar.cmpi .ne (Scalar.extui (Scalar.cmpi .slt (BitVec.ofNat 32 (i 0).val) (nvN m)) : BitVec 32) 0#32 = 1#1) ↔ _
  rw [slt_iff m h i]
  exact (bit_ne _).trans decide_eq_true_iff

theorem cond3_iff (h : InRange m) (i : grid0.Coords) : k0_cond3 i (nvN m) = 1#1 ↔ ¬(i 0).val < (nvN m).toNat := by
  change (Scalar.cmpi .ne (Scalar.extui (Scalar.xori (Scalar.cmpi .slt (BitVec.ofNat 32 (i 0).val) (nvN m)) 1#1) : BitVec 32) 0#32 = 1#1) ↔ _
  rw [slt_iff m h i]
  exact (bit_nne _).trans decide_eq_false_iff_not

theorem condL_iff (h : InRange m) (i : grid0.Coords) (a b : BitVec 32) :
    condL i (nvN m) a b ↔ (i 0).val < (nvN m).toNat ∧ ((i 0).val = 0 ∨ a ≠ b) := by
  have hi : (i 0).val < 319 := (i 0).isLt
  have e1 : Scalar.cmpi .eq (BitVec.ofNat 32 (i 0).val) 0#32 = BitVec.ofBool (decide ((i 0).val = 0)) := by
    have := WordCmp.cmpi_eq_eq_toNat (BitVec.ofNat 32 (i 0).val) 0#32
    rw [WordCmp.toNat_ofNat_of_lt (by omega)] at this
    exact this
  have e2 : Scalar.cmpi .ne a b = BitVec.ofBool (decide (a ≠ b)) := WordCmp.cmpi_ne_eq a b
  unfold condL
  rw [slt_iff m h i, e1, e2]
  have e3 : ∀ p q r : Bool, Scalar.andi (BitVec.ofBool p) (Scalar.ori (BitVec.ofBool q) (BitVec.ofBool r)) = BitVec.ofBool (p && (q || r)) := by decide
  rw [e3, bit_ne]
  simp

end Cert.ExpertsIdeal.Hand

end
-- ==== Proof.ExpertsPre.lean ====
/- The precondition on the routing table read as ranges of its words. -/
module

public import proofs.«01_k».proof.Pre_routed
public import proofs.«01_k».proof.Defs
public import proofs.«01_k».proof.Proof.ExpertsTab
public import proofs.«01_k».proof.Proof.ExpertsIdealTab
public import Idealize.ShloMosaic.Lib.ReduceAll
public import Idealize.ShloMosaic.Lib.Affine
public import Idealize.ShloMosaic.Lib.Decide

@[expose] public section

set_option maxRecDepth 16384

noncomputable section

namespace Cert.ExpertsPre

open Idealize.ShloMosaic
open Cert.Pre_routed (S319 S1 S1306624x128 S128x1024x2048 S128x1024x1024 S128x2048 S128x1024)

/-- The precondition's shape facts. -/
instance preFacts : Cert.Pre_routed.Facts where
  bcast_S_S319 := by decide
  reducesTo_S319_S_d0 := by decide
  h_S_ := by decide
  bcast_S_S1 := by decide
  reducesTo_S1_S_d0 := by decide

/-- A bit of a truth value is one exactly when the value is true. -/
theorem bit_true {b : Bool} (h : BitVec.ofBool b = 1#1) : b = true := by
  cases b
  · exact absurd h (by decide)
  · rfl

/-- A word from 0 up to, not with, 128, signed, is so unsigned. -/
theorem word_below (w : BitVec 32) (h0 : IntOp.cmpi .sge w 0#32 = 1#1) (h1 : IntOp.cmpi .slt w 128#32 = 1#1) : w.toNat < 128 := by
  have a0 : (0#32 : BitVec 32).sle w = true := bit_true h0
  have a1 : w.slt 128#32 = true := bit_true h1
  rw [BitVec.sle_eq_decide] at a0
  rw [BitVec.slt_eq_decide] at a1
  have b0 : (0#32 : BitVec 32).toInt ≤ w.toInt := of_decide_eq_true a0
  have b1 : w.toInt < (128#32 : BitVec 32).toInt := of_decide_eq_true a1
  have c0 : (0#32 : BitVec 32).toInt = 0 := by decide
  have c1 : (128#32 : BitVec 32).toInt = 128 := by decide
  rw [c0] at b0; rw [c1] at b1
  have := BitVec.toInt_eq_toNat_cond w
  split at this <;> omega

/-- A word from 1 to 319, signed, is so unsigned. -/
theorem word_within (w : BitVec 32) (h0 : IntOp.cmpi .sge w 1#32 = 1#1) (h1 : IntOp.cmpi .sle w 319#32 = 1#1) : 1 ≤ w.toNat ∧ w.toNat ≤ 319 := by
  have a0 : (1#32 : BitVec 32).sle w = true := bit_true h0
  have a1 : w.sle 319#32 = true := bit_true h1
  rw [BitVec.sle_eq_decide] at a0 a1
  have b0 : (1#32 : BitVec 32).toInt ≤ w.toInt := of_decide_eq_true a0
  have b1 : w.toInt ≤ (319#32 : BitVec 32).toInt := of_decide_eq_true a1
  have c0 : (1#32 : BitVec 32).toInt = 1 := by decide
  have c1 : (319#32 : BitVec 32).toInt = 319 := by decide
  rw [c0] at b0; rw [c1] at b1
  have := BitVec.toInt_eq_toNat_cond w
  split at this <;> constructor <;> omega

/-- What the precondition says: each tile's expert is one of the 128, and from one to all of the tiles hold tokens. -/
theorem ranges {F : FTy → Type} [FloatOps F] (te : IVec S319 32) (nv : IVec S1 32) (xs : FVec F S1306624x128 .bf16) (wgu : FVec F S128x1024x2048 .f32)
    (wd : FVec F S128x1024x1024 .f32) (bgu : FVec F S128x2048 .f32) (bd : FVec F S128x1024 .f32) (h : Cert.Pre_routed.fn (F := F) te nv xs wgu wd bgu bd = fun _ => 1#1) :
    (∀ i, (te i).toNat < 128) ∧ (∀ i, 1 ≤ (nv i).toNat ∧ (nv i).toNat ≤ 319) := by
  have h0 := congrFun h (fun a => a.elim0)
  obtain ⟨h1, h2⟩ := IntOp.andi_eq_one.1 h0
  constructor
  · intro i
    obtain ⟨a, b⟩ := IntOp.andi_eq_one.1 (Host.reduce_andi_all _ _ _ _ _ h1 i)
    exact word_below _ a b
  · intro i
    obtain ⟨a, b⟩ := IntOp.andi_eq_one.1 (Host.reduce_andi_all _ _ _ _ _ h2 i)
    exact word_within _ a b

/-- The kernel's tables are in range. -/
theorem inRange (m : (ℓ : Loc Cert.Experts.nD Cert.Experts.τ Cert.Experts.sig) → Buf (Elt Bits) ℓ) (h : Cert.Pre_Experts m) : Cert.Experts.Hand.InRange m := by
  obtain ⟨h1, h2⟩ := ranges _ _ _ _ _ _ _ (h 0)
  have e0 := Cert.Experts.Hand.V_main_arg0 m 0
  have e1 := Cert.Experts.Hand.V_main_arg1 m 0
  refine ⟨fun j => ?_, ?_, ?_⟩
  · exact (congrArg BitVec.toNat (congrFun e0 _)).trans_lt (h1 _)
  · exact (h2 _).1.trans_eq (congrArg BitVec.toNat (congrFun e1 _)).symm
  · exact (congrArg BitVec.toNat (congrFun e1 _)).trans_le (h2 _).2

/-- The idealized kernel's tables are in range. -/
theorem inRangeIdeal (m : (ℓ : Loc Cert.ExpertsIdeal.nD Cert.ExpertsIdeal.τ Cert.ExpertsIdeal.sig) → Buf (Elt Ideal) ℓ) (h : Cert.Pre_ExpertsIdeal m) : Cert.ExpertsIdeal.Hand.InRange m := by
  obtain ⟨h1, h2⟩ := ranges _ _ _ _ _ _ _ (h 0)
  have e0 := Cert.ExpertsIdeal.Hand.V_main_arg0 m 0
  have e1 := Cert.ExpertsIdeal.Hand.V_main_arg1 m 0
  refine ⟨fun j => ?_, ?_, ?_⟩
  · exact (congrArg BitVec.toNat (congrFun e0 _)).trans_lt (h1 _)
  · exact (h2 _).1.trans_eq (congrArg BitVec.toNat (congrFun e1 _)).symm
  · exact (congrArg BitVec.toNat (congrFun e1 _)).trans_le (h2 _).2

end Cert.ExpertsPre

end
-- ==== Proof.ExpertsRun.lean ====
module

public import proofs.«01_k».proof.Proof.Gen.Experts
public import proofs.«01_k».proof.Proof.Gen.Experts.Launch
public import proofs.«01_k».proof.Proof.Gen.Experts.Skeleton
public import proofs.«01_k».proof.Proof.ExpertsKit
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Experts.Hand

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- One step of the kernel, whatever the two tables say: from the operands at any contents and everything the step may write at anything, the body
    runs through, leaves the operands and the tables as they were, and the rest at something. The conditions are not decided: a guarded region is
    followed both ways. -/
theorem run (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; exact rfl
  isplitl [HS0]
  · iexists _, _; isplitr; swap; · iexact HS0
    ipureintro; exact rfl
  isplitl [HS1]
  · iexists _, _; isplitr; swap; · iexact HS1
    ipureintro; exact rfl
  isplitl [HS2]
  · iexists _, _; isplitr; swap; · iexact HS2
    ipureintro; exact rfl
  isplitl [HT0]
  · iexact HT0
  iexact HT1

end Cert.Experts.Hand

end
-- ==== Proof.ExpertsFrame.lean ====
module

public import proofs.«01_k».proof.Proof.Gen.Experts
public import proofs.«01_k».proof.Proof.Gen.Experts.Launch
public import proofs.«01_k».proof.Proof.Gen.Experts.Skeleton
public import proofs.«01_k».proof.Proof.ExpertsKit
public import proofs.«01_k».proof.Proof.ExpertsRun
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Experts.Hand

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: each operand's buffer keeps its block; what the body leaves in the output's buffer is not named; the scratch and the
    tables' halves stand at every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => Dat.unnamed (cfg := cfgM m hO) 7 t
  Φ _ := iprop(Pipeline.ΦA spec0 c ∗ Pipeline.ΦT pre0 (tbl m) c)
  q _ := fullShare
  owed _ := 0

/-- Only the output is left unnamed. -/
def unnamedOut (hO : Ok m) : Fin (cfgM m hO).W → Bool := fun w => match w with
  | ⟨7, _⟩ => true
  | ⟨_, _⟩ => false

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d))

set_option maxHeartbeats 6400000 in
/-- The body at any point, by the run. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, H7⟩
  iapply (run c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, H7, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s buffers is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's demand on the body, at every point. -/
theorem body_obligation (hO : Ok m) (c : Dev nD) :
    Pipeline.BodyObligationLoose (dats (F := F) m hO 0 c) (defs₀ (F := F)) Variants.none () Set.univ (unnamedOut m hO) := fun t => by
  rw [bigSep_W0, bigSep_W0, defs₀_row m hO]
  exact triple_restated (sound_body m hO c t) rfl .rfl fun _ => .rfl

set_option maxHeartbeats 3200000 in
set_option backward.isDefEq.respectTransparency.types false in
/-- Every run ends, with the operand arrays as they were and every counter at zero. -/
theorem run_main_quiescent (hO : Ok m) : θ_run defs (onTc (τ := τ) (main (F := F))) (s₀ m ρ)
    (fun r => Pipeline.RDat.FramePost (cfgM m hO) (fun c => (dats m hO 0 c).toRForget (unnamedOut m hO)) (V m) r ∧ r.2.sem = fun _ => 0) :=
  Pipeline.θ_run_frameP_forget (Q' := _) pcfgs (fun _ => adm m hO) (dats m hO) (0 : Fin 1) launch0 defs₀ Variants.none (unnamedOut m hO) m ρ main
    (hbody := body_obligation m hO) (hshare := fun c => (dats m hO 0 c).share_full fun _ => rfl)
    (howed := fun _ _ => rfl) (V := V m) (hmain := hmain m Variants.none) (hA := A_eq m hO) (hpf := V_pre m)
    (hΦ := fun _ _ => rfl)

/-- Where a run ends, an array whose window is not left unnamed holds what the proof data say. -/
theorem named (hO : Ok m) (c : Dev nD) {r : PUnit × MemSt nD τ sig (Elt F)}
    (h : Pipeline.RDat.FramePost (cfgM m hO) (fun c => (dats m hO 0 c).toRForget (unnamedOut m hO)) (V m) r)
    (w : Fin (cfgM m hO).W) (hw : unnamedOut m hO w = false) :
    r.2.mem (((cfgM m hO).spec w).arr.view.loc (c.tc : Thread nD τ)) = (dats m hO 0 c).arrAt w (cfgM m hO).N :=
  ((dats m hO 0 c).toRForget_arrAt_iff hw _ _).mp ((h c).1 w)

/-- Every run ends, with the arguments as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (named m hO c h.1 0 rfl).trans (((dats m hO 0 c).arrAt_in 0 rfl _).trans ((A_eq m hO c 0).trans (V_main_arg2 m c))),
      (named m hO c h.1 1 rfl).trans (((dats m hO 0 c).arrAt_in 1 rfl _).trans ((A_eq m hO c 1).trans (V_main_arg3 m c))),
      (named m hO c h.1 2 rfl).trans (((dats m hO 0 c).arrAt_in 2 rfl _).trans ((A_eq m hO c 2).trans (V_main_arg4 m c))),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩) (run_main_quiescent m ρ hO)

end Cert.Experts.Hand

end
-- ==== Proof.ExpertsMath.lean ====
/- The routed experts' result, as a function of the argument arrays. -/
module

public import proofs.«01_k».proof.ExpertsIdeal
public import Idealize.ShloMosaic.Lib.Pointwise

@[expose] public section

noncomputable section

namespace Cert.ExpertsMath

open Idealize.ShloMosaic
open Cert.ExpertsIdeal (S319 S1 S1306624x128 S128x1024x2048 S128x1024x1024 S128x2048 S128x1024)

/-- The gated activation: gate capped at 7, up clamped to [-7, 7] plus one, times the gate's swish with slope 1.702. -/
def actE (g u : EReal) : EReal :=
  ((min (Ideal.ofBits .f32 0x40E00000#32) (max (Ideal.ofBits .f32 0xC0E00000#32) u) + 1) * min g (Ideal.ofBits .f32 0x40E00000#32))
    * Ideal.logistic (Ideal.ofBits .f32 0x3FD9DB23#32 * min g (Ideal.ofBits .f32 0x40E00000#32))

/-- One token's feed-forward at output column `n`. -/
def mlpAt (x : Fin 1024 → EReal) (wg wu wd : Fin 1024 → Fin 1024 → EReal) (bg bu bd : Fin 1024 → EReal) (n : Fin 1024) : EReal :=
  (∑ f : Fin 1024, actE ((∑ k : Fin 1024, x k * wg k f) + bg f) ((∑ k : Fin 1024, x k * wu k f) + bu f) * wd f n) + bd n

/-- Feature `k` of token `r`: eight packed rows hold a token, an even row its features 512 up, an odd row those below. -/
def tokAt (xs : FVec Ideal S1306624x128 .bf16) (r : Fin 163328) (k : Fin 1024) : EReal :=
  xs (ix2 (⟨8 * r.val + 2 * (k.val % 512 / 128) + (if k.val < 512 then 1 else 0), by have := r.isLt; split <;> omega⟩ : Fin 1306624) (⟨k.val % 128, by omega⟩ : Fin 128))

/-- Expert `e`'s feed-forward of token `r`, at column `n`: gate weights in the even columns, up weights in the odd. -/
def expAt (xs : FVec Ideal S1306624x128 .bf16) (wgu : FVec Ideal S128x1024x2048 .f32) (wd : FVec Ideal S128x1024x1024 .f32)
    (bgu : FVec Ideal S128x2048 .f32) (bd : FVec Ideal S128x1024 .f32) (e : Fin 128) (r : Fin 163328) (n : Fin 1024) : EReal :=
  mlpAt (tokAt xs r) (fun k f => wgu (ix3 e k (⟨2 * f.val, by omega⟩ : Fin 2048))) (fun k f => wgu (ix3 e k (⟨2 * f.val + 1, by omega⟩ : Fin 2048)))
    (fun f n => wd (ix3 e f n)) (fun f => bgu (ix2 e (⟨2 * f.val, by omega⟩ : Fin 2048))) (fun f => bgu (ix2 e (⟨2 * f.val + 1, by omega⟩ : Fin 2048)))
    (fun n => bd (ix2 e n)) n

/-- The expert a tile of 512 tokens is routed to. -/
def tileExp (te : IVec S319 32) (t : Fin 319) : Fin 128 := ⟨(te (ix1 t)).toNat % 128, by omega⟩

/-- The result's packed row `R` at lane `l`: the token's feed-forward by its tile's expert, zero in the tiles past the live ones. -/
def resAt (te : IVec S319 32) (nv : IVec S1 32) (xs : FVec Ideal S1306624x128 .bf16) (wgu : FVec Ideal S128x1024x2048 .f32) (wd : FVec Ideal S128x1024x1024 .f32)
    (bgu : FVec Ideal S128x2048 .f32) (bd : FVec Ideal S128x1024 .f32) (R : Fin 1306624) (l : Fin 128) : EReal :=
  if R.val / 4096 < (nv (ix1 (0 : Fin 1))).toNat then
    expAt xs wgu wd bgu bd (tileExp te ⟨R.val / 4096, by omega⟩) ⟨R.val / 8, by omega⟩ (⟨128 * (R.val % 8 / 2) + l.val + (if R.val % 2 = 0 then 512 else 0), by split <;> omega⟩ : Fin 1024)
  else 0

end Cert.ExpertsMath

end
-- ==== Proof.ExpertsOut.lean ====
/- What one step of the experts kernel stores, element by element. -/
module

public import proofs.«01_k».proof.Proof.ExpertsIdealVal
public import proofs.«01_k».proof.Proof.ExpertsMath
public import Idealize.ShloMosaic.Lib.Pointwise
public import Idealize.ShloMosaic.Lib.ValueLayout

@[expose] public section

set_option maxRecDepth 16384

noncomputable section

namespace Cert.ExpertsIdeal.Hand

open Cert.ExpertsMath
open Cert.ExpertsIdeal Cert.ExpertsIdeal.Gen Idealize.ShloMosaic Idealize.ShloMosaic.TcCoe Idealize.SL.Sem

/-- The kernel's products, bias adds, activation and second product. -/
theorem pay34_apply (X : FVec Ideal S512x1024 .bf16) (g u d : Vec Ideal S1024x1024 .bf16) (x3 x4 x5 : Vec Ideal S1x1x1024 .f32)
    (q0 q1 q2 q3 : Vec Ideal S512x2x128 .bf16) (hX : k0_pay31 q0 q1 q2 q3 = X) (r : Fin 512) (n : Fin 1024) :
    k0_pay34 X (k0_pay32 q0 q1 q2 q3 g x3) (k0_pay33 (F := Ideal)) u x4 d x5 (ix2 r n)
      = mlpAt (fun k => X (ix2 r k)) (fun k f => g (ix2 k f)) (fun k f => u (ix2 k f)) (fun f n => d (ix2 f n))
          (fun f => x3 (ix3 0 0 f)) (fun f => x4 (ix3 0 0 f)) (fun n => x5 (ix3 0 0 n)) n := by
  unfold mlpAt actE
  pointwise [k0_pay34, k0_pay32, k0_pay33, hX]

/-- A step's tokens out of the four packed pieces. -/
theorem pay31_apply (q : Fin 4 → Vec Ideal S512x2x128 .bf16) (r : Fin 512) (k : Fin 1024) :
    k0_pay31 (q 0) (q 1) (q 2) (q 3) (ix2 r k)
      = q ⟨k.val % 512 / 128, by omega⟩ (ix3 r (⟨if k.val < 512 then 1 else 0, by split <;> omega⟩ : Fin 2) (⟨k.val % 128, by omega⟩ : Fin 128)) := by
  pointwise [k0_pay31]
  have hk := k.isLt
  have key : ∀ (a : ℕ) (ha : a < 4) (b : ℕ) (hb : b < 2) (x : ℕ) (hx : x < 128), k.val % 512 / 128 = a → (if k.val < 512 then 1 else 0) = b → k.val % 128 = x →
      q ⟨a, ha⟩ (ix3 r (⟨b, hb⟩ : Fin 2) (⟨x, hx⟩ : Fin 128))
        = q ⟨k.val % 512 / 128, by omega⟩ (ix3 r (⟨if k.val < 512 then 1 else 0, by split <;> omega⟩ : Fin 2) (⟨k.val % 128, by omega⟩ : Fin 128)) := by
    intro a ha b hb x hx e1 e2 e3
    subst e1 e2 e3; rfl
  by_cases h0 : k.val < 128
  · rw [dif_pos h0]; exact key 0 (by omega) 1 (by omega) _ (by omega) (by omega) (if_pos (by omega)) (by omega)
  rw [dif_neg h0]
  by_cases h1 : k.val - 128 < 128
  · rw [dif_pos h1]; exact key 1 (by omega) 1 (by omega) _ (by omega) (by omega) (if_pos (by omega)) (by omega)
  rw [dif_neg h1]
  by_cases h2 : k.val - 128 - 128 < 128
  · rw [dif_pos h2]; exact key 2 (by omega) 1 (by omega) _ (by omega) (by omega) (if_pos (by omega)) (by omega)
  rw [dif_neg h2]
  by_cases h3 : k.val - 128 - 128 - 128 < 128
  · rw [dif_pos h3]; exact key 3 (by omega) 1 (by omega) _ (by omega) (by omega) (if_pos (by omega)) (by omega)
  rw [dif_neg h3]
  by_cases h4 : k.val - 128 - 128 - 128 - 128 < 128
  · rw [dif_pos h4]; exact key 0 (by omega) 0 (by omega) _ (by omega) (by omega) (if_neg (by omega)) (by omega)
  rw [dif_neg h4]
  by_cases h5 : k.val - 128 - 128 - 128 - 128 - 128 < 128
  · rw [dif_pos h5]; exact key 1 (by omega) 0 (by omega) _ (by omega) (by omega) (if_neg (by omega)) (by omega)
  rw [dif_neg h5]
  by_cases h6 : k.val - 128 - 128 - 128 - 128 - 128 - 128 < 128
  · rw [dif_pos h6]; exact key 2 (by omega) 0 (by omega) _ (by omega) (by omega) (if_neg (by omega)) (by omega)
  rw [dif_neg h6]
  exact key 3 (by omega) 0 (by omega) _ (by omega) (by omega) (if_neg (by omega)) (by omega)

theorem pay35_apply (v52 v58 v59 v61 v63 v79 v81) (r : Fin 512) (h : Fin 2) (l : Fin 128) :
    k0_pay35 (F := Ideal) v52 v58 v59 v61 v63 v79 v81 (ix3 r h l) = k0_pay34 v52 v58 v59 v61 v63 v79 v81 (ix2 r (⟨l.val + (if h.val = 0 then 512 else 0), by split <;> omega⟩ : Fin 1024)) := by
  pointwise [k0_pay35]
  have hh := h.isLt
  by_cases h0 : h.val = 0
  · rw [if_pos (by omega : h.val % 2 = 0)]; simp only [if_pos h0]
    exact congrArg (k0_pay34 (F := Ideal) v52 v58 v59 v61 v63 v79 v81) ((ix2_inj ..).2 ⟨rfl, Fin.ext (Nat.add_comm _ _)⟩)
  · rw [if_neg (by omega : ¬ h.val % 2 = 0)]; simp only [if_neg h0]; rfl

theorem pay7_apply (a b : FVec Ideal S512x128 .f32) (r : Fin 512) (h : Fin 2) (l : Fin 128) :
    k0_pay7 a b (ix3 r h l) = (if h.val = 0 then b else a) (ix2 r l) := by
  pointwise [k0_pay7]
  have hh := h.isLt
  by_cases h0 : h.val = 0
  · rw [if_pos (by omega : h.val % 2 = 0), if_pos h0]
  · rw [if_neg (by omega : ¬ h.val % 2 = 0), if_neg h0]

theorem gateW_apply (x1 : Vec Ideal S1x1024x2048 .f32) (x6 : Vec Ideal S256x256 .bf16) (k f : Fin 1024) :
    gateW x1 x6 (ix2 k f) = ∑ r : Fin 256, x1 (ix3 0 k (⟨256 * (f.val / 128) + r.val, by omega⟩ : Fin 2048)) * x6 (ix2 r (⟨f.val % 128, by omega⟩ : Fin 256)) := by
  unfold gateW colIn wblk colBlk
  pointwise [k0_pay12, k0_pay11]
  rfl

theorem upW_apply (x1 : Vec Ideal S1x1024x2048 .f32) (x6 : Vec Ideal S256x256 .bf16) (k f : Fin 1024) :
    upW x1 x6 (ix2 k f) = ∑ r : Fin 256, x1 (ix3 0 k (⟨256 * (f.val / 128) + r.val, by omega⟩ : Fin 2048)) * x6 (ix2 r (⟨128 + f.val % 128, by omega⟩ : Fin 256)) := by
  unfold upW colIn wblk colBlk
  pointwise [k0_pay13, k0_pay11]
  rfl

theorem pay36_apply (v52 v58 v59 v61 v63 v79 v81) (r : Fin 512) (l : Fin 128) :
    k0_pay36 (F := Ideal) v52 v58 v59 v61 v63 v79 v81 (ix2 r l) = k0_pay34 v52 v58 v59 v61 v63 v79 v81 (ix2 r (⟨128 + l.val, by omega⟩ : Fin 1024)) := by
  pointwise [k0_pay36]

theorem pay37_apply (v52 v58 v59 v61 v63 v79 v81) (r : Fin 512) (l : Fin 128) :
    k0_pay37 (F := Ideal) v52 v58 v59 v61 v63 v79 v81 (ix2 r l) = k0_pay34 v52 v58 v59 v61 v63 v79 v81 (ix2 r (⟨640 + l.val, by omega⟩ : Fin 1024)) := by
  pointwise [k0_pay37]

theorem pay8_apply (y : FVec Ideal S512x1024 .f32) (r : Fin 512) (h : Fin 2) (l : Fin 128) :
    k0_pay8 (F := Ideal) y (ix3 r h l) = if h.val % 2 = 0 then y (ix2 r (⟨768 + l.val, by omega⟩ : Fin 1024)) else y (ix2 r (⟨256 + l.val, by omega⟩ : Fin 1024)) := by
  pointwise [k0_pay8]

theorem pay9_apply (y : FVec Ideal S512x1024 .f32) (r : Fin 512) (h : Fin 2) (l : Fin 128) :
    k0_pay9 (F := Ideal) y (ix3 r h l) = if h.val % 2 = 0 then y (ix2 r (⟨896 + l.val, by omega⟩ : Fin 1024)) else y (ix2 r (⟨384 + l.val, by omega⟩ : Fin 1024)) := by
  pointwise [k0_pay9]

/-- A packed piece of the result: a row pair's even row is 512 columns up. -/
theorem piece_apply (x0 : Vec Ideal S4096x128 .bf16) (x3 x4 x5 : Vec Ideal S1x1x1024 .f32) (g u d : Vec Ideal S1024x1024 .bf16)
    (j : Fin 4) (r : Fin 512) (h : Fin 2) (l : Fin 128) :
    (![k0_pay35 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5,
    k0_pay7 (k0_pay36 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5)
      (k0_pay37 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5),
    k0_pay8 (ffn x0 x3 x4 x5 g u d), k0_pay9 (ffn x0 x3 x4 x5 g u d)] : Fin 4 → Vec Ideal S512x2x128 .bf16) j (ix3 r h l)
      = ffn x0 x3 x4 x5 g u d (ix2 r (⟨128 * j.val + l.val + (if h.val = 0 then 512 else 0), by have := j.isLt; split <;> omega⟩ : Fin 1024)) := by
  have hh := h.isLt
  have key : ∀ (a b : ℕ) (ha : a < 1024) (hb : b < 1024), a = b → ffn x0 x3 x4 x5 g u d (ix2 r (⟨a, ha⟩ : Fin 1024)) = ffn x0 x3 x4 x5 g u d (ix2 r (⟨b, hb⟩ : Fin 1024)) := by
    intro a b ha hb e; subst e; rfl
  have h4 : j = 0 ∨ j = 1 ∨ j = 2 ∨ j = 3 := by omega
  rcases h4 with rfl | rfl | rfl | rfl
  · refine (pay35_apply _ _ _ _ _ _ _ r h l).trans (key _ _ _ _ ?_)
    change l.val + _ = 128 * 0 + l.val + _; omega
  · refine (pay7_apply _ _ r h l).trans ?_
    by_cases h0 : h.val = 0
    · rw [if_pos h0]
      refine (pay37_apply _ _ _ _ _ _ _ r l).trans (key _ _ _ _ ?_)
      rw [if_pos h0]; change 640 + l.val = 128 * 1 + l.val + 512; omega
    · rw [if_neg h0]
      refine (pay36_apply _ _ _ _ _ _ _ r l).trans (key _ _ _ _ ?_)
      rw [if_neg h0]; change 128 + l.val = 128 * 1 + l.val + 0; omega
  · refine (pay8_apply _ r h l).trans ?_
    by_cases h0 : h.val = 0
    · rw [if_pos (by omega : h.val % 2 = 0)]
      refine key _ _ _ _ ?_
      rw [if_pos h0]; change 768 + l.val = 128 * 2 + l.val + 512; omega
    · rw [if_neg (by omega : ¬ h.val % 2 = 0)]
      refine key _ _ _ _ ?_
      rw [if_neg h0]; change 256 + l.val = 128 * 2 + l.val + 0; omega
  · refine (pay9_apply _ r h l).trans ?_
    by_cases h0 : h.val = 0
    · rw [if_pos (by omega : h.val % 2 = 0)]
      refine key _ _ _ _ ?_
      rw [if_pos h0]; change 896 + l.val = 128 * 3 + l.val + 512; omega
    · rw [if_neg (by omega : ¬ h.val % 2 = 0)]
      refine key _ _ _ _ ?_
      rw [if_neg h0]; change 384 + l.val = 128 * 3 + l.val + 0; omega

/-- A block's packed row read as pair, piece and parity. -/
theorem outY_apply (x0 : Vec Ideal S4096x128 .bf16) (x3 x4 x5 : Vec Ideal S1x1x1024 .f32) (g u d : Vec Ideal S1024x1024 .bf16)
    (a : Fin 4096) (l : Fin 128) :
    outY x0 x3 x4 x5 g u d (ix2 a l)
      = ffn x0 x3 x4 x5 g u d (ix2 (⟨a.val / 8, by omega⟩ : Fin 512) (⟨128 * (a.val % 8 / 2) + l.val + (if a.val % 2 = 0 then 512 else 0), by split <;> omega⟩ : Fin 1024)) := by
  have e : (Shape.reshapeEquiv reshapes_S4096x128_S2048x2x128.1).symm (ix2 a l : S4096x128.Idx) = (ix3 (⟨a.val / 2, by omega⟩ : Fin 2048) (⟨a.val % 2, by omega⟩ : Fin 2) l : S2048x2x128.Idx) := by
    rw [Shape.reshapeEquiv_symm]
    refine Shape.reshapeEquiv_eq_of_rowMajor _ ?_
    rw [Shape.rowMajor_val_three, Shape.rowMajor_val_two]
    change (a.val / 2 * 2 + a.val % 2) * 128 + l.val = a.val * 128 + l.val
    omega
  refine (congrArg (weaveAt _) e).trans ?_
  refine (piece_apply x0 x3 x4 x5 g u d ⟨a.val / 2 % 4, by omega⟩ ⟨a.val / 2 / 4, by omega⟩ ⟨a.val % 2, by omega⟩ l).trans ?_
  refine congrArg (ffn x0 x3 x4 x5 g u d) ((ix2_inj ..).2 ⟨Fin.ext ?_, Fin.ext ?_⟩)
  · change a.val / 2 / 4 = a.val / 8; omega
  · change 128 * (a.val / 2 % 4) + l.val + (if a.val % 2 = 0 then 512 else 0) = 128 * (a.val % 8 / 2) + l.val + (if a.val % 2 = 0 then 512 else 0); omega

/-- A packed piece of the tokens. -/
theorem tokQ_apply (x0 : Vec Ideal S4096x128 .bf16) (j : Fin 4) (r : Fin 512) (h : Fin 2) (l : Fin 128) :
    tokQ x0 j (ix3 r h l) = x0 (ix2 (⟨8 * r.val + 2 * j.val + h.val, by omega⟩ : Fin 4096) l) := by
  have e : Shape.reshapeEquiv reshapes_S4096x128_S2048x2x128.1 (ix3 (⟨4 * r.val + j.val, by omega⟩ : Fin 2048) h l : S2048x2x128.Idx) = (ix2 (⟨8 * r.val + 2 * j.val + h.val, by omega⟩ : Fin 4096) l : S4096x128.Idx) := by
    refine Shape.reshapeEquiv_eq_of_rowMajor _ ?_
    rw [Shape.rowMajor_val_three, Shape.rowMajor_val_two]
    change (8 * r.val + 2 * j.val + h.val) * 128 + l.val = ((4 * r.val + j.val) * 2 + h.val) * 128 + l.val
    omega
  exact congrArg x0 e

/-- One step's result row from the token rows and weights in its blocks. -/
theorem ffn_apply (x0 : Vec Ideal S4096x128 .bf16) (x3 x4 x5 : Vec Ideal S1x1x1024 .f32) (g u d : Vec Ideal S1024x1024 .bf16) (r : Fin 512) (n : Fin 1024) :
    ffn x0 x3 x4 x5 g u d (ix2 r n)
      = mlpAt (fun k => x0 (ix2 (⟨8 * r.val + 2 * (k.val % 512 / 128) + (if k.val < 512 then 1 else 0), by split <;> omega⟩ : Fin 4096) (⟨k.val % 128, by omega⟩ : Fin 128)))
          (fun k f => g (ix2 k f)) (fun k f => u (ix2 k f)) (fun f n => d (ix2 f n))
          (fun f => x3 (ix3 0 0 f)) (fun f => x4 (ix3 0 0 f)) (fun n => x5 (ix3 0 0 n)) n := by
  refine (pay34_apply _ g u d x3 x4 x5 _ _ _ _ rfl r n).trans ?_
  refine congrArg (fun x => mlpAt x _ _ _ _ _ _ n) (funext fun k => ?_)
  exact (pay31_apply (tokQ x0) r k).trans (tokQ_apply x0 _ r _ _)

end Cert.ExpertsIdeal.Hand

end
-- ==== Proof.ExpertsHost.lean ====
/- The host's operands of the experts kernel: the split biases and the selector. -/
module

public import proofs.«01_k».proof.Proof.ExpertsIdealTab
public import Idealize.ShloMosaic.Lib.Pipeline.ValueKit
public import Idealize.ShloMosaic.Lib.Pointwise

@[expose] public section

set_option maxRecDepth 16384

noncomputable section

namespace Cert.ExpertsIdeal.Hand

open Cert.ExpertsIdeal Cert.ExpertsIdeal.Gen Idealize.ShloMosaic Idealize.ShloMosaic.TcCoe Idealize.SL.Sem

variable (m : (ℓ : Loc nD τ sig) → Buf (Elt Ideal) ℓ)

theorem V1_apply (c : Dev nD) (e : Fin 128) (f : Fin 1024) :
    (V m c main_v1 : Vec Ideal S128x1x1024 .f32) (ix3 e (0 : Fin 1) f)
      = (m ((c : Thread nD τ).loc main_arg5) : Vec Ideal S128x2048 .f32) (ix2 e (⟨2 * f.val, by omega⟩ : Fin 2048)) := by
  unfold V
  simp only [hostOps0, hostOps0_1, hostOps0_2, List.flatten_cons, List.flatten_nil, List.append_nil, List.cons_append, List.nil_append]
  entry_read
  pointwise []

theorem V2_apply (c : Dev nD) (e : Fin 128) (f : Fin 1024) :
    (V m c main_v2 : Vec Ideal S128x1x1024 .f32) (ix3 e (0 : Fin 1) f)
      = (m ((c : Thread nD τ).loc main_arg5) : Vec Ideal S128x2048 .f32) (ix2 e (⟨2 * f.val + 1, by omega⟩ : Fin 2048)) := by
  unfold V
  simp only [hostOps0, hostOps0_1, hostOps0_2, List.flatten_cons, List.flatten_nil, List.append_nil, List.cons_append, List.nil_append]
  entry_read
  pointwise []
  exact congrArg (m ((c : Thread nD τ).loc main_arg5) : Vec Ideal S128x2048 .f32) ((ix2_inj ..).2 ⟨rfl, Fin.ext (Nat.add_comm _ _)⟩)

theorem V3_apply (c : Dev nD) (e : Fin 128) (f : Fin 1024) :
    (V m c main_v3 : Vec Ideal S128x1x1024 .f32) (ix3 e (0 : Fin 1) f)
      = (m ((c : Thread nD τ).loc main_arg6) : Vec Ideal S128x1024 .f32) (ix2 e f) := by
  unfold V
  simp only [hostOps0, hostOps0_1, hostOps0_2, List.flatten_cons, List.flatten_nil, List.append_nil, List.cons_append, List.nil_append]
  entry_read
  pointwise []

/-- The column of 256 the selector's column `l` picks, as the host computes it. -/
def colWord (l : Fin 256) : BitVec 32 :=
  Scalar.select (IntOp.cmpi .slt (BitVec.ofNat 32 l.val) 128#32) (IntOp.muli 2#32 (BitVec.ofNat 32 l.val))
    (IntOp.addi (IntOp.muli 2#32 (IntOp.subi (BitVec.ofNat 32 l.val) 128#32)) 1#32)

/-- It is twice `l` in the first half, twice the rest plus one in the second. -/
theorem colWord_eq (l : Fin 256) : colWord l = BitVec.ofNat 32 (if l.val < 128 then 2 * l.val else 2 * (l.val - 128) + 1) := by
  revert l; decide +kernel

theorem V21_apply (c : Dev nD) (r l : Fin 256) :
    (V m c main_v21 : Vec Ideal S256x256 .bf16) (ix2 r l)
      = if r.val = (if l.val < 128 then 2 * l.val else 2 * (l.val - 128) + 1) then (1 : EReal) else 0 := by
  unfold V
  simp only [hostOps0, hostOps0_1, hostOps0_2, List.flatten_cons, List.flatten_nil, List.append_nil, List.cons_append, List.nil_append]
  entry_read
  pointwise []
  change (FloatOps.uitofp .bf16 (IntOp.cmpi .eq (BitVec.ofNat 32 r.val) (colWord l)) : Ideal .bf16) = _
  rw [colWord_eq]
  by_cases h : r.val = (if l.val < 128 then 2 * l.val else 2 * (l.val - 128) + 1)
  · rw [if_pos h, ← h]
    have e : IntOp.cmpi .eq (BitVec.ofNat 32 r.val) (BitVec.ofNat 32 r.val) = 1#1 := by unfold IntOp.cmpi; simp
    rw [e]; simp [FloatOps.uitofp]
  · rw [if_neg h]
    have hl := l.isLt
    have hr := r.isLt
    have hn : (if l.val < 128 then 2 * l.val else 2 * (l.val - 128) + 1) < 256 := by split <;> omega
    generalize (if l.val < 128 then 2 * l.val else 2 * (l.val - 128) + 1) = n at h hn
    have hne : ¬ BitVec.ofNat 32 r.val = BitVec.ofNat 32 n := by
      intro e
      have := congrArg BitVec.toNat e
      simp only [BitVec.toNat_ofNat] at this
      omega
    have e : IntOp.cmpi .eq (BitVec.ofNat 32 r.val) (BitVec.ofNat 32 n) = 0#1 := by unfold IntOp.cmpi; change BitVec.ofBool (BitVec.ofNat 32 r.val == BitVec.ofNat 32 n) = 0#1; rw [beq_eq_false_iff_ne.2 hne]; rfl
    rw [e]; simp [FloatOps.uitofp]

end Cert.ExpertsIdeal.Hand

end
-- ==== Proof.ExpertsIdealBlk.lean ====
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.ExpertsIdealKit
public import proofs.«01_k».proof.Proof.ExpertsIdealTab
public import Idealize.ShloMosaic.Lib.ValueIdxCoords
public import Idealize.ShloMosaic.Lib.Pipeline.Value
@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
variable (m : (ℓ : Loc nD τ sig) → Buf (Elt F) ℓ)

theorem pt_lt (hO : Ok m) (t : Fin (cfgM m hO).N) : t.val < 319 := lt_of_lt_of_eq t.isLt (show (cfgM m hO).N = 319 from N_0)

/-- The tile of a grid point. -/
abbrev tileT (hO : Ok m) (t : Fin (cfgM m hO).N) : Fin 319 := ⟨t.val, pt_lt m hO t⟩

theorem coords_val (hO : Ok m) (t : Fin (cfgM m hO).N) : (grid0.coords t 0).val = t.val := by
  have h := Pipeline.Grid.coords_val (G := grid0) t 0 (S := 1) (B := 319) (by decide) rfl
  have ht := pt_lt m hO t
  rw [h]; omega

theorem tile_coords (hO : Ok m) (t : Fin (cfgM m hO).N) : tile (grid0.coords t) = tileT m hO t := Fin.ext (coords_val m hO t)

/-- The tokens' block at a point. -/
theorem blk0 (hR : InRange m) (hO : Ok m) (c : Dev nD) (t : Fin (cfgM m hO).N) (z : S4096x128.Idx) :
    (iblk m hO c 0 t : Vec F S4096x128 .bf16) z
      = (V m c main_arg2 : Vec F S1306624x128 .bf16) (ix2 (⟨min t.val ((nvN m).toNat - 1) * 4096 + (z 0).val, by have := pt_lt m hO t; have h : (z 0).val < 4096 := (z 0).isLt; omega⟩ : Fin 1306624) (z 1 : Fin 128)) := by
  unfold iblk
  refine congrArg (V m c main_arg2) (funext fun a => Fin.ext ?_)
  refine (Pipeline.Window.rect_emb_val ((cfgM m hO).win 0) t z a).trans ?_
  have hT : ((cfgM m hO).win 0).index t = ![min t.val ((nvN m).toNat - 1), 0] := (transform_0 m hR (grid0.coords t)).trans (by rw [coords_val m hO t])
  rw [hT]
  fin_cases a
  · rfl
  · change 0 * 128 + (z 1).val = (z 1).val; omega

/-- The expert's fused weights at a point. -/
theorem blk1 (hR : InRange m) (hO : Ok m) (c : Dev nD) (t : Fin (cfgM m hO).N) (z : S1x1024x2048.Idx) :
    (iblk m hO c 1 t : Vec F S1x1024x2048 .f32) z
      = (V m c main_arg3 : Vec F S128x1024x2048 .f32) (ix3 (⟨(teN m (tileT m hO t)).toNat, hR.te _⟩ : Fin 128) (z 1 : Fin 1024) (z 2 : Fin 2048)) := by
  unfold iblk
  refine congrArg (V m c main_arg3) (funext fun a => Fin.ext ?_)
  refine (Pipeline.Window.rect_emb_val ((cfgM m hO).win 1) t z a).trans ?_
  have hT : ((cfgM m hO).win 1).index t = ![(teN m (tileT m hO t)).toNat, 0, 0] := (transform_1 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1024 + (z 1).val = (z 1).val; omega
  · change 0 * 2048 + (z 2).val = (z 2).val; omega

/-- The expert's down weights at a point. -/
theorem blk2 (hR : InRange m) (hO : Ok m) (c : Dev nD) (t : Fin (cfgM m hO).N) (z : S1x1024x1024.Idx) :
    (iblk m hO c 2 t : Vec F S1x1024x1024 .f32) z
      = (V m c main_arg4 : Vec F S128x1024x1024 .f32) (ix3 (⟨(teN m (tileT m hO t)).toNat, hR.te _⟩ : Fin 128) (z 1 : Fin 1024) (z 2 : Fin 1024)) := by
  unfold iblk
  refine congrArg (V m c main_arg4) (funext fun a => Fin.ext ?_)
  refine (Pipeline.Window.rect_emb_val ((cfgM m hO).win 2) t z a).trans ?_
  have hT : ((cfgM m hO).win 2).index t = ![(teN m (tileT m hO t)).toNat, 0, 0] := (transform_2 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1024 + (z 1).val = (z 1).val; omega
  · change 0 * 1024 + (z 2).val = (z 2).val; omega

/-- The expert's gate biases at a point. -/
theorem blk3 (hR : InRange m) (hO : Ok m) (c : Dev nD) (t : Fin (cfgM m hO).N) (z : S1x1x1024.Idx) :
    (iblk m hO c 3 t : Vec F S1x1x1024 .f32) z
      = (V m c main_v1 : Vec F S128x1x1024 .f32) (ix3 (⟨(teN m (tileT m hO t)).toNat, hR.te _⟩ : Fin 128) (z 1 : Fin 1) (z 2 : Fin 1024)) := by
  unfold iblk
  refine congrArg (V m c main_v1) (funext fun a => Fin.ext ?_)
  refine (Pipeline.Window.rect_emb_val ((cfgM m hO).win 3) t z a).trans ?_
  have hT : ((cfgM m hO).win 3).index t = ![(teN m (tileT m hO t)).toNat, 0, 0] := (transform_3 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The expert's up biases at a point. -/
theorem blk4 (hR : InRange m) (hO : Ok m) (c : Dev nD) (t : Fin (cfgM m hO).N) (z : S1x1x1024.Idx) :
    (iblk m hO c 4 t : Vec F S1x1x1024 .f32) z
      = (V m c main_v2 : Vec F S128x1x1024 .f32) (ix3 (⟨(teN m (tileT m hO t)).toNat, hR.te _⟩ : Fin 128) (z 1 : Fin 1) (z 2 : Fin 1024)) := by
  unfold iblk
  refine congrArg (V m c main_v2) (funext fun a => Fin.ext ?_)
  refine (Pipeline.Window.rect_emb_val ((cfgM m hO).win 4) t z a).trans ?_
  have hT : ((cfgM m hO).win 4).index t = ![(teN m (tileT m hO t)).toNat, 0, 0] := (transform_4 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The expert's down biases at a point. -/
theorem blk5 (hR : InRange m) (hO : Ok m) (c : Dev nD) (t : Fin (cfgM m hO).N) (z : S1x1x1024.Idx) :
    (iblk m hO c 5 t : Vec F S1x1x1024 .f32) z
      = (V m c main_v3 : Vec F S128x1x1024 .f32) (ix3 (⟨(teN m (tileT m hO t)).toNat, hR.te _⟩ : Fin 128) (z 1 : Fin 1) (z 2 : Fin 1024)) := by
  unfold iblk
  refine congrArg (V m c main_v3) (funext fun a => Fin.ext ?_)
  refine (Pipeline.Window.rect_emb_val ((cfgM m hO).win 5) t z a).trans ?_
  have hT : ((cfgM m hO).win 5).index t = ![(teN m (tileT m hO t)).toNat, 0, 0] := (transform_5 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The selector at a point: the whole of it. -/
theorem blk6 (hO : Ok m) (c : Dev nD) (t : Fin (cfgM m hO).N) (z : S256x256.Idx) :
    (iblk m hO c 6 t : Vec F S256x256 .bf16) z = (V m c main_v21 : Vec F S256x256 .bf16) z := by
  unfold iblk
  refine congrArg (V m c main_v21) (funext fun a => Fin.ext ?_)
  refine (Pipeline.Window.rect_emb_val ((cfgM m hO).win 6) t z a).trans ?_
  fin_cases a
  · change 0 * 256 + (z 0).val = (z 0).val; omega
  · change 0 * 256 + (z 1).val = (z 1).val; omega

/-- The weights the scratch holds while a point's expert is at work. -/
def gW (hO : Ok m) (c : Dev nD) (t : Fin (cfgM m hO).N) : Vec F S1024x1024 .bf16 := gateW (iblk m hO c 1 t) (iblk m hO c 6 t)
def uW (hO : Ok m) (c : Dev nD) (t : Fin (cfgM m hO).N) : Vec F S1024x1024 .bf16 := upW (iblk m hO c 1 t) (iblk m hO c 6 t)
def dW (hO : Ok m) (c : Dev nD) (t : Fin (cfgM m hO).N) : Vec F S1024x1024 .bf16 := k0_pay6 (iblk m hO c 2 t)

/-- Two points of one expert have the same weights. -/
theorem weights_eq (hR : InRange m) (hO : Ok m) (c : Dev nD) (t t' : Fin (cfgM m hO).N) (h : teN m (tileT m hO t) = teN m (tileT m hO t')) :
    gW m hO c t = gW m hO c t' ∧ uW m hO c t = uW m hO c t' ∧ dW m hO c t = dW m hO c t' := by
  have e1 : (iblk m hO c 1 t : Vec F S1x1024x2048 .f32) = iblk m hO c 1 t' := by
    refine funext fun z : S1x1024x2048.Idx => (blk1 m hR hO c t z).trans (Eq.trans ?_ (blk1 m hR hO c t' z).symm)
    exact congrArg (fun e : Fin 128 => (V m c main_arg3 : Vec F S128x1024x2048 .f32) (ix3 e (z 1) (z 2))) (Fin.ext (congrArg BitVec.toNat h))
  have e2 : (iblk m hO c 2 t : Vec F S1x1024x1024 .f32) = iblk m hO c 2 t' := by
    refine funext fun z : S1x1024x1024.Idx => (blk2 m hR hO c t z).trans (Eq.trans ?_ (blk2 m hR hO c t' z).symm)
    exact congrArg (fun e : Fin 128 => (V m c main_arg4 : Vec F S128x1024x1024 .f32) (ix3 e (z 1) (z 2))) (Fin.ext (congrArg BitVec.toNat h))
  have e6 : (iblk m hO c 6 t : Vec F S256x256 .bf16) = iblk m hO c 6 t' := by
    exact funext fun z : S256x256.Idx => (blk6 m hO c t z).trans (blk6 m hO c t' z).symm
  exact ⟨congrArg₂ gateW e1 e6, congrArg₂ upW e1 e6, congrArg k0_pay6 e2⟩

/-- What a point leaves in its block of the result: the experts' layer of its tokens, or zeros past the last tile that holds any. -/
def outAt (hO : Ok m) (c : Dev nD) (t : Fin (cfgM m hO).N) : Vec F S4096x128 .bf16 :=
  if t.val < (nvN m).toNat then
    outY (iblk m hO c 0 t) (iblk m hO c 3 t) (iblk m hO c 4 t) (iblk m hO c 5 t) (gW m hO c t) (uW m hO c t) (dW m hO c t)
  else k0_pay10

end Cert.ExpertsIdeal.Hand

end
-- ==== Proof.ExpertsIdealRunA.lean ====
module

public import proofs.«01_k».proof.Proof.Gen.ExpertsIdeal
public import proofs.«01_k».proof.Proof.Gen.ExpertsIdeal.Launch
public import proofs.«01_k».proof.Proof.Gen.ExpertsIdeal.Skeleton
public import proofs.«01_k».proof.Proof.ExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step that starts an expert: the three scratch buffers receive the expert's weights, and the output block the feed-forward of the step's tokens. -/
theorem runA (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : condL i (nvW c xt1) (teW c i xt0) (tpW c i xt0)) (h2 : k0_cond2 i (nvW c xt1) = 1#1) (h3 : ¬ k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (outY x0 x3 x4 x5 (gateW x1 x6) (upW x1 x6) (k0_pay6 x2)) ∗ owns (c : Thread nD τ) arg11 fullShare (gateW x1 x6) ∗ owns (c : Thread nD τ) arg12 fullShare (upW x1 x6) ∗ owns (c : Thread nD τ) arg13 fullShare (k0_pay6 x2)
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  set_option sl_exec.stopBefore "k0_cond2" in
  sl_exec (disch := first | sl_exact hl | sl_exact h2 | sl_exact h3)
  rw [gate_writes arg4 harg4 arg9 harg9 arg11 harg11 _ x1 x6 _ ?hG, up_writes arg4 harg4 arg9 harg9 arg12 harg12 _ x1 x6 _ ?hU, down_writes arg5 harg5 arg13 harg13 _ x2 _ ?hD]
  case hG => rfl
  case hU => rfl
  case hD => rfl
  unfold runA.sl.r
  rw [dif_pos h2]
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine read_out arg10 _ f7 _ _ _ _ x0 x3 x4 x5 (gateW x1 x6) (upW x1 x6) (k0_pay6 x2) _ _ _ _ _ _ _ _ _ _ ?_ ?_ ?_ ?_ ?_ ?_ ?_ ?_ ?_ ?_
    · exact readAt_quarter arg3 harg3 _ x0 0 _
    · exact readAt_quarter arg3 harg3 _ x0 1 _
    · exact readAt_quarter arg3 harg3 _ x0 2 _
    · exact readAt_quarter arg3 harg3 _ x0 3 _
    · exact readAt_all arg6 harg6 _ x3
    · exact readAt_all arg7 harg7 _ x4
    · exact readAt_all arg8 harg8 _ x5
    · exact readAt_all arg11 harg11 _ _
    · exact readAt_all arg12 harg12 _ _
    · exact readAt_all arg13 harg13 _ _
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.ExpertsIdeal.Hand

end
-- ==== Proof.ExpertsIdealRunB.lean ====
module

public import proofs.«01_k».proof.Proof.Gen.ExpertsIdeal
public import proofs.«01_k».proof.Proof.Gen.ExpertsIdeal.Launch
public import proofs.«01_k».proof.Proof.Gen.ExpertsIdeal.Skeleton
public import proofs.«01_k».proof.Proof.ExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step that goes on with the expert of the step before: the scratch buffers stay as they are. -/
theorem runB (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : ¬ condL i (nvW c xt1) (teW c i xt0) (tpW c i xt0)) (h2 : k0_cond2 i (nvW c xt1) = 1#1) (h3 : ¬ k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (outY x0 x3 x4 x5 g u d) ∗ owns (c : Thread nD τ) arg11 fullShare g ∗ owns (c : Thread nD τ) arg12 fullShare u ∗ owns (c : Thread nD τ) arg13 fullShare d
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine read_out arg10 _ f7 _ _ _ _ x0 x3 x4 x5 g u d _ _ _ _ _ _ _ _ _ _ ?_ ?_ ?_ ?_ ?_ ?_ ?_ ?_ ?_ ?_
    · exact readAt_quarter arg3 harg3 _ x0 0 _
    · exact readAt_quarter arg3 harg3 _ x0 1 _
    · exact readAt_quarter arg3 harg3 _ x0 2 _
    · exact readAt_quarter arg3 harg3 _ x0 3 _
    · exact readAt_all arg6 harg6 _ x3
    · exact readAt_all arg7 harg7 _ x4
    · exact readAt_all arg8 harg8 _ x5
    · exact readAt_all arg11 harg11 _ _
    · exact readAt_all arg12 harg12 _ _
    · exact readAt_all arg13 harg13 _ _
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.ExpertsIdeal.Hand

end
-- ==== Proof.ExpertsIdealRunC.lean ====
module

public import proofs.«01_k».proof.Proof.Gen.ExpertsIdeal
public import proofs.«01_k».proof.Proof.Gen.ExpertsIdeal.Launch
public import proofs.«01_k».proof.Proof.Gen.ExpertsIdeal.Skeleton
public import proofs.«01_k».proof.Proof.ExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step past the last expert tile: its output block is zeroed. -/
theorem runC (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : ¬ condL i (nvW c xt1) (teW c i xt0) (tpW c i xt0)) (h2 : ¬ k0_cond2 i (nvW c xt1) = 1#1) (h3 : k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (k0_pay10 (F := F)) ∗ owns (c : Thread nD τ) arg11 fullShare g ∗ owns (c : Thread nD τ) arg12 fullShare u ∗ owns (c : Thread nD τ) arg13 fullShare d
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns

  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact read_zero arg10 f7
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.ExpertsIdeal.Hand

end
-- ==== Proof.ExpertsIdealFrame.lean ====
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.ExpertsIdealKit
public import proofs.«01_k».proof.Proof.ExpertsIdealTab
public import proofs.«01_k».proof.Proof.ExpertsIdealBlk
public import proofs.«01_k».proof.Proof.ExpertsIdealRunA
public import proofs.«01_k».proof.Proof.ExpertsIdealRunB
public import proofs.«01_k».proof.Proof.ExpertsIdealRunC
public import Idealize.ShloMosaic.Lib.ValueIdxCoords
public import Idealize.ShloMosaic.Lib.Pipeline.Value
@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is known of the three scratch buffers before point `n`: if the point before had tokens, they hold that point's weights. -/
def Held (hO : Ok m) (c : Dev nD) (n : ℕ) (g u d : Vec F S1024x1024 .bf16) : Prop :=
  ∀ t : Fin (cfgM m hO).N, t.val + 1 = n → t.val < (nvN m).toNat → g = gW m hO c t ∧ u = uW m hO c t ∧ d = dW m hO c t

/-- What stands before point `n`. -/
def PhiS (hO : Ok m) (c : Dev nD) (n : ℕ) : sProp 𝕄 :=
  iprop(∃ g u d, ⌜Held m hO c n g u d⌝
    ∗ ((owns (c : Thread nD τ) scM0_0 fullShare g ∗ owns (c : Thread nD τ) scM0_1 fullShare u ∗ owns (c : Thread nD τ) scM0_2 fullShare d) ∗ (∃ r, prngReg c r))
    ∗ Pipeline.ΦT pre0 (tbl m) c)

/-- The proof data: each operand's buffer keeps its block, the output's is left at the point's result. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 6400000 in
/-- The body at any point. -/
theorem sound_body (hR : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hn := nvW_eq m c
  have hte := teW_eq m c (grid0.coords t)
  have hc := coords_val m hO t
  have ht := pt_lt m hO t
  have hone := hR.one
  have c2 := cond2_iff m hR (grid0.coords t)
  have c3 := cond3_iff m hR (grid0.coords t)
  have cL := condL_iff m hR (grid0.coords t) (teW (F := F) c (grid0.coords t) (tbl m 0)) (tpW (F := F) c (grid0.coords t) (tbl m 0))
  rw [hc] at c2 c3 cL
  rw [← hn] at c2 c3 cL
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) from rfl, show (dats m hO 0 c).Φ t.castSucc = PhiS m hO c t.val from rfl]
  unfold PhiS
  rw [PhiT0_eq]
  iintro ⟨⟨%g, %u, %d, %hH, ⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hv : t.val < (nvW (F := F) c (tbl m 1)).toNat
  · have ho : outAt m hO c t = outY (iblk m hO c 0 t) (iblk m hO c 3 t) (iblk m hO c 4 t) (iblk m hO c 5 t) (gW m hO c t) (uW m hO c t) (dW m hO c t) := if_pos (hn ▸ hv)
    rw [ho]
    by_cases hl : condL (grid0.coords t) (nvW (F := F) c (tbl m 1)) (teW (F := F) c (grid0.coords t) (tbl m 0)) (tpW (F := F) c (grid0.coords t) (tbl m 0))
    · iapply (runA c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hl (c2.mpr hv) (fun h => c3.mp h hv) g u d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · iexists _, _, _
        isplitr; swap
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        ipureintro
        intro t' e _; obtain rfl : t' = t := Fin.ext (by omega); exact ⟨rfl, rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := fun h => hl (cL.mpr ⟨hv, .inl h⟩)
      have hsame : teW (F := F) c (grid0.coords t) (tbl m 0) = tpW (F := F) c (grid0.coords t) (tbl m 0) := by
        by_contra h; exact hl (cL.mpr ⟨hv, .inr h⟩)
      have htp := tpW_eq m c (grid0.coords t) (by rw [hc]; exact hz)
      rw [hte, htp, tile_coords m hO t] at hsame
      have hsame' : teN m (tileT m hO t) = teN m (tileT m hO ⟨t.val - 1, by omega⟩) :=
        hsame.trans (congrArg (teN m) (Fin.ext (by change (grid0.coords t 0).val - 1 = t.val - 1; rw [hc])))
      obtain ⟨e1, e2, e3⟩ := weights_eq m hR hO c _ _ hsame'
      obtain ⟨q1, q2, q3⟩ := hH ⟨t.val - 1, by omega⟩ (by change t.val - 1 + 1 = t.val; omega) (by rw [← hn]; change t.val - 1 < _; omega)
      rw [e1, e2, e3, ← q1, ← q2, ← q3]
      iapply (runB c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hl (c2.mpr hv) (fun h => c3.mp h hv) g u d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · iexists _, _, _
        isplitr; swap
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        ipureintro
        intro t' e _; obtain rfl : t' = t := Fin.ext (by omega); exact ⟨q1.trans e1.symm, q2.trans e2.symm, q3.trans e3.symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have ho : outAt m hO c t = k0_pay10 := if_neg (hn ▸ hv)
    rw [ho]
    iapply (runC c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (fun h => hv (cL.mp h).1) (fun h => hv (c2.mp h)) (c3.mpr hv) g u d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · iexists _, _, _
      isplitr; swap
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      ipureintro
      intro t' e h; obtain rfl : t' = t := Fin.ext (by omega); exact absurd (hn ▸ h) hv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s buffers is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem one_holds (b : BitVec 1) : (!(Scalar.cmpi .ne (Scalar.extui b : BitVec 32) 0#32 == 1#1) && !(Scalar.cmpi .ne (Scalar.extui (Scalar.xori b 1#1) : BitVec 32) 0#32 == 1#1)) = false := by
  revert b; decide

/-- Whatever the count, one of the two stores of the output is made. -/
theorem idle_word (i : grid0.Coords) (x : BitVec 32) : (!(k0_cond2 i x == 1#1) && !(k0_cond3 i x == 1#1)) = false :=
  one_holds (Scalar.cmpi .slt (BitVec.ofNat 32 (i 0).val) x)

theorem idle_at (pf : pre0.Contents (Elt F)) (i : grid0.Coords) : idle0 (F := F) pf 7 i = (!(k0_cond2 i (pf.atD 1 ![0]) == 1#1) && !(k0_cond3 i (pf.atD 1 ![0]) == 1#1)) := rfl

/-- No point leaves the output's buffer alone. -/
theorem never_idle (pf : pre0.Contents (Elt F)) (i : grid0.Coords) : idle0 (F := F) pf 7 i = false := (idle_at pf i).trans (idle_word _ _)

/-- The pipeline's demand on the body, at every point. -/
theorem body_obligation (hR : InRange m) (hO : Ok m) (c : Dev nD) : BodyObligation (dats (F := F) m hO 0 c) (defs₀ (F := F)) Variants.none () Set.univ := fun t => by
  rw [bigSep_W0, bigSep_W0, defs₀_row m hO]
  refine triple_restated (sound_body m hR hO c t) rfl .rfl fun _ => ?_
  unfold bodyPost
  iintro ⟨H, Ho, H0, H1, H2, H3, H4, H5, H6, H7⟩
  isplitl [H]; · iexact H
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  simp only []
  rw [show idle0 (F := F) (tbl m) 7 ((pcfg0.gridAt (tbl m)).coords t) = false from never_idle (tbl m) (grid0.coords t)]
  iexact H7

/-- What the launch hands over stands before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%g, HS0⟩, ⟨%u, HS1⟩, ⟨%d, HS2⟩⟩, Hg⟩, HT⟩
  iexists g, u, d
  isplitr
  · ipureintro; intro t h; exact absurd h (Nat.succ_ne_zero _)
  isplitl [HS0 HS1 HS2 Hg]
  · isplitl [HS0 HS1 HS2]
    · isplitl [HS0]
      · iexact HS0
      isplitl [HS1]
      · iexact HS1
      iexact HS2
    iexact Hg
  iexact HT

/-- What stands after the last point gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨%g, %u, %d, -, ⟨⟨HS0, HS1, HS2⟩, Hg⟩, -⟩
  isplitl [HS0 HS1 HS2]
  · isplitl [HS0]
    · iexists _; iexact HS0
    isplitl [HS1]
    · iexists _; iexact HS1
    iexists _; iexact HS2
  iexact Hg

set_option maxHeartbeats 3200000 in
set_option backward.isDefEq.respectTransparency.types false in
/-- Every run ends, with each array at what the proof data say and every counter at zero. -/
theorem run_main_quiescent (hR : InRange m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hR hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hR : InRange m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hR hO)

/-- Every run ends with the arguments as launched. -/
theorem unchanged (hR : InRange m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hR hO)

/-- Every run ends, with the arguments as launched and every counter at zero. -/
theorem frame (hR : InRange m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hR hO) ((θ_run defs _ _).mono (fun _ h => h.2) (run_main_quiescent m ρ hR hO))

end Cert.ExpertsIdeal.Hand

end
-- ==== Proof.ExpertsFinal.lean ====
/- The kernel's result is the routed experts' result. -/
module

public import proofs.«01_k».proof.Proof.ExpertsOut
public import proofs.«01_k».proof.Proof.ExpertsHost
public import proofs.«01_k».proof.Proof.ExpertsIdealFrame
public import Idealize.ShloMosaic.Lib.IdealHost

@[expose] public section

set_option maxRecDepth 16384

noncomputable section

namespace Cert.ExpertsIdeal.Hand

open Cert.ExpertsMath
open Cert.ExpertsIdeal Cert.ExpertsIdeal.Gen Idealize.ShloMosaic Idealize.ShloMosaic.TcCoe Idealize.SL.Sem

variable (m : (ℓ : Loc nD τ sig) → Buf (Elt Ideal) ℓ)

/-- The arguments. -/
abbrev A0 (c : Dev nD) : IVec S319 32 := m ((c : Thread nD τ).loc main_arg0)
abbrev A1 (c : Dev nD) : IVec S1 32 := m ((c : Thread nD τ).loc main_arg1)
abbrev A2 (c : Dev nD) : FVec Ideal S1306624x128 .bf16 := m ((c : Thread nD τ).loc main_arg2)
abbrev A3 (c : Dev nD) : FVec Ideal S128x1024x2048 .f32 := m ((c : Thread nD τ).loc main_arg3)
abbrev A4 (c : Dev nD) : FVec Ideal S128x1024x1024 .f32 := m ((c : Thread nD τ).loc main_arg4)
abbrev A5 (c : Dev nD) : FVec Ideal S128x2048 .f32 := m ((c : Thread nD τ).loc main_arg5)
abbrev A6 (c : Dev nD) : FVec Ideal S128x1024 .f32 := m ((c : Thread nD τ).loc main_arg6)

/-- The table's entry of a tile, as the argument holds it. -/
theorem teN_eq (c : Dev nD) (t : Fin 319) : teN m t = A0 m c (ix1 t) := by
  obtain rfl : c = 0 := Subsingleton.elim _ _
  refine Eq.trans (b := (V m 0 main_arg0 : IVec S319 32) (ix1 t)) ?_ (congrFun (V_main_arg0 m 0) (ix1 t))
  refine congrArg (V m 0 main_arg0 : IVec S319 32) (funext fun a => ?_)
  fin_cases a; rfl

/-- The count of live tiles, as the argument holds it. -/
theorem nvN_eq (c : Dev nD) : nvN m = A1 m c (ix1 (0 : Fin 1)) := by
  obtain rfl : c = 0 := Subsingleton.elim _ _
  refine Eq.trans (b := (V m 0 main_arg1 : IVec S1 32) (ix1 (0 : Fin 1))) ?_ (congrFun (V_main_arg1 m 0) (ix1 (0 : Fin 1)))
  refine congrArg (V m 0 main_arg1 : IVec S1 32) (funext fun a => ?_)
  fin_cases a; rfl

variable (hR : InRange m) (hO : Ok m) (c : Dev nD) (t : Fin (cfgM m hO).N)

/-- The expert at work at a point. -/
theorem exp_eq : (⟨(teN m (tileT m hO t)).toNat, hR.te _⟩ : Fin 128) = tileExp (A0 m c) (tileT m hO t) := by
  refine Fin.ext ?_
  change (teN m (tileT m hO t)).toNat = (A0 m c (ix1 (tileT m hO t))).toNat % 128
  rw [← teN_eq m c, Nat.mod_eq_of_lt (hR.te _)]

/-- A column of a block of weights times a column of the selector keeps the one the selector marks. -/
theorem pick (w : Fin 256 → EReal) (s : Fin 256 → EReal) (j : Fin 256) (hs : ∀ r, s r = if r.val = j.val then 1 else 0) : ∑ r : Fin 256, w r * s r = w j := by
  rw [Finset.sum_eq_single j]
  · rw [hs j, if_pos rfl, mul_one]
  · intro r _ hr
    rw [hs r, if_neg (fun h => hr (Fin.ext h)), mul_zero]
  · intro h; exact absurd (Finset.mem_univ j) h

include hR in
/-- The fused weights of a point's expert. -/
theorem fused (k : Fin 1024) (n : Fin 2048) : (iblk m hO c 1 t : Vec Ideal S1x1024x2048 .f32) (ix3 (0 : Fin 1) k n) = A3 m c (ix3 (tileExp (A0 m c) (tileT m hO t)) k n) := by
  refine (blk1 m hR hO c t (ix3 (0 : Fin 1) k n)).trans ((congrFun (V_main_arg3 m c) _).trans ?_)
  exact congrArg (fun e : Fin 128 => A3 m c (ix3 e k n)) (exp_eq m hR hO c t)

include hR in
/-- The gate weights: the even columns. -/
theorem gW_apply (k f : Fin 1024) : (gW m hO c t : Vec Ideal S1024x1024 .bf16) (ix2 k f) = A3 m c (ix3 (tileExp (A0 m c) (tileT m hO t)) k (⟨2 * f.val, by omega⟩ : Fin 2048)) := by
  refine (gateW_apply (iblk m hO c 1 t) (iblk m hO c 6 t) k f).trans ?_
  refine (pick _ _ (⟨2 * (f.val % 128), by omega⟩ : Fin 256) fun r => ?_).trans ?_
  · refine (blk6 m hO c t _).trans ((V21_apply m c r _).trans ?_)
    rw [if_pos (show f.val % 128 < 128 by omega)]
  · refine (fused m hR hO c t k _).trans ?_
    exact congrArg (fun n : Fin 2048 => A3 m c (ix3 _ k n)) (Fin.ext (by change 256 * (f.val / 128) + 2 * (f.val % 128) = 2 * f.val; omega))

include hR in
/-- The up weights: the odd columns. -/
theorem uW_apply (k f : Fin 1024) : (uW m hO c t : Vec Ideal S1024x1024 .bf16) (ix2 k f) = A3 m c (ix3 (tileExp (A0 m c) (tileT m hO t)) k (⟨2 * f.val + 1, by omega⟩ : Fin 2048)) := by
  refine (upW_apply (iblk m hO c 1 t) (iblk m hO c 6 t) k f).trans ?_
  refine (pick _ _ (⟨2 * (f.val % 128) + 1, by omega⟩ : Fin 256) fun r => ?_).trans ?_
  · refine (blk6 m hO c t _).trans ((V21_apply m c r _).trans ?_)
    rw [if_neg (show ¬(128 + f.val % 128 < 128) by omega)]
    have e : 2 * (128 + f.val % 128 - 128) + 1 = 2 * (f.val % 128) + 1 := by omega
    exact if_congr (by rw [e]) rfl rfl
  · refine (fused m hR hO c t k _).trans ?_
    exact congrArg (fun n : Fin 2048 => A3 m c (ix3 _ k n)) (Fin.ext (by change 256 * (f.val / 128) + (2 * (f.val % 128) + 1) = 2 * f.val + 1; omega))

theorem pay6_apply (x : Vec Ideal S1x1024x1024 .f32) (f n : Fin 1024) : (k0_pay6 x : FVec Ideal S1024x1024 .bf16) (ix2 f n) = x (ix3 (0 : Fin 1) f n) := by
  pointwise [k0_pay6]

include hR in
/-- The down weights. -/
theorem dW_apply (f n : Fin 1024) : (dW m hO c t : Vec Ideal S1024x1024 .bf16) (ix2 f n) = A4 m c (ix3 (tileExp (A0 m c) (tileT m hO t)) f n) := by
  refine (pay6_apply (iblk m hO c 2 t) f n).trans ?_
  refine (blk2 m hR hO c t (ix3 (0 : Fin 1) f n)).trans ((congrFun (V_main_arg4 m c) _).trans ?_)
  exact congrArg (fun e : Fin 128 => A4 m c (ix3 e f n)) (exp_eq m hR hO c t)

include hR in
/-- The gate biases. -/
theorem bg_apply (f : Fin 1024) : (iblk m hO c 3 t : Vec Ideal S1x1x1024 .f32) (ix3 (0 : Fin 1) (0 : Fin 1) f) = A5 m c (ix2 (tileExp (A0 m c) (tileT m hO t)) (⟨2 * f.val, by omega⟩ : Fin 2048)) := by
  refine (blk3 m hR hO c t (ix3 (0 : Fin 1) (0 : Fin 1) f)).trans ((V1_apply m c _ f).trans ?_)
  exact congrArg (fun e : Fin 128 => A5 m c (ix2 e _)) (exp_eq m hR hO c t)

include hR in
/-- The up biases. -/
theorem bu_apply (f : Fin 1024) : (iblk m hO c 4 t : Vec Ideal S1x1x1024 .f32) (ix3 (0 : Fin 1) (0 : Fin 1) f) = A5 m c (ix2 (tileExp (A0 m c) (tileT m hO t)) (⟨2 * f.val + 1, by omega⟩ : Fin 2048)) := by
  refine (blk4 m hR hO c t (ix3 (0 : Fin 1) (0 : Fin 1) f)).trans ((V2_apply m c _ f).trans ?_)
  exact congrArg (fun e : Fin 128 => A5 m c (ix2 e _)) (exp_eq m hR hO c t)

include hR in
/-- The down biases. -/
theorem bd_apply (n : Fin 1024) : (iblk m hO c 5 t : Vec Ideal S1x1x1024 .f32) (ix3 (0 : Fin 1) (0 : Fin 1) n) = A6 m c (ix2 (tileExp (A0 m c) (tileT m hO t)) n) := by
  refine (blk5 m hR hO c t (ix3 (0 : Fin 1) (0 : Fin 1) n)).trans ((V3_apply m c _ n).trans ?_)
  exact congrArg (fun e : Fin 128 => A6 m c (ix2 e n)) (exp_eq m hR hO c t)

/-- A feed-forward depends on its entries only. -/
theorem mlpAt_congr {x x' : Fin 1024 → EReal} {wg wg' wu wu' wd wd' : Fin 1024 → Fin 1024 → EReal} {bg bg' bu bu' bd bd' : Fin 1024 → EReal} {n n' : Fin 1024}
    (h0 : ∀ k, x k = x' k) (h1 : ∀ k f, wg k f = wg' k f) (h2 : ∀ k f, wu k f = wu' k f) (h3 : ∀ k f, wd k f = wd' k f)
    (h4 : ∀ k, bg k = bg' k) (h5 : ∀ k, bu k = bu' k) (h6 : ∀ k, bd k = bd' k) (h7 : n = n') : mlpAt x wg wu wd bg bu bd n = mlpAt x' wg' wu' wd' bg' bu' bd' n' := by
  obtain rfl := funext h0
  obtain rfl := funext fun k => funext (h1 k)
  obtain rfl := funext fun k => funext (h2 k)
  obtain rfl := funext fun k => funext (h3 k)
  obtain rfl := funext h4
  obtain rfl := funext h5
  obtain rfl := funext h6
  rw [h7]

/-- The array row a block's row stands for. -/
abbrev rowOf (a : Fin 4096) : Fin 1306624 := ⟨t.val * 4096 + a.val, by have := pt_lt m hO t; omega⟩

include hR in
/-- What a point leaves at an element of its block is the result there. -/
theorem point (a : Fin 4096) (l : Fin 128) : (outAt m hO c t : Vec Ideal S4096x128 .bf16) (ix2 a l) = resAt (A0 m c) (A1 m c) (A2 m c) (A3 m c) (A4 m c) (A5 m c) (A6 m c) (rowOf m hO t a) l := by
  have ht := pt_lt m hO t
  have hd : (t.val * 4096 + a.val) / 4096 = t.val := by omega
  unfold outAt resAt
  by_cases h : t.val < (nvN m).toNat
  · rw [if_pos h, if_pos (show (t.val * 4096 + a.val) / 4096 < (A1 m c (ix1 (0 : Fin 1))).toNat by rw [hd, ← nvN_eq m c]; exact h)]
    refine (outY_apply _ _ _ _ _ _ _ a l).trans ((ffn_apply _ _ _ _ _ _ _ _ _).trans ?_)
    have ee : (⟨(t.val * 4096 + a.val) / 4096, by omega⟩ : Fin 319) = tileT m hO t := Fin.ext hd
    unfold expAt
    refine mlpAt_congr (fun k => ?_) (fun k f => ?_) (fun k f => ?_) (fun f n => ?_) (fun f => ?_) (fun f => ?_) (fun n => ?_) ?_
    · unfold tokAt
      refine (blk0 m hR hO c t _).trans ((congrFun (V_main_arg2 m c) _).trans ?_)
      refine congrArg (A2 m c) ((ix2_inj ..).2 ⟨Fin.ext ?_, rfl⟩)
      have hm : min t.val ((nvN m).toNat - 1) = t.val := by omega
      change min t.val ((nvN m).toNat - 1) * 4096 + (8 * (a.val / 8) + 2 * (k.val % 512 / 128) + (if k.val < 512 then 1 else 0)) = 8 * ((t.val * 4096 + a.val) / 8) + 2 * (k.val % 512 / 128) + (if k.val < 512 then 1 else 0)
      rw [hm]; omega
    · exact (gW_apply m hR hO c t k f).trans (congrArg (fun e : Fin 319 => A3 m c (ix3 (tileExp (A0 m c) e) k _)) ee.symm)
    · exact (uW_apply m hR hO c t k f).trans (congrArg (fun e : Fin 319 => A3 m c (ix3 (tileExp (A0 m c) e) k _)) ee.symm)
    · exact (dW_apply m hR hO c t f n).trans (congrArg (fun e : Fin 319 => A4 m c (ix3 (tileExp (A0 m c) e) f n)) ee.symm)
    · exact (bg_apply m hR hO c t f).trans (congrArg (fun e : Fin 319 => A5 m c (ix2 (tileExp (A0 m c) e) _)) ee.symm)
    · exact (bu_apply m hR hO c t f).trans (congrArg (fun e : Fin 319 => A5 m c (ix2 (tileExp (A0 m c) e) _)) ee.symm)
    · exact (bd_apply m hR hO c t n).trans (congrArg (fun e : Fin 319 => A6 m c (ix2 (tileExp (A0 m c) e) n)) ee.symm)
    · refine Fin.ext ?_
      have h1 : (t.val * 4096 + a.val) % 8 = a.val % 8 := by omega
      have h2 : (t.val * 4096 + a.val) % 2 = a.val % 2 := by omega
      change 128 * (a.val % 8 / 2) + l.val + (if a.val % 2 = 0 then 512 else 0) = 128 * ((t.val * 4096 + a.val) % 8 / 2) + l.val + (if (t.val * 4096 + a.val) % 2 = 0 then 512 else 0)
      rw [h1, h2]
  · rw [if_neg h, if_neg (show ¬(t.val * 4096 + a.val) / 4096 < (A1 m c (ix1 (0 : Fin 1))).toNat by rw [hd, ← nvN_eq m c]; exact h)]
    pointwise [k0_pay10]

/-- The result array. -/
def G (c : Dev nD) : FVec Ideal S1306624x128 .bf16 := fun i => resAt (A0 m c) (A1 m c) (A2 m c) (A3 m c) (A4 m c) (A5 m c) (A6 m c) (i 0) (i 1)

/-- The result's block at a point is the tile's. -/
theorem index7 : ((cfgM m hO).win 7).index t = ![t.val, 0] := by
  refine Eq.trans (b := cc0_transform_7 (grid0.coords t)) rfl ?_
  unfold cc0_transform_7
  funext a
  fin_cases a
  · change (BitVec.ofNat 32 (grid0.coords t 0).val).toNat = t.val
    have ht := pt_lt m hO t
    rw [coords_val m hO t, BitVec.toNat_ofNat]; omega
  · rfl

/-- Every point's block of the result is written back. -/
theorem flush7 : ((cfgM m hO).win 7).flush t = true := by
  have ht := pt_lt m hO t
  have hN : (cfgM m hO).N = 319 := N_0
  unfold Pipeline.Window.flush
  by_cases h : t.val + 1 = 319
  · have e : (decide (t.val + 1 = (cfgM m hO).N)) = true := decide_eq_true (h.trans hN.symm)
    exact congrArg (fun b : Bool => true && (b || _)) e
  · have hlt : t.val + 1 < (cfgM m hO).N := lt_of_lt_of_eq (show t.val + 1 < 319 by omega) hN.symm
    have e : decide (∃ h : t.val + 1 < (cfgM m hO).N, ((cfgM m hO).win 7).index ⟨t.val + 1, h⟩ ≠ ((cfgM m hO).win 7).index t) = true := by
      refine decide_eq_true ⟨hlt, fun hh => ?_⟩
      rw [index7, index7] at hh
      have := congrFun hh (0 : Fin 2)
      exact absurd this (Nat.succ_ne_self t.val)
    exact (congrArg (fun b : Bool => true && (_ || b)) e).trans (by simp)

/-- The blocks written back cover the result. -/
theorem covers7 : ((cfgM m hO).win 7).Covers := by
  have hN : (cfgM m hO).N = 319 := N_0
  refine ⟨fun a => ?_, fun β => ?_⟩
  · fin_cases a
    · exact (show 0 < 4096 by omega)
    · exact (show 0 < 128 by omega)
  · have h0 : (β (0 : Fin 2)).val < 319 := lt_of_lt_of_eq (β (0 : Fin 2)).isLt (show (1306624 + 4096 - 1) / 4096 = 319 by norm_num)
    have h1 : (β (1 : Fin 2)).val < 1 := lt_of_lt_of_eq (β (1 : Fin 2)).isLt (show (128 + 128 - 1) / 128 = 1 by norm_num)
    refine ⟨⟨(β (0 : Fin 2)).val, lt_of_lt_of_eq h0 hN.symm⟩, flush7 m hO _, fun a => ⟨?_, Or.inl rfl⟩⟩
    rw [index7]
    fin_cases a
    · rfl
    · change 0 = (β (1 : Fin 2)).val; omega

include hR in
/-- The result array after the run. -/
theorem final : (dats m hO 0 c).arrAt 7 (cfgM m hO).N = G m c := by
  refine (dats m hO 0 c).arrAt_eq_of_covers 7 _ (covers7 m hO) fun t _ (y : S4096x128.Idx) => ?_
  refine (congrFun (after0_7 m hO c t) _).trans ?_
  refine (congrArg (outAt m hO c t : Vec Ideal S4096x128 .bf16) (show _ = (ix2 (y 0 : Fin 4096) (y 1 : Fin 128) : S4096x128.Idx) from ?_)).trans ((point m hR hO c t (y 0) (y 1)).trans ?_)
  · funext a; fin_cases a <;> rfl
  · have hT := index7 m hO t
    have e : ((((cfgM m hO).win 7).blk t).view.emb y : S1306624x128.Idx) = ix2 (rowOf m hO t (y 0)) (y 1 : Fin 128) := by
      funext a
      refine Fin.ext ((Pipeline.Window.rect_emb_val ((cfgM m hO).win 7) t y a).trans ?_)
      rw [hT]
      fin_cases a
      · rfl
      · change 0 * 128 + (y 1).val = (y 1).val; omega
    exact (congrArg (G m c) e).symm

end Cert.ExpertsIdeal.Hand

end
-- ==== Proof.ExpertsRefB.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

theorem v62_apply (t : Fin 319) (r : Fin 512) (n : Fin 1024) :
    (val_main_v62 (F := Ideal) x0 x2 x3 x4 x5 x6 : FVec Ideal S319x512x1024 .f32) (ix3 t r n)
      = (∑ f : Fin 1024, (val_main_v44 (F := Ideal) x0 x2 x3 x5 : FVec Ideal S319x512x1024 .f32) (ix3 t r f) * (val_main_v51 (F := Ideal) x0 x4 : FVec Ideal S319x1024x1024 .f32) (ix3 t f n))
        + (val_main_v59 (F := Ideal) x0 x6 : FVec Ideal S319x1024 .f32) (ix2 t n) := by
  unfold val_main_v62 val_main_v61 val_main_v60 val_main_v52
  generalize val_main_v44 (F := Ideal) x0 x2 x3 x5 = y9
  generalize val_main_v51 (F := Ideal) x0 x4 = y16
  generalize val_main_v59 (F := Ideal) x0 x6 = y24
  pointwise []

end Cert.ExpertsReferenceIdeal.Hand

end
-- ==== Proof.ExpertsRefC.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

theorem v79_apply (R : Fin 1306624) (l : Fin 128) :
    (val_main_v79 (F := Ideal) x0 x1 x2 x3 x4 x5 x6 : FVec Ideal S1306624x128 .bf16) (ix2 R l)
      = Scalar.select (IntOp.cmpi .slt (BitVec.ofNat 32 (R.val / 4096)) (x1 (ix1 (0 : Fin 1))))
          ((val_main_v62 (F := Ideal) x0 x2 x3 x4 x5 x6 : FVec Ideal S319x512x1024 .f32)
            (ix3 (⟨R.val / 4096, by omega⟩ : Fin 319) (⟨R.val / 8 % 512, by omega⟩ : Fin 512) (⟨128 * (R.val % 8 / 2) + l.val + (if R.val % 2 = 0 then 512 else 0), by split <;> omega⟩ : Fin 1024))) 0 := by
  unfold val_main_v79 val_main_v78 val_main_v77 val_main_v76 val_main_v75 val_main_v74 val_main_v73 val_main_v72 val_main_v71 val_main_v70 val_main_v69 val_main_v68
  generalize val_main_v62 (F := Ideal) x0 x2 x3 x4 x5 x6 = y
  pointwise [val_main_call1_v2, val_main_call1_v1, val_main_call1_v0, val_main_v67, val_main_v66, val_main_v65, val_main_v64, val_main_v63, val_main_cst_13, id]
  have hR := R.isLt
  have e1 : R.val / 8 / 512 = R.val / 4096 := by omega
  have e2 : (⟨R.val / 8 / 512, by omega⟩ : Fin 319) = ⟨R.val / 4096, by omega⟩ := Fin.ext e1
  by_cases h : R.val % 2 = 0
  · rw [dif_pos (by omega : R.val % 2 < 1)]; simp only [if_pos h]
    rw [e2, e1]
    exact congrArg (fun n : Fin 1024 => Scalar.select _ (y (ix3 _ _ n)) (0 : EReal)) (Fin.ext (by change 512 + R.val / 2 % 4 * 128 + l.val = 128 * (R.val % 8 / 2) + l.val + 512; omega))
  · rw [dif_neg (by omega : ¬ R.val % 2 < 1)]; simp only [if_neg h]
    rw [e2, e1]
    exact congrArg (fun n : Fin 1024 => Scalar.select _ (y (ix3 _ _ n)) (0 : EReal)) (Fin.ext (by change R.val / 2 % 4 * 128 + l.val = 128 * (R.val % 8 / 2) + l.val + 0; omega))

end Cert.ExpertsReferenceIdeal.Hand

end
-- ==== Proof.ExpertsRefD.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.IdealHost
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

/-- The gate's column. -/
theorem v28_at (t : Fin 319) (r : Fin 512) (f : Fin 1024) :
    (val_main_v28 (F := Ideal) x0 x2 x3 x5 : FVec Ideal S319x512x1024 .f32) (ix3 t r f)
      = (val_main_v27 (F := Ideal) x0 x2 x3 x5 : FVec Ideal S319x512x2048 .f32) (ix3 t r (⟨2 * f.val, by omega⟩ : Fin 2048)) := by
  unfold val_main_v28
  generalize val_main_v27 (F := Ideal) x0 x2 x3 x5 = y
  refine congrArg y (funext fun a => Fin.ext ?_)
  fin_cases a
  · change 0 + 1 * t.val = t.val; omega
  · change 0 + 1 * r.val = r.val; omega
  · change 0 + 2 * f.val = 2 * f.val; omega

/-- The up projection's column. -/
theorem v31_at (t : Fin 319) (r : Fin 512) (f : Fin 1024) :
    (val_main_v31 (F := Ideal) x0 x2 x3 x5 : FVec Ideal S319x512x1024 .f32) (ix3 t r f)
      = (val_main_v27 (F := Ideal) x0 x2 x3 x5 : FVec Ideal S319x512x2048 .f32) (ix3 t r (⟨2 * f.val + 1, by omega⟩ : Fin 2048)) := by
  unfold val_main_v31
  generalize val_main_v27 (F := Ideal) x0 x2 x3 x5 = y
  refine congrArg y (funext fun a => Fin.ext ?_)
  fin_cases a
  · change 0 + 1 * t.val = t.val; omega
  · change 0 + 1 * r.val = r.val; omega
  · change 1 + 2 * f.val = 2 * f.val + 1; omega

/-- The activation, from the two columns. -/
theorem v44_apply (t : Fin 319) (r : Fin 512) (f : Fin 1024) :
    (val_main_v44 (F := Ideal) x0 x2 x3 x5 : FVec Ideal S319x512x1024 .f32) (ix3 t r f)
      = actE ((val_main_v27 (F := Ideal) x0 x2 x3 x5 : FVec Ideal S319x512x2048 .f32) (ix3 t r (⟨2 * f.val, by omega⟩ : Fin 2048)))
          ((val_main_v27 (F := Ideal) x0 x2 x3 x5 : FVec Ideal S319x512x2048 .f32) (ix3 t r (⟨2 * f.val + 1, by omega⟩ : Fin 2048))) := by
  have h1 : Ideal.ofBits .f32 0x3F800000#32 = (1 : EReal) := Ideal.ofBits_one_f32
  rw [← v28_at, ← v31_at]
  rw [val_main_v44_apply, val_main_v35_apply, val_main_v34_apply, val_main_v32_apply, val_main_call0_v2_apply, val_main_v43_apply, val_main_v41_apply, val_main_v39_apply, val_main_v38_apply, val_main_v37_apply, val_main_v30_apply]
  generalize (val_main_v28 (F := Ideal) x0 x2 x3 x5 : FVec Ideal S319x512x1024 .f32) (ix3 t r f) = g
  generalize (val_main_v31 (F := Ideal) x0 x2 x3 x5 : FVec Ideal S319x512x1024 .f32) (ix3 t r f) = u
  unfold actE Ideal.logistic
  have e : ∀ z : EReal, Ideal.div (Ideal.ofBits .f32 0x3F800000#32) (Ideal.ofBits .f32 0x3F800000#32 + z) = Ideal.div 1 (1 + z) := fun z => by rw [h1]
  have e' : ∀ z : EReal, z + Ideal.ofBits .f32 0x3F800000#32 = z + 1 := fun z => by rw [h1]
  rw [← e, ← e']
  rfl

end Cert.ExpertsReferenceIdeal.Hand

end
-- ==== Proof.ExpertsRefE.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

theorem v27_apply (t : Fin 319) (r : Fin 512) (n : Fin 2048) :
    (val_main_v27 (F := Ideal) x0 x2 x3 x5 : FVec Ideal S319x512x2048 .f32) (ix3 t r n)
      = (∑ k : Fin 1024, (val_main_v9 (F := Ideal) x2 : FVec Ideal S319x512x1024 .f32) (ix3 t r k) * (val_main_v16 (F := Ideal) x0 x3 : FVec Ideal S319x1024x2048 .f32) (ix3 t k n))
        + (val_main_v24 (F := Ideal) x0 x5 : FVec Ideal S319x2048 .f32) (ix2 t n) := by
  unfold val_main_v27 val_main_v26 val_main_v25 val_main_v17
  generalize val_main_v9 (F := Ideal) x2 = y9
  generalize val_main_v16 (F := Ideal) x0 x3 = y16
  generalize val_main_v24 (F := Ideal) x0 x5 = y24
  pointwise []

end Cert.ExpertsReferenceIdeal.Hand

end
-- ==== Proof.ExpertsRefF.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

/-- The tokens, unpacked. -/
theorem v9_apply (t : Fin 319) (r : Fin 512) (k : Fin 1024) :
    (val_main_v9 (F := Ideal) x2 : FVec Ideal S319x512x1024 .f32) (ix3 t r k) = tokAt x2 (⟨512 * t.val + r.val, by omega⟩ : Fin 163328) k := by
  unfold tokAt
  pointwise [val_main_v9, val_main_v8, val_main_v7, val_main_v6, val_main_v5, val_main_v4, val_main_v3, val_main_v2, val_main_v1, val_main_v0]
  by_cases h : k.val < 512
  · rw [dif_pos h]; simp only [if_pos h]
    exact congrArg x2 ((ix2_inj ..).2 ⟨Fin.ext (by change (t.val * 512 + r.val) * 8 + k.val / 128 * 2 + 1 = 8 * (512 * t.val + r.val) + 2 * (k.val % 512 / 128) + 1; omega), rfl⟩)
  · rw [dif_neg h]; simp only [if_neg h]
    exact congrArg x2 ((ix2_inj ..).2 ⟨Fin.ext (by change (t.val * 512 + r.val) * 8 + (k.val - 512) / 128 * 2 = 8 * (512 * t.val + r.val) + 2 * (k.val % 512 / 128) + 0; omega), Fin.ext (by change (k.val - 512) % 128 = k.val % 128; omega)⟩)

end Cert.ExpertsReferenceIdeal.Hand

end
-- ==== Proof.ExpertsRefG.lean ====
/- The reference's result, element by element. -/
module

public import proofs.«01_k».proof.Proof.ExpertsMath
public import proofs.«01_k».proof.Proof.Gen.ExpertsReferenceIdeal.Read
public import Idealize.ShloMosaic.Lib.WordCmp
public import Idealize.ShloMosaic.Lib.ValueIdxCore

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

/-- A word below 128 is not negative: the index the gathers take is the table's entry. -/
theorem sel_word (w : BitVec 32) (h : w.toNat < 128) : Scalar.select (IntOp.cmpi .slt w 0#32) (IntOp.addi w 128#32) w = w := by
  have h0 : IntOp.cmpi .slt w 0#32 = 0#1 := by
    have e : w.slt 0#32 = false := by
      unfold BitVec.slt
      rw [BitVec.toInt_eq_toNat_of_lt (by omega)]
      simp
    change BitVec.ofBool (w.slt 0#32) = 0#1
    rw [e]; rfl
  rw [h0]; rfl

/-- The index of the gate-and-up weights: the tile's entry of the table. -/
theorem v15_apply (hx : ∀ t : Fin 319, (x0 (ix1 t)).toNat < 128) (t : Fin 319) : (val_main_v15 (F := Ideal) x0 : IVec S319x1 32) (ix2 t (0 : Fin 1)) = x0 (ix1 t) := by
  pointwise [val_main_c, val_main_v10, val_main_v11, val_main_c_0, val_main_v12, val_main_v13, val_main_v14, val_main_v15]
  exact sel_word _ (hx t)

/-- The index of the gate-and-up biases: the tile's entry of the table. -/
theorem v23_apply (hx : ∀ t : Fin 319, (x0 (ix1 t)).toNat < 128) (t : Fin 319) : (val_main_v23 (F := Ideal) x0 : IVec S319x1 32) (ix2 t (0 : Fin 1)) = x0 (ix1 t) := by
  pointwise [val_main_c_1, val_main_v18, val_main_v19, val_main_c_2, val_main_v20, val_main_v21, val_main_v22, val_main_v23]
  exact sel_word _ (hx t)

/-- The index of the down weights: the tile's entry of the table. -/
theorem v50_apply (hx : ∀ t : Fin 319, (x0 (ix1 t)).toNat < 128) (t : Fin 319) : (val_main_v50 (F := Ideal) x0 : IVec S319x1 32) (ix2 t (0 : Fin 1)) = x0 (ix1 t) := by
  pointwise [val_main_c_9, val_main_v45, val_main_v46, val_main_c_10, val_main_v47, val_main_v48, val_main_v49, val_main_v50]
  exact sel_word _ (hx t)

/-- The index of the down biases: the tile's entry of the table. -/
theorem v58_apply (hx : ∀ t : Fin 319, (x0 (ix1 t)).toNat < 128) (t : Fin 319) : (val_main_v58 (F := Ideal) x0 : IVec S319x1 32) (ix2 t (0 : Fin 1)) = x0 (ix1 t) := by
  pointwise [val_main_c_11, val_main_v53, val_main_v54, val_main_c_12, val_main_v55, val_main_v56, val_main_v57, val_main_v58]
  exact sel_word _ (hx t)

/-- A word below 128 read signed and capped at 127 is itself. -/
theorem start_word (w : BitVec 32) (h : w.toNat < 128) : min w.toInt.toNat (128 - 1) = w.toNat := by
  rw [BitVec.toInt_eq_toNat_of_lt (by omega)]
  change min w.toNat 127 = w.toNat
  omega

/-- The gate-and-up weights of a tile's expert. -/
theorem gatherA_apply (x : FVec Ideal S128x1024x2048 .f32) (idx : IVec S319x1 32) (t : Fin 319) (k : Fin 1024) (n : Fin 2048) (h : (idx (ix2 t (0 : Fin 1))).toNat < 128) :
    Host.gather gather_S128x1024x2048_S319x1_S319x1024x2048_12_0_n_n_0_1_110242048 x idx (ix3 t k n) = x (ix3 (⟨(idx (ix2 t (0 : Fin 1))).toNat, h⟩ : Fin 128) k n) := by
  refine congrArg x (funext fun a => Fin.ext ?_)
  fin_cases a
  · have e : gather_S128x1024x2048_S319x1_S319x1024x2048_12_0_n_n_0_1_110242048.siIdx (ix3 t k n : S319x1024x2048.Idx) ⟨0, by decide⟩ = (ix2 t (0 : Fin 1) : S319x1.Idx) := by
      funext b; fin_cases b <;> rfl
    refine Eq.trans ?_ (start_word (idx (ix2 t (0 : Fin 1))) h)
    exact congrArg (fun i => min (idx i).toInt.toNat (128 - 1)) e
  · change 0 + 0 + k.val = k.val; omega
  · change 0 + 0 + n.val = n.val; omega

/-- The down weights of a tile's expert. -/
theorem gatherB_apply (x : FVec Ideal S128x1024x1024 .f32) (idx : IVec S319x1 32) (t : Fin 319) (k : Fin 1024) (n : Fin 1024) (h : (idx (ix2 t (0 : Fin 1))).toNat < 128) :
    Host.gather gather_S128x1024x1024_S319x1_S319x1024x1024_12_0_n_n_0_1_110241024 x idx (ix3 t k n) = x (ix3 (⟨(idx (ix2 t (0 : Fin 1))).toNat, h⟩ : Fin 128) k n) := by
  refine congrArg x (funext fun a => Fin.ext ?_)
  fin_cases a
  · have e : gather_S128x1024x1024_S319x1_S319x1024x1024_12_0_n_n_0_1_110241024.siIdx (ix3 t k n : S319x1024x1024.Idx) ⟨0, by decide⟩ = (ix2 t (0 : Fin 1) : S319x1.Idx) := by
      funext b; fin_cases b <;> rfl
    refine Eq.trans ?_ (start_word (idx (ix2 t (0 : Fin 1))) h)
    exact congrArg (fun i => min (idx i).toInt.toNat (128 - 1)) e
  · change 0 + 0 + k.val = k.val; omega
  · change 0 + 0 + n.val = n.val; omega

/-- The gate-and-up bias of a tile's expert. -/
theorem gatherC_apply (x : FVec Ideal S128x2048 .f32) (idx : IVec S319x1 32) (t : Fin 319) (n : Fin 2048) (h : (idx (ix2 t (0 : Fin 1))).toNat < 128) :
    Host.gather gather_S128x2048_S319x1_S319x2048_1_0_n_n_0_1_12048 x idx (ix2 t n) = x (ix2 (⟨(idx (ix2 t (0 : Fin 1))).toNat, h⟩ : Fin 128) n) := by
  refine congrArg x (funext fun a => Fin.ext ?_)
  fin_cases a
  · have e : gather_S128x2048_S319x1_S319x2048_1_0_n_n_0_1_12048.siIdx (ix2 t n : S319x2048.Idx) ⟨0, by decide⟩ = (ix2 t (0 : Fin 1) : S319x1.Idx) := by
      funext b; fin_cases b <;> rfl
    refine Eq.trans ?_ (start_word (idx (ix2 t (0 : Fin 1))) h)
    exact congrArg (fun i => min (idx i).toInt.toNat (128 - 1)) e
  · change 0 + 0 + n.val = n.val; omega

/-- The down bias of a tile's expert. -/
theorem gatherD_apply (x : FVec Ideal S128x1024 .f32) (idx : IVec S319x1 32) (t : Fin 319) (n : Fin 1024) (h : (idx (ix2 t (0 : Fin 1))).toNat < 128) :
    Host.gather gather_S128x1024_S319x1_S319x1024_1_0_n_n_0_1_11024 x idx (ix2 t n) = x (ix2 (⟨(idx (ix2 t (0 : Fin 1))).toNat, h⟩ : Fin 128) n) := by
  refine congrArg x (funext fun a => Fin.ext ?_)
  fin_cases a
  · have e : gather_S128x1024_S319x1_S319x1024_1_0_n_n_0_1_11024.siIdx (ix2 t n : S319x1024.Idx) ⟨0, by decide⟩ = (ix2 t (0 : Fin 1) : S319x1.Idx) := by
      funext b; fin_cases b <;> rfl
    refine Eq.trans ?_ (start_word (idx (ix2 t (0 : Fin 1))) h)
    exact congrArg (fun i => min (idx i).toInt.toNat (128 - 1)) e
  · change 0 + 0 + n.val = n.val; omega

/-- The gate-and-up weights a tile reads. -/
theorem v16_apply (hx : ∀ t : Fin 319, (x0 (ix1 t)).toNat < 128) (t : Fin 319) (k : Fin 1024) (n : Fin 2048) :
    (val_main_v16 (F := Ideal) x0 x3 : FVec Ideal S319x1024x2048 .f32) (ix3 t k n) = x3 (ix3 (tileExp x0 t) k n) := by
  have h : ((val_main_v15 (F := Ideal) x0 : IVec S319x1 32) (ix2 t (0 : Fin 1))).toNat < 128 := by rw [v15_apply x0 hx t]; exact hx t
  refine (gatherA_apply x3 (val_main_v15 (F := Ideal) x0) t k n h).trans ?_
  refine congrArg (fun e : Fin 128 => x3 (ix3 e k n)) (Fin.ext ?_)
  change ((val_main_v15 (F := Ideal) x0 : IVec S319x1 32) (ix2 t (0 : Fin 1))).toNat = (x0 (ix1 t)).toNat % 128
  rw [v15_apply x0 hx t, Nat.mod_eq_of_lt (hx t)]

/-- The gate-and-up biases a tile reads. -/
theorem v24_apply (hx : ∀ t : Fin 319, (x0 (ix1 t)).toNat < 128) (t : Fin 319) (n : Fin 2048) :
    (val_main_v24 (F := Ideal) x0 x5 : FVec Ideal S319x2048 .f32) (ix2 t n) = x5 (ix2 (tileExp x0 t) n) := by
  have h : ((val_main_v23 (F := Ideal) x0 : IVec S319x1 32) (ix2 t (0 : Fin 1))).toNat < 128 := by rw [v23_apply x0 hx t]; exact hx t
  refine (gatherC_apply x5 (val_main_v23 (F := Ideal) x0) t n h).trans ?_
  refine congrArg (fun e : Fin 128 => x5 (ix2 e n)) (Fin.ext ?_)
  change ((val_main_v23 (F := Ideal) x0 : IVec S319x1 32) (ix2 t (0 : Fin 1))).toNat = (x0 (ix1 t)).toNat % 128
  rw [v23_apply x0 hx t, Nat.mod_eq_of_lt (hx t)]

/-- The down weights a tile reads. -/
theorem v51_apply (hx : ∀ t : Fin 319, (x0 (ix1 t)).toNat < 128) (t : Fin 319) (k : Fin 1024) (n : Fin 1024) :
    (val_main_v51 (F := Ideal) x0 x4 : FVec Ideal S319x1024x1024 .f32) (ix3 t k n) = x4 (ix3 (tileExp x0 t) k n) := by
  have h : ((val_main_v50 (F := Ideal) x0 : IVec S319x1 32) (ix2 t (0 : Fin 1))).toNat < 128 := by rw [v50_apply x0 hx t]; exact hx t
  refine (gatherB_apply x4 (val_main_v50 (F := Ideal) x0) t k n h).trans ?_
  refine congrArg (fun e : Fin 128 => x4 (ix3 e k n)) (Fin.ext ?_)
  change ((val_main_v50 (F := Ideal) x0 : IVec S319x1 32) (ix2 t (0 : Fin 1))).toNat = (x0 (ix1 t)).toNat % 128
  rw [v50_apply x0 hx t, Nat.mod_eq_of_lt (hx t)]

/-- The down biases a tile reads. -/
theorem v59_apply (hx : ∀ t : Fin 319, (x0 (ix1 t)).toNat < 128) (t : Fin 319) (n : Fin 1024) :
    (val_main_v59 (F := Ideal) x0 x6 : FVec Ideal S319x1024 .f32) (ix2 t n) = x6 (ix2 (tileExp x0 t) n) := by
  have h : ((val_main_v58 (F := Ideal) x0 : IVec S319x1 32) (ix2 t (0 : Fin 1))).toNat < 128 := by rw [v58_apply x0 hx t]; exact hx t
  refine (gatherD_apply x6 (val_main_v58 (F := Ideal) x0) t n h).trans ?_
  refine congrArg (fun e : Fin 128 => x6 (ix2 e n)) (Fin.ext ?_)
  change ((val_main_v58 (F := Ideal) x0 : IVec S319x1 32) (ix2 t (0 : Fin 1))).toNat = (x0 (ix1 t)).toNat % 128
  rw [v58_apply x0 hx t, Nat.mod_eq_of_lt (hx t)]

end Cert.ExpertsReferenceIdeal.Hand

end
-- ==== Proof.ExpertsRefH.lean ====
/- The reference's result is the routed experts' result. -/
module

public import proofs.«01_k».proof.Proof.ExpertsRefB
public import proofs.«01_k».proof.Proof.ExpertsRefC
public import proofs.«01_k».proof.Proof.ExpertsRefD
public import proofs.«01_k».proof.Proof.ExpertsRefE
public import proofs.«01_k».proof.Proof.ExpertsRefF
public import proofs.«01_k».proof.Proof.ExpertsRefG

@[expose] public section

set_option maxRecDepth 16384

noncomputable section

namespace Cert.ExpertsReferenceIdeal.Hand

open Cert.ExpertsMath
open Cert.ExpertsReferenceIdeal Cert.ExpertsReferenceIdeal.Gen Cert.ExpertsReferenceIdeal.Read Idealize.ShloMosaic Idealize.ShloMosaic.TcCoe Idealize.SL.Sem

variable (x0 : IVec S319 32) (x1 : IVec S1 32) (x2 : FVec Ideal S1306624x128 .bf16) (x3 : FVec Ideal S128x1024x2048 .f32)
  (x4 : FVec Ideal S128x1024x1024 .f32) (x5 : FVec Ideal S128x2048 .f32) (x6 : FVec Ideal S128x1024 .f32)

/-- A column of the fused projection, of a tile's token. -/
theorem v27_at (hx : ∀ t : Fin 319, (x0 (ix1 t)).toNat < 128) (t : Fin 319) (r : Fin 512) (n : Fin 2048) :
    (val_main_v27 (F := Ideal) x0 x2 x3 x5 : FVec Ideal S319x512x2048 .f32) (ix3 t r n)
      = (∑ k : Fin 1024, tokAt x2 (⟨512 * t.val + r.val, by omega⟩ : Fin 163328) k * x3 (ix3 (tileExp x0 t) k n)) + x5 (ix2 (tileExp x0 t) n) := by
  refine (v27_apply x0 x2 x3 x5 t r n).trans ?_
  refine Ideal.add_congr (Finset.sum_congr rfl fun k _ => Ideal.mul_congr (v9_apply x2 t r k) (v16_apply x0 x3 hx t k n)) (v24_apply x0 x5 hx t n)

/-- A tile's feed-forward is its expert's. -/
theorem v62_at (hx : ∀ t : Fin 319, (x0 (ix1 t)).toNat < 128) (t : Fin 319) (r : Fin 512) (n : Fin 1024) :
    (val_main_v62 (F := Ideal) x0 x2 x3 x4 x5 x6 : FVec Ideal S319x512x1024 .f32) (ix3 t r n)
      = expAt x2 x3 x4 x5 x6 (tileExp x0 t) (⟨512 * t.val + r.val, by omega⟩ : Fin 163328) n := by
  refine (v62_apply x0 x2 x3 x4 x5 x6 t r n).trans ?_
  unfold expAt mlpAt
  refine Ideal.add_congr (Finset.sum_congr rfl fun f _ => Ideal.mul_congr ((v44_apply x0 x2 x3 x5 t r f).trans ?_) (v51_apply x0 x4 hx t f n)) (v59_apply x0 x6 hx t n)
  exact congrArg₂ actE (v27_at x0 x2 x3 x5 hx t r _) (v27_at x0 x2 x3 x5 hx t r _)

/-- A tile below the count, in words. -/
theorem live_word (a : ℕ) (ha : a < 319) (w : BitVec 32) (hw : w.toNat ≤ 319) : IntOp.cmpi .slt (BitVec.ofNat 32 a) w = BitVec.ofBool (decide (a < w.toNat)) := by
  change BitVec.ofBool ((BitVec.ofNat 32 a).slt w) = _
  have e : (BitVec.ofNat 32 a).toNat = a := by rw [BitVec.toNat_ofNat]; omega
  rw [BitVec.slt_eq_decide, BitVec.toInt_eq_toNat_of_lt (by omega), BitVec.toInt_eq_toNat_of_lt (by omega), e]
  simp

/-- The reference's result. -/
theorem result (hx : ∀ t : Fin 319, (x0 (ix1 t)).toNat < 128) (hn : (x1 (ix1 (0 : Fin 1))).toNat ≤ 319) (R : Fin 1306624) (l : Fin 128) :
    (val_main_v79 (F := Ideal) x0 x1 x2 x3 x4 x5 x6 : FVec Ideal S1306624x128 .bf16) (ix2 R l) = resAt x0 x1 x2 x3 x4 x5 x6 R l := by
  refine (v79_apply x0 x1 x2 x3 x4 x5 x6 R l).trans ?_
  rw [live_word _ (by omega) _ hn]
  unfold resAt
  by_cases h : R.val / 4096 < (x1 (ix1 (0 : Fin 1))).toNat
  · rw [if_pos h, decide_eq_true h]
    refine (v62_at x0 x2 x3 x4 x5 x6 hx _ _ _).trans ?_
    exact congrArg (fun r : Fin 163328 => expAt x2 x3 x4 x5 x6 _ r _) (Fin.ext (by change 512 * (R.val / 4096) + R.val / 8 % 512 = R.val / 8; omega))
  · rw [if_neg h, decide_eq_false h]; rfl

end Cert.ExpertsReferenceIdeal.Hand

end
-- ==== Proof.ExpertsBridge.lean ====
/- The experts' claims. -/
module

public import proofs.«01_k».proof.Defs
public import proofs.«01_k».proof.Proof.ExpertsPre
public import proofs.«01_k».proof.Proof.ExpertsFrame
public import proofs.«01_k».proof.Proof.ExpertsFinal
public import proofs.«01_k».proof.Proof.ExpertsRefH
public import proofs.«01_k».proof.Proof.Gen.ExpertsReferenceIdeal
public import proofs.«01_k».proof.Proof.Gen.ExpertsReferenceIdeal.Run
public import Idealize.ShloMosaic.Lib.Bf16Pair
public import Idealize.ShloMosaic.Lib.Claim

@[expose] public section

set_option maxRecDepth 16384

noncomputable section

namespace Cert.ExpertsClaims

open Idealize.ShloMosaic Idealize.SL.Sem

/-- The kernel runs, keeps its arguments and leaves every counter at zero, on tables in range. -/
theorem frame_kernel : Cert.quiescent_Experts := fun m g h =>
  Cert.Experts.Hand.frame m g (Cert.Experts.Hand.ok_of_inRange m (Cert.ExpertsPre.inRange m h))

/-- So does the idealized kernel. -/
theorem frame_ideal : Cert.quiescent_ExpertsIdeal := fun m g h =>
  Cert.ExpertsIdeal.Hand.frame m g (Cert.ExpertsPre.inRangeIdeal m h) (Cert.ExpertsIdeal.Hand.ok_of_inRange m (Cert.ExpertsPre.inRangeIdeal m h))

/-- The reference runs, keeps its arguments and has no counter. -/
theorem frame_reference : Cert.quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

/-- The idealized text reads the packed words as the pairs of rows they hold. -/
theorem preserves : Cert.preserves_Experts_ExpertsIdeal :=
  ⟨IdealRules.bf16_pair.statement _ _, IdealRules.bf16_pair.statement _ _, IdealRules.bf16_pack.statement _⟩

open Cert.ExpertsIdeal.Hand (A0 A1 A2 A3 A4 A5 A6 G) in
/-- The reference's result at the kernel's arguments is the kernel's. -/
theorem meet (m : (ℓ : Loc Cert.ExpertsIdeal.nD Cert.ExpertsIdeal.τ Cert.ExpertsIdeal.sig) → Buf (Elt Ideal) ℓ) (h : Cert.Pre_ExpertsIdeal m) (c : Dev Cert.ExpertsIdeal.nD) :
    (Cert.ExpertsReferenceIdeal.Read.val_main_v79 (F := Ideal) (A0 m c) (A1 m c) (A2 m c) (A3 m c) (A4 m c) (A5 m c) (A6 m c) : FVec Ideal Cert.ExpertsReferenceIdeal.S1306624x128 .bf16) = G m c := by
  obtain ⟨h1, h2⟩ := Cert.ExpertsPre.ranges _ _ _ _ _ _ _ (h c)
  funext i
  have e : i = ix2 (i 0 : Fin 1306624) (i 1 : Fin 128) := by funext a; fin_cases a <;> rfl
  exact (congrArg _ e).trans (Cert.ExpertsReferenceIdeal.Hand.result (A0 m c) (A1 m c) (A2 m c) (A3 m c) (A4 m c) (A5 m c) (A6 m c) (fun t => h1 _) (h2 _).2 (i 0) (i 1))

/-- On tables in range the kernel's result is the reference's. -/
theorem algebraic : Cert.algebraic_ExpertsIdeal_ExpertsReferenceIdeal := by
  intro m g m' g' hpre hagree
  have hR := Cert.ExpertsPre.inRangeIdeal m hpre
  have hO := Cert.ExpertsIdeal.Hand.ok_of_inRange m hR
  refine ⟨Cert.ExpertsIdeal.Hand.G m, ?_, ?_⟩
  · refine (θ_run Cert.ExpertsIdeal.defs _ _).mono (fun r h c => ⟨?_, h.1 c⟩) (θ_run_and (Cert.ExpertsIdeal.Hand.unchanged m g hR hO) (Cert.ExpertsIdeal.Hand.run_main m g hR hO))
    exact ((h.2 c).1 7).trans (Cert.ExpertsIdeal.Hand.final m hR hO c)
  · refine (θ_run Cert.ExpertsReferenceIdeal.defs _ _).mono (fun r h c => ⟨(h c).1.trans ?_, (h c).2⟩) (Cert.ExpertsReferenceIdeal.Value.run (F := Ideal) m' g')
    obtain ⟨a0, a1, a2, a3, a4, a5, a6⟩ := hagree c
    rw [Cert.ExpertsReferenceIdeal.Read.val_main_v79_eq, a0, a1, a2, a3, a4, a5, a6]
    exact meet m hpre c

end Cert.ExpertsClaims

end
-- ==== Proof.LatentExpertsTab.lean ====
module

public import proofs.«01_k».proof.Proof.Gen.LatentExperts
public import proofs.«01_k».proof.Proof.Gen.LatentExperts.Launch
public import proofs.«01_k».proof.Proof.Gen.LatentExperts.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.LatentExpertsKit
public import Idealize.ShloMosaic.Lib.WordCmp
public import Idealize.ShloMosaic.Lib.Affine
@[expose] public section

set_option maxRecDepth 16384

noncomputable section

namespace Cert.LatentExperts.Hand

open Cert.LatentExperts.Gen
open Idealize.ShloMosaic Idealize.ShloMosaic.TcCoe

variable {F : FTy → Type} [BitOps F]
variable (m : (ℓ : Loc nD τ sig) → Buf (Elt F) ℓ)

/-- The expert of tile `j` and the number of tiles that hold tokens, as the tables say. -/
def teN (j : Fin 287) : BitVec 32 := tbl m 0 (fun a : Fin 1 => (⟨j.val, by fin_cases a; exact j.isLt⟩ : Fin ((![287] : Fin 1 → ℕ) a)))
def nvN : BitVec 32 := tbl m 1 (fun a : Fin 1 => (⟨0, by fin_cases a; exact Nat.one_pos⟩ : Fin ((![1] : Fin 1 → ℕ) a)))

/-- Each expert's number is one of the 128, and between one and all tiles hold tokens. -/
structure InRange : Prop where
  te : ∀ j, (teN m j).toNat < 128
  one : 1 ≤ (nvN m).toNat
  all : (nvN m).toNat ≤ 287

/-- A grid point as a tile's number. -/
abbrev tile (i : grid0.Coords) : Fin 287 := ⟨(i 0).val, (i 0).isLt⟩

theorem first0 (n : ℕ) (x : Fin 1) : n + 1 * x.val = n := by omega

/-- Words whose signed value is known. -/
theorem intOf {x : BitVec 32} {e : Int} (h : Affine.IsInt x e) : x.toInt = e := by unfold Affine.IsInt at h; exact h
theorem isOf {x : BitVec 32} {e : Int} (h : x.toInt = e) : Affine.IsInt x e := by unfold Affine.IsInt; exact h

theorem te_at (i : grid0.Coords) : (tbl m).at 0 (Rect.unit (s := S287) (k0_off1 i) S1.size (k0_off1_inb i)) numel1_S1 = teN m (tile i) := by
  unfold teN
  refine congrArg (tbl m 0) (funext fun a => ?_)
  fin_cases a; apply Fin.ext
  have h : k0_off1 i 0 = (i 0).val := by rw [k0_off1_eq]; rfl
  refine (congrArg (· + 1 * _) h).trans ?_
  exact first0 _ _

theorem nv_at : (tbl m).at 1 (Rect.unit (s := S1) ![0] S1.size inb_S1_S1_0) numel1_S1 = nvN m := by
  unfold nvN
  refine congrArg (tbl m 1) (funext fun a => ?_)
  fin_cases a; apply Fin.ext
  exact first0 0 _

theorem transform_1 (i : grid0.Coords) : cc0_transform_1 k0_off1_inb numel1_S1 (tbl m) i = ![(teN m (tile i)).toNat, 0, 0] := by
  have h := te_at m i
  unfold cc0_transform_1
  exact congrArg (fun v : BitVec 32 => ![v.toNat, 0, 0]) h
theorem transform_2 (i : grid0.Coords) : cc0_transform_2 k0_off1_inb numel1_S1 (tbl m) i = ![(teN m (tile i)).toNat, 0, 0] := by
  have h := te_at m i
  unfold cc0_transform_2
  exact congrArg (fun v : BitVec 32 => ![v.toNat, 0, 0]) h
theorem transform_3 (i : grid0.Coords) : cc0_transform_3 k0_off1_inb numel1_S1 (tbl m) i = ![(teN m (tile i)).toNat, 0, 0] := by
  have h := te_at m i
  unfold cc0_transform_3
  exact congrArg (fun v : BitVec 32 => ![v.toNat, 0, 0]) h
theorem transform_4 (i : grid0.Coords) : cc0_transform_4 k0_off1_inb numel1_S1 (tbl m) i = ![(teN m (tile i)).toNat, 0, 0] := by
  have h := te_at m i
  unfold cc0_transform_4
  exact congrArg (fun v : BitVec 32 => ![v.toNat, 0, 0]) h
theorem transform_5 (i : grid0.Coords) : cc0_transform_5 k0_off1_inb numel1_S1 (tbl m) i = ![(teN m (tile i)).toNat, 0, 0] := by
  have h := te_at m i
  unfold cc0_transform_5
  exact congrArg (fun v : BitVec 32 => ![v.toNat, 0, 0]) h

/-- The tokens' block: the point's own, or the last tile's past it. -/
theorem transform_0 (h : InRange m) (i : grid0.Coords) : cc0_transform_0 inb_S1_S1_0 numel1_S1 (tbl m) i = ![min (i 0).val ((nvN m).toNat - 1), 0] := by
  have hn := nv_at m
  have h1 := h.one; have h2 := h.all
  have hi : (i 0).val < 287 := (i 0).isLt
  have hN : Affine.IsInt (nvN m) ((nvN m).toNat : Int) := isOf (WordCmp.toInt_eq_toNat_of_lt_half (by change (nvN m).toNat < 2 ^ 31; omega))
  unfold cc0_transform_0
  refine (congrArg (fun v : BitVec 32 => ![(Scalar.minsi (BitVec.ofNat 32 (i 0).val) (Scalar.subi v 1#32)).toNat, 0]) hn).trans ?_
  have hA := Affine.minsi (Affine.ofNat (e := ((i 0).val : Int)) (i 0).val ⟨rfl, by omega⟩) (Affine.subi hN (Affine.ofNat (e := 1) 1 ⟨rfl, by omega⟩) (e := ((nvN m).toNat : Int) - 1) ⟨rfl, by omega, by omega⟩) rfl
  have hT : (Scalar.minsi (BitVec.ofNat 32 (i 0).val) (Scalar.subi (nvN m) 1#32)).toNat = min (i 0).val ((nvN m).toNat - 1) := by
    have := intOf hA
    rw [BitVec.toInt_eq_toNat_cond] at this
    split at this <;> omega
  exact congrArg (fun k : ℕ => ![k, 0]) hT

set_option maxHeartbeats 1600000 in
/-- Tables in range select blocks inside the arrays. -/
theorem ok_of_inRange (h : InRange m) : Ok m := by
  have h1 := h.one; have h2 := h.all
  unfold Ok ok0
  refine ⟨fun i => ?_, fun i => ?_, fun i => ?_, fun i => ?_, fun i => ?_, fun i => ?_⟩
  · have hT := transform_0 m h i
    refine ⟨fun a => ?_, .inr (Affine.block_words_dvd (of_decide_eq_true rfl) (by decide))⟩
    rw [hT]
    have hi : (i 0).val < 287 := (i 0).isLt
    fin_cases a
    · change (min (i 0).val ((nvN m).toNat - 1) + 1) * 4096 ≤ 1175552; omega
    · change (0 + 1) * 128 ≤ 128; omega
  · have hT := transform_1 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 2048 ≤ 2048; omega
  · have hT := transform_2 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 1024 ≤ 1024; omega
  · have hT := transform_3 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_4 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_5 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega

end Cert.LatentExperts.Hand

end
-- ==== Proof.LatentExpertsIdealKit.lean ====
module

public import proofs.«01_k».proof.Proof.Gen.LatentExpertsIdeal
public import proofs.«01_k».proof.Proof.Gen.LatentExpertsIdeal.Launch
public import proofs.«01_k».proof.Proof.Gen.LatentExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at grid point `t`, on the staging buffers the pipeline hands it there. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

/-- The buffers of core `c` when the kernel call starts: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The host operations up to the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host operations leave `main_arg0` alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg1` alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg2` alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg3` alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg4` alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg5` alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg6` alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The contents of the two prefetched tables at the kernel call. -/
def tbl : pre0.Contents (Elt F) := fun j => V m (0 : Dev nD) (pre0.ref j)
/-- There is one device, so each device's tables hold these contents. -/
theorem V_pre (c : Dev nD) (j : Fin 2) : V m c (pre0.ref j) = tbl m j := by
  obtain rfl : c = 0 := Subsingleton.elim _ _; rfl
/-- Each block the tables select lies inside its array. -/
abbrev Ok : Prop := ok0 (F := F) (tbl m)
/-- The pipeline at these table contents. -/
abbrev adm (hO : Ok m) : (pcfg0 (F := F)).Adm := ⟨tbl m, hO⟩
abbrev cfgM (hO : Ok m) : Pipeline.Cfg sig Λ₀ := cfg0 (adm m hO)

/-- Each table as the body takes it: a whole buffer. -/
abbrev tbM0_0 : Memref sig .tc .smem S287 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer on core `c`, and half of it held at contents `f` (the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the body may read, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array at the kernel call. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer of input window 0 holds its block at each point, for proof data that leave the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 1 holds its block at each point, for proof data that leave the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 2 holds its block at each point, for proof data that leave the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 3 holds its block at each point, for proof data that leave the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 4 holds its block at each point, for proof data that leave the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 5 holds its block at each point, for proof data that leave the block in place. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 6 holds its block at each point, for proof data that leave the block in place. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run ending at the launch theorem's post ends with each argument array as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-- The staging buffer of each window at point `t`, with the fact that it is a whole buffer. -/
abbrev ms0_0 (hO : Ok m) (t : Fin (cfgM m hO).N) : Memref sig .tc .vmem S4096x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x256 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4096x128 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The three scratch buffers, holding one expert's gate, up and down weights. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

/-- The launch theorem's scratch resources, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.LatentExpertsIdeal.Hand

end
-- ==== Proof.LatentExpertsIdealVal.lean ====
module

public import proofs.«01_k».proof.Proof.Gen.LatentExpertsIdeal
public import proofs.«01_k».proof.Proof.Gen.LatentExpertsIdeal.Launch
public import proofs.«01_k».proof.Proof.Gen.LatentExpertsIdeal.Skeleton
public import proofs.«01_k».proof.Proof.LatentExpertsIdealKit
public import Idealize.ShloMosaic.Lib.Pipeline.ReadBack
public import Idealize.ShloMosaic.Lib.WholeRead
public import Idealize.ShloMosaic.Lib.ValueIdxCoords
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What a change of expert leaves in the three scratch buffers -/

/-- Columns `256 b … 256 b + 255` of the expert's fused weights. -/
def wblk (x1 : Vec F S1x1024x2048 .f32) (b : Fin 8) : Vec F S1x1024x256 .f32 :=
  fun z => x1 (ix3 (0 : Fin 1) (z 1 : Fin 1024) (⟨256 * b.val + (z 2).val, by have := b.isLt; have := (z 2).isLt; change (z 2).val < 256 at this; change _ < 2048; omega⟩ : Fin 2048))

/-- The block and the column within it of a column of the gate or up weights. -/
def colBlk (y : S1024x1024.Idx) : Fin 8 := ⟨(y 1).val / 128, by have := (y 1).isLt; change (y 1).val < 1024 at this; omega⟩

/-- The place of an entry within its block. -/
def colIn (y : S1024x1024.Idx) : S1024x128.Idx := ix2 (y 0 : Fin 1024) (⟨(y 1).val % 128, by omega⟩ : Fin 128)

/-- The gate weights the scratch holds: block by block the left half of the selector's product. -/
def gateW (x1 : Vec F S1x1024x2048 .f32) (x6 : Vec F S256x256 .bf16) : Vec F S1024x1024 .bf16 :=
  fun y => k0_pay12 (wblk x1 (colBlk y)) x6 (colIn y)

/-- The up weights the scratch holds: block by block the right half of the selector's product. -/
def upW (x1 : Vec F S1x1024x2048 .f32) (x6 : Vec F S256x256 .bf16) : Vec F S1024x1024 .bf16 :=
  fun y => k0_pay13 (wblk x1 (colBlk y)) x6 (colIn y)

/-- The entry of block `b` that a stored piece puts at its place. -/
theorem colBlk_emb (b : Fin 8) (off : ℕ) (hoff : off = 128 * b.val) (inb : ∀ a, (![0, off] : Fin 2 → ℕ) a + S1024x128.size a ≤ S1024x1024.size a) (x : S1024x128.Idx) :
    colBlk ((Rect.unit (s := S1024x1024) ![0, off] S1024x128.size inb).emb x) = b
      ∧ colIn ((Rect.unit (s := S1024x1024) ![0, off] S1024x128.size inb).emb x) = x := by
  have hx : (x 1).val < 128 := (x 1).isLt
  have h0 : ((Rect.unit (s := S1024x1024) ![0, off] S1024x128.size inb).emb x 0).val = (x 0).val := by
    change 0 + 1 * (x 0).val = _; omega
  have h1 : ((Rect.unit (s := S1024x1024) ![0, off] S1024x128.size inb).emb x 1).val = off + (x 1).val := by
    change off + 1 * (x 1).val = _; omega
  refine ⟨Fin.ext ?_, ?_⟩
  · change ((Rect.unit (s := S1024x1024) ![0, off] S1024x128.size inb).emb x 1).val / 128 = b.val
    rw [h1]; omega
  · funext a; fin_cases a
    · exact Fin.ext h0
    · apply Fin.ext
      change ((Rect.unit (s := S1024x1024) ![0, off] S1024x128.size inb).emb x 1).val % 128 = (x 1).val
      rw [h1]; omega

variable {κ : Kind} {sp : Space}

/-- The eight stores of the gate weights, read back. -/
theorem read_gate (v : View sig κ sp S1024x1024 .bf16) (f : v.ty.Contents (Elt F)) (x1 : Vec F S1x1024x2048 .f32) (x6 : Vec F S256x256 .bf16) :
    v.read (Elt F) (v.writes (Elt F) f [
    ⟨Rect.unit (s := S1024x1024) ![0, 896] S1024x128.size inb_S1024x1024_S1024x128_0_896, k0_pay4 (wblk x1 7) x6⟩,
    ⟨Rect.unit (s := S1024x1024) ![0, 768] S1024x128.size inb_S1024x1024_S1024x128_0_768, k0_pay1 (k0_pay30 (wblk x1 6) x6)⟩,
    ⟨Rect.unit (s := S1024x1024) ![0, 640] S1024x128.size inb_S1024x1024_S1024x128_0_640, k0_pay28 (wblk x1 5) x6⟩,
    ⟨Rect.unit (s := S1024x1024) ![0, 512] S1024x128.size inb_S1024x1024_S1024x128_0_512, k0_pay25 (k0_pay23 (wblk x1 4)) x6⟩,
    ⟨Rect.unit (s := S1024x1024) ![0, 384] S1024x128.size inb_S1024x1024_S1024x128_0_384, k0_pay21 (wblk x1 3) x6⟩,
    ⟨Rect.unit (s := S1024x1024) ![0, 256] S1024x128.size inb_S1024x1024_S1024x128_0_256, k0_pay18 (wblk x1 2) x6⟩,
    ⟨Rect.unit (s := S1024x1024) ![0, 128] S1024x128.size inb_S1024x1024_S1024x128_0_128, k0_pay15 (wblk x1 1) x6⟩,
    ⟨Rect.unit (s := S1024x1024) ![0, 0] S1024x128.size inb_S1024x1024_S1024x128_0_0, k0_pay12 (wblk x1 0) x6⟩]) = gateW x1 x6 := by
  funext y
  have hc := View.cover_of_tiledL (Val := Elt F) (e := .bf16) [
    ⟨Rect.unit (s := S1024x1024) ![0, 896] S1024x128.size inb_S1024x1024_S1024x128_0_896, k0_pay4 (wblk x1 7) x6⟩,
    ⟨Rect.unit (s := S1024x1024) ![0, 768] S1024x128.size inb_S1024x1024_S1024x128_0_768, k0_pay1 (k0_pay30 (wblk x1 6) x6)⟩,
    ⟨Rect.unit (s := S1024x1024) ![0, 640] S1024x128.size inb_S1024x1024_S1024x128_0_640, k0_pay28 (wblk x1 5) x6⟩,
    ⟨Rect.unit (s := S1024x1024) ![0, 512] S1024x128.size inb_S1024x1024_S1024x128_0_512, k0_pay25 (k0_pay23 (wblk x1 4)) x6⟩,
    ⟨Rect.unit (s := S1024x1024) ![0, 384] S1024x128.size inb_S1024x1024_S1024x128_0_384, k0_pay21 (wblk x1 3) x6⟩,
    ⟨Rect.unit (s := S1024x1024) ![0, 256] S1024x128.size inb_S1024x1024_S1024x128_0_256, k0_pay18 (wblk x1 2) x6⟩,
    ⟨Rect.unit (s := S1024x1024) ![0, 128] S1024x128.size inb_S1024x1024_S1024x128_0_128, k0_pay15 (wblk x1 1) x6⟩,
    ⟨Rect.unit (s := S1024x1024) ![0, 0] S1024x128.size inb_S1024x1024_S1024x128_0_0, k0_pay12 (wblk x1 0) x6⟩] S1024x128.size (by sl_kernel_rfl) y
  rw [View.read_writes_apply_eq_canon _ _ _ _ hc]
  refine View.canon_append_of_piecesOf (gateW x1 x6) [] _ ?_ y hc
  refine ⟨fun x => ?_, fun x => ?_, fun x => ?_, fun x => ?_, fun x => ?_, fun x => ?_, fun x => ?_, fun x => ?_, trivial⟩
  · obtain ⟨e1, e2⟩ := colBlk_emb 7 896 rfl inb_S1024x1024_S1024x128_0_896 x
    unfold gateW; rw [e1, e2]; rfl
  · obtain ⟨e1, e2⟩ := colBlk_emb 6 768 rfl inb_S1024x1024_S1024x128_0_768 x
    unfold gateW; rw [e1, e2]; rfl
  · obtain ⟨e1, e2⟩ := colBlk_emb 5 640 rfl inb_S1024x1024_S1024x128_0_640 x
    unfold gateW; rw [e1, e2]; rfl
  · obtain ⟨e1, e2⟩ := colBlk_emb 4 512 rfl inb_S1024x1024_S1024x128_0_512 x
    unfold gateW; rw [e1, e2]; rfl
  · obtain ⟨e1, e2⟩ := colBlk_emb 3 384 rfl inb_S1024x1024_S1024x128_0_384 x
    unfold gateW; rw [e1, e2]; rfl
  · obtain ⟨e1, e2⟩ := colBlk_emb 2 256 rfl inb_S1024x1024_S1024x128_0_256 x
    unfold gateW; rw [e1, e2]; rfl
  · obtain ⟨e1, e2⟩ := colBlk_emb 1 128 rfl inb_S1024x1024_S1024x128_0_128 x
    unfold gateW; rw [e1, e2]; rfl
  · obtain ⟨e1, e2⟩ := colBlk_emb 0 0 rfl inb_S1024x1024_S1024x128_0_0 x
    unfold gateW; rw [e1, e2]

/-- The eight stores of the up weights, read back. -/
theorem read_up (v : View sig κ sp S1024x1024 .bf16) (f : v.ty.Contents (Elt F)) (x1 : Vec F S1x1024x2048 .f32) (x6 : Vec F S256x256 .bf16) :
    v.read (Elt F) (v.writes (Elt F) f [
    ⟨Rect.unit (s := S1024x1024) ![0, 896] S1024x128.size inb_S1024x1024_S1024x128_0_896, k0_pay5 (wblk x1 7) x6⟩,
    ⟨Rect.unit (s := S1024x1024) ![0, 768] S1024x128.size inb_S1024x1024_S1024x128_0_768, k0_pay2 (k0_pay30 (wblk x1 6) x6)⟩,
    ⟨Rect.unit (s := S1024x1024) ![0, 640] S1024x128.size inb_S1024x1024_S1024x128_0_640, k0_pay29 (wblk x1 5) x6⟩,
    ⟨Rect.unit (s := S1024x1024) ![0, 512] S1024x128.size inb_S1024x1024_S1024x128_0_512, k0_pay26 (k0_pay23 (wblk x1 4)) x6⟩,
    ⟨Rect.unit (s := S1024x1024) ![0, 384] S1024x128.size inb_S1024x1024_S1024x128_0_384, k0_pay22 (wblk x1 3) x6⟩,
    ⟨Rect.unit (s := S1024x1024) ![0, 256] S1024x128.size inb_S1024x1024_S1024x128_0_256, k0_pay19 (wblk x1 2) x6⟩,
    ⟨Rect.unit (s := S1024x1024) ![0, 128] S1024x128.size inb_S1024x1024_S1024x128_0_128, k0_pay16 (wblk x1 1) x6⟩,
    ⟨Rect.unit (s := S1024x1024) ![0, 0] S1024x128.size inb_S1024x1024_S1024x128_0_0, k0_pay13 (wblk x1 0) x6⟩]) = upW x1 x6 := by
  funext y
  have hc := View.cover_of_tiledL (Val := Elt F) (e := .bf16) [
    ⟨Rect.unit (s := S1024x1024) ![0, 896] S1024x128.size inb_S1024x1024_S1024x128_0_896, k0_pay5 (wblk x1 7) x6⟩,
    ⟨Rect.unit (s := S1024x1024) ![0, 768] S1024x128.size inb_S1024x1024_S1024x128_0_768, k0_pay2 (k0_pay30 (wblk x1 6) x6)⟩,
    ⟨Rect.unit (s := S1024x1024) ![0, 640] S1024x128.size inb_S1024x1024_S1024x128_0_640, k0_pay29 (wblk x1 5) x6⟩,
    ⟨Rect.unit (s := S1024x1024) ![0, 512] S1024x128.size inb_S1024x1024_S1024x128_0_512, k0_pay26 (k0_pay23 (wblk x1 4)) x6⟩,
    ⟨Rect.unit (s := S1024x1024) ![0, 384] S1024x128.size inb_S1024x1024_S1024x128_0_384, k0_pay22 (wblk x1 3) x6⟩,
    ⟨Rect.unit (s := S1024x1024) ![0, 256] S1024x128.size inb_S1024x1024_S1024x128_0_256, k0_pay19 (wblk x1 2) x6⟩,
    ⟨Rect.unit (s := S1024x1024) ![0, 128] S1024x128.size inb_S1024x1024_S1024x128_0_128, k0_pay16 (wblk x1 1) x6⟩,
    ⟨Rect.unit (s := S1024x1024) ![0, 0] S1024x128.size inb_S1024x1024_S1024x128_0_0, k0_pay13 (wblk x1 0) x6⟩] S1024x128.size (by sl_kernel_rfl) y
  rw [View.read_writes_apply_eq_canon _ _ _ _ hc]
  refine View.canon_append_of_piecesOf (upW x1 x6) [] _ ?_ y hc
  refine ⟨fun x => ?_, fun x => ?_, fun x => ?_, fun x => ?_, fun x => ?_, fun x => ?_, fun x => ?_, fun x => ?_, trivial⟩
  · obtain ⟨e1, e2⟩ := colBlk_emb 7 896 rfl inb_S1024x1024_S1024x128_0_896 x
    unfold upW; rw [e1, e2]; rfl
  · obtain ⟨e1, e2⟩ := colBlk_emb 6 768 rfl inb_S1024x1024_S1024x128_0_768 x
    unfold upW; rw [e1, e2]; rfl
  · obtain ⟨e1, e2⟩ := colBlk_emb 5 640 rfl inb_S1024x1024_S1024x128_0_640 x
    unfold upW; rw [e1, e2]; rfl
  · obtain ⟨e1, e2⟩ := colBlk_emb 4 512 rfl inb_S1024x1024_S1024x128_0_512 x
    unfold upW; rw [e1, e2]; rfl
  · obtain ⟨e1, e2⟩ := colBlk_emb 3 384 rfl inb_S1024x1024_S1024x128_0_384 x
    unfold upW; rw [e1, e2]; rfl
  · obtain ⟨e1, e2⟩ := colBlk_emb 2 256 rfl inb_S1024x1024_S1024x128_0_256 x
    unfold upW; rw [e1, e2]; rfl
  · obtain ⟨e1, e2⟩ := colBlk_emb 1 128 rfl inb_S1024x1024_S1024x128_0_128 x
    unfold upW; rw [e1, e2]; rfl
  · obtain ⟨e1, e2⟩ := colBlk_emb 0 0 rfl inb_S1024x1024_S1024x128_0_0 x
    unfold upW; rw [e1, e2]

/-! ## The row of tokens a step reads and writes: four interleaved pieces of 512 rows -/

/-- The rows `4 t + j` of the block seen as 2048 rows of pairs. -/
abbrev quarter (j : ℕ) (inb : ∀ a, S512x2x128.size a = 0 ∨ (![j, 0, 0] : Fin 3 → ℕ) a + (![4, 1, 1] : Fin 3 → ℕ) a * (S512x2x128.size a - 1) < S2048x2x128.size a) : Rect S2048x2x128 :=
  ⟨⟨![j, 0, 0], S512x2x128.size, ![4, 1, 1], inb⟩, spos_4_1_1⟩

/-- Piece `j` of the step's tokens. -/
def tokQ (x0 : Vec F S4096x128 .bf16) (j : Fin 4) : Vec F S512x2x128 .bf16 :=
  fun z => x0 (Shape.reshapeEquiv reshapes_S4096x128_S2048x2x128.1 (ix3 (⟨4 * (z 0).val + j.val, by have := (z 0).isLt; change (z 0).val < 512 at this; have := j.isLt; omega⟩ : Fin 2048) (z 1 : Fin 2) (z 2 : Fin 128)))

/-- Four pieces put back together, over the block seen as 2048 rows of pairs. -/
def weaveAt (p : Fin 4 → Vec F S512x2x128 .bf16) : Vec F S2048x2x128 .bf16 := fun x =>
  p ⟨(x 0).val % 4, by omega⟩ (ix3 (⟨(x 0).val / 4, by have := (x 0).isLt; change (x 0).val < 2048 at this; omega⟩ : Fin 512) (x 1 : Fin 2) (x 2 : Fin 128))

/-- Four pieces put back together. -/
def weave (p : Fin 4 → Vec F S512x2x128 .bf16) : Vec F S4096x128 .bf16 := fun y =>
  weaveAt p ((Shape.reshapeEquiv reshapes_S4096x128_S2048x2x128.1).symm y)

/-- The step's result before it is packed: the expert's feed-forward of the step's tokens. -/
def ffn (x0 : Vec F S4096x128 .bf16) (x3 x4 x5 : Vec F S1x1x1024 .f32) (g u d : Vec F S1024x1024 .bf16) : FVec F S512x1024 .f32 :=
  k0_pay34 (k0_pay31 (tokQ x0 0) (tokQ x0 1) (tokQ x0 2) (tokQ x0 3)) (k0_pay32 (tokQ x0 0) (tokQ x0 1) (tokQ x0 2) (tokQ x0 3) g x3) (k0_pay33 (F := F)) u x4 d x5

/-- What a step that computes leaves in its output block. -/
def outY (x0 : Vec F S4096x128 .bf16) (x3 x4 x5 : Vec F S1x1x1024 .f32) (g u d : Vec F S1024x1024 .bf16) : Vec F S4096x128 .bf16 :=
  weave ![k0_pay35 (k0_pay31 (tokQ x0 0) (tokQ x0 1) (tokQ x0 2) (tokQ x0 3)) (k0_pay32 (tokQ x0 0) (tokQ x0 1) (tokQ x0 2) (tokQ x0 3) g x3) (k0_pay33 (F := F)) u x4 d x5,
    k0_pay7 (k0_pay36 (k0_pay31 (tokQ x0 0) (tokQ x0 1) (tokQ x0 2) (tokQ x0 3)) (k0_pay32 (tokQ x0 0) (tokQ x0 1) (tokQ x0 2) (tokQ x0 3) g x3) (k0_pay33 (F := F)) u x4 d x5)
      (k0_pay37 (k0_pay31 (tokQ x0 0) (tokQ x0 1) (tokQ x0 2) (tokQ x0 3)) (k0_pay32 (tokQ x0 0) (tokQ x0 1) (tokQ x0 2) (tokQ x0 3) g x3) (k0_pay33 (F := F)) u x4 d x5),
    k0_pay8 (ffn x0 x3 x4 x5 g u d), k0_pay9 (ffn x0 x3 x4 x5 g u d)]

/-- Where piece `j` sits. -/
theorem quarter_emb (j : Fin 4) (inb) (z : S512x2x128.Idx) :
    (quarter j.val inb).emb z = (ix3 (⟨4 * (z 0).val + j.val, by have := (z 0).isLt; change (z 0).val < 512 at this; have := j.isLt; omega⟩ : Fin 2048) (z 1 : Fin 2) (z 2 : Fin 128)) := by
  funext a; fin_cases a
  · apply Fin.ext; change j.val + 4 * (z 0).val = 4 * (z 0).val + j.val; omega
  · apply Fin.ext; change 0 + 1 * (z 1).val = (z 1).val; omega
  · apply Fin.ext; change 0 + 1 * (z 2).val = (z 2).val; omega

/-- A load of piece `j` of a whole buffer. -/
theorem readAt_quarter (m : Memref sig .tc .vmem S4096x128 .bf16) (hm : m.IsWhole) (hc) (x0 : Vec F S4096x128 .bf16) (j : Fin 4) (inb) :
    View.readAt (Elt F) (m.reshape S2048x2x128 reshapes_S4096x128_S2048x2x128.1 reshapes_S4096x128_S2048x2x128.2 hc).view (⟨![j.val, 0, 0], S512x2x128.size, ![4, 1, 1], inb⟩ : LoadRect S2048x2x128) (hm.unread x0) = tokQ x0 j := by
  funext z
  refine (congrFun (hm.read_unread x0) (Shape.reshapeEquiv reshapes_S4096x128_S2048x2x128.1 ((quarter j.val inb).emb z))).trans ?_
  rw [quarter_emb]; rfl

/-- The four strided stores of a step, read back. -/
theorem read_weave (m : Memref sig .tc .vmem S4096x128 .bf16) (hc) (f : m.view.ty.Contents (Elt F)) (p0 p1 p2 p3 : Vec F S512x2x128 .bf16) (i0 i1 i2 i3) :
    View.read (Elt F) m.view ((m.reshape S2048x2x128 reshapes_S4096x128_S2048x2x128.1 reshapes_S4096x128_S2048x2x128.2 hc).view.writes (Elt F) f
      [⟨quarter 3 i3, p3⟩, ⟨quarter 2 i2, p2⟩, ⟨quarter 1 i1, p1⟩, ⟨quarter 0 i0, p0⟩]) = weave ![p0, p1, p2, p3] := by
  funext y
  obtain ⟨x, rfl⟩ := (Shape.reshapeEquiv reshapes_S4096x128_S2048x2x128.1).surjective y
  have hc' : ∃ p ∈ ([⟨quarter 3 i3, p3⟩, ⟨quarter 2 i2, p2⟩, ⟨quarter 1 i1, p1⟩, ⟨quarter 0 i0, p0⟩] : List (View.Piece (Elt F) S2048x2x128 .bf16)), x ∈ p.1.set := by
    have hx : (x 0).val < 2048 := (x 0).isLt
    have key : ∀ (j : Fin 4) (inb), (x 0).val % 4 = j.val → x ∈ (quarter j.val inb).set := fun j inb hj => by
      have e : (quarter j.val inb).emb (ix3 (⟨(x 0).val / 4, by omega⟩ : Fin 512) (x 1 : Fin 2) (x 2 : Fin 128)) = x := by
        rw [quarter_emb]; funext a; fin_cases a
        · apply Fin.ext; change 4 * ((x 0).val / 4) + j.val = (x 0).val; omega
        · rfl
        · rfl
      rw [← e, ← Rect.map_emb_univ]; exact Finset.mem_map_of_mem _ (Finset.mem_univ _)
    have h4 : (x 0).val % 4 = 0 ∨ (x 0).val % 4 = 1 ∨ (x 0).val % 4 = 2 ∨ (x 0).val % 4 = 3 := by omega
    rcases h4 with h | h | h | h
    · exact ⟨⟨quarter 0 i0, p0⟩, .tail _ (.tail _ (.tail _ (.head _))), key 0 i0 h⟩
    · exact ⟨⟨quarter 1 i1, p1⟩, .tail _ (.tail _ (.head _)), key 1 i1 h⟩
    · exact ⟨⟨quarter 2 i2, p2⟩, .tail _ (.head _), key 2 i2 h⟩
    · exact ⟨⟨quarter 3 i3, p3⟩, .head _, key 3 i3 h⟩
  refine (View.read_writes_apply_eq_canon (m.reshape S2048x2x128 reshapes_S4096x128_S2048x2x128.1 reshapes_S4096x128_S2048x2x128.2 hc).view f x _ ?_).trans ?_
  · exact hc'
  · refine View.canon_append_of_piecesOf (fun x => weave ![p0, p1, p2, p3] (Shape.reshapeEquiv reshapes_S4096x128_S2048x2x128.1 x)) [] _ ?_ x hc'
    have key : ∀ (j : Fin 4) (inb) (z : S512x2x128.Idx), (weave ![p0, p1, p2, p3] (Shape.reshapeEquiv reshapes_S4096x128_S2048x2x128.1 ((quarter j.val inb).emb z))) = (![p0, p1, p2, p3] : Fin 4 → Vec F S512x2x128 .bf16) j z := fun j inb z => by
      have hz : (z 0).val < 512 := (z 0).isLt
      have hj := j.isLt
      rw [quarter_emb]
      refine (congrArg (weaveAt _) (Equiv.symm_apply_apply _ _)).trans ?_
      have e1 : (⟨(4 * (z 0).val + j.val) % 4, by omega⟩ : Fin 4) = j := Fin.ext (by change (4 * (z 0).val + j.val) % 4 = j.val; omega)
      have e2 : (⟨(4 * (z 0).val + j.val) / 4, by omega⟩ : Fin 512) = z 0 := Fin.ext (by change (4 * (z 0).val + j.val) / 4 = (z 0).val; omega)
      change (![p0, p1, p2, p3] : Fin 4 → Vec F S512x2x128 .bf16) ⟨(4 * (z 0).val + j.val) % 4, _⟩ (ix3 (⟨(4 * (z 0).val + j.val) / 4, _⟩ : Fin 512) (z 1 : Fin 2) (z 2 : Fin 128)) = _
      rw [e1, e2]
      exact congrArg _ (eq_ix3 z).symm
    exact ⟨fun z => (key 3 i3 z).symm, fun z => (key 2 i2 z).symm, fun z => (key 1 i1 z).symm, fun z => (key 0 i0 z).symm, trivial⟩

end Cert.LatentExpertsIdeal.Hand

end
-- ==== Proof.LatentExpertsIdealBack.lean ====
module

public import proofs.«01_k».proof.Proof.Gen.LatentExpertsIdeal
public import proofs.«01_k».proof.Proof.Gen.LatentExpertsIdeal.Launch
public import proofs.«01_k».proof.Proof.Gen.LatentExpertsIdeal.Skeleton
public import proofs.«01_k».proof.Proof.LatentExpertsIdealVal
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word the body reads of the count table. -/
abbrev nvW (c : Dev nD) (xt1 : TbBuf0 (F := F) c tbM0_1) : BitVec 32 :=
  View.readAt (Elt F) tbM0_1.view (Rect.unit (s := S1) ![0] S1.size inb_S1_S1_0).toLoadRect xt1 (Shape.Idx.first (lt_of_lt_of_eq Nat.zero_lt_one numel1_S1.symm))

/-- The word the body reads of the expert table at point `i`. -/
abbrev teW (c : Dev nD) (i : grid0.Coords) (xt0 : TbBuf0 (F := F) c tbM0_0) : BitVec 32 :=
  View.readAt (Elt F) tbM0_0.view (Rect.unit (s := S287) (k0_off1 i) S1.size (k0_off1_inb i)).toLoadRect xt0 (Shape.Idx.first (lt_of_lt_of_eq Nat.zero_lt_one numel1_S1.symm))

/-- The word the body reads of the expert table at the point before `i`. -/
abbrev tpW (c : Dev nD) (i : grid0.Coords) (xt0 : TbBuf0 (F := F) c tbM0_0) : BitVec 32 :=
  View.readAt (Elt F) tbM0_0.view (Rect.unit (s := S287) (k0_off2 i) S1.size (k0_off2_inb i)).toLoadRect xt0 (Shape.Idx.first (lt_of_lt_of_eq Nat.zero_lt_one numel1_S1.symm))

/-- The condition under which the body reads the weights of a new expert. -/
abbrev condL (i : grid0.Coords) (n a b : BitVec 32) : Prop :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b)))) 0#32 = 1#1

/-- A load of a whole buffer. -/
theorem readAt_all {S : Shape} {e : EltTy} (m : Memref sig .tc .vmem S e) (hm : m.IsWhole) {off : Fin S.rank → ℕ} (inb : ∀ a, off a + S.size a ≤ S.size a) (X : S.Idx → Elt F e) :
    View.readAt (Elt F) m.view (Rect.unit off S.size inb).toLoadRect (hm.unread X) = X :=
  (View.readAt_full m.view (hm.unread X) inb).trans (hm.read_unread X)

/-- A load of 256 columns of the expert's fused weights. -/
theorem readAt_wblk (m : Memref sig .tc .vmem S1x1024x2048 .f32) (hm : m.IsWhole) (x1 : Vec F S1x1024x2048 .f32) (b : Fin 8) (off : ℕ) (hoff : off = 256 * b.val)
    (inb : ∀ a, (![0, 0, off] : Fin 3 → ℕ) a + S1x1024x256.size a ≤ S1x1024x2048.size a) :
    View.readAt (Elt F) m.view (Rect.unit (s := S1x1024x2048) ![0, 0, off] S1x1024x256.size inb).toLoadRect (hm.unread x1) = wblk x1 b := by
  funext z
  refine (hm.readAt_unread x1 _ z).trans (congrArg x1 ?_)
  subst hoff
  funext a; fin_cases a
  · exact Subsingleton.elim (α := Fin 1) _ _
  · apply Fin.ext; change 0 + 1 * (z 1).val = (z 1).val; omega
  · apply Fin.ext; change 256 * b.val + 1 * (z 2).val = 256 * b.val + (z 2).val; omega

/-- The gate scratch after a change of expert. -/
theorem gate_writes (arg4 : Memref sig .tc .vmem S1x1024x2048 .f32) (harg4 : arg4.IsWhole) (arg9 : Memref sig .tc .vmem S256x256 .bf16) (harg9 : arg9.IsWhole)
    (m : Memref sig .tc .vmem S1024x1024 .bf16) (hm : m.IsWhole) (f : m.view.ty.Contents (Elt F)) (x1 : Vec F S1x1024x2048 .f32) (x6 : Vec F S256x256 .bf16) (L : List (View.Piece (Elt F) S1024x1024 .bf16))
    (hL : L = [
    ⟨Rect.unit (s := S1024x1024) ![0, 896] S1024x128.size inb_S1024x1024_S1024x128_0_896, k0_pay4 (View.readAt (Elt F) arg4.view (Rect.unit (s := S1x1024x2048) ![0, 0, 1792] S1x1024x256.size inb_S1x1024x2048_S1x1024x256_0_0_1792).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 768] S1024x128.size inb_S1024x1024_S1024x128_0_768, k0_pay1 (k0_pay30 (View.readAt (Elt F) arg4.view (Rect.unit (s := S1x1024x2048) ![0, 0, 1536] S1x1024x256.size inb_S1x1024x2048_S1x1024x256_0_0_1536).toLoadRect (harg4.unread x1)) (View.readAt (Elt F) arg9.view (Rect.unit (s := S256x256) ![0, 0] S256x256.size inb_S256x256_S256x256_0_0).toLoadRect (harg9.unread x6)))⟩,
    ⟨Rect.unit (s := S1024x1024) ![0, 640] S1024x128.size inb_S1024x1024_S1024x128_0_640, k0_pay28 (View.readAt (Elt F) arg4.view (Rect.unit (s := S1x1024x2048) ![0, 0, 1280] S1x1024x256.size inb_S1x1024x2048_S1x1024x256_0_0_1280).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 512] S1024x128.size inb_S1024x1024_S1024x128_0_512, k0_pay25 (k0_pay23 (View.readAt (Elt F) arg4.view (Rect.unit (s := S1x1024x2048) ![0, 0, 1024] S1x1024x256.size inb_S1x1024x2048_S1x1024x256_0_0_1024).toLoadRect (harg4.unread x1))) (View.readAt (Elt F) arg9.view (Rect.unit (s := S256x256) ![0, 0] S256x256.size inb_S256x256_S256x256_0_0).toLoadRect (harg9.unread x6))⟩,
    ⟨Rect.unit (s := S1024x1024) ![0, 384] S1024x128.size inb_S1024x1024_S1024x128_0_384, k0_pay21 (View.readAt (Elt F) arg4.view (Rect.unit (s := S1x1024x2048) ![0, 0, 768] S1x1024x256.size inb_S1x1024x2048_S1x1024x256_0_0_768).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 256] S1024x128.size inb_S1024x1024_S1024x128_0_256, k0_pay18 (View.readAt (Elt F) arg4.view (Rect.unit (s := S1x1024x2048) ![0, 0, 512] S1x1024x256.size inb_S1x1024x2048_S1x1024x256_0_0_512).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 128] S1024x128.size inb_S1024x1024_S1024x128_0_128, k0_pay15 (View.readAt (Elt F) arg4.view (Rect.unit (s := S1x1024x2048) ![0, 0, 256] S1x1024x256.size inb_S1x1024x2048_S1x1024x256_0_0_256).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 0] S1024x128.size inb_S1024x1024_S1024x128_0_0, k0_pay12 (View.readAt (Elt F) arg4.view (Rect.unit (s := S1x1024x2048) ![0, 0, 0] S1x1024x256.size inb_S1x1024x2048_S1x1024x256_0_0_0).toLoadRect (harg4.unread x1)) (View.readAt (Elt F) arg9.view (Rect.unit (s := S256x256) ![0, 0] S256x256.size inb_S256x256_S256x256_0_0).toLoadRect (harg9.unread x6))⟩]) : m.view.writes (Elt F) f L = hm.unread (gateW x1 x6) := by
  subst hL
  apply hm.eq_unread
  rw [readAt_wblk arg4 harg4 x1 0 0 rfl, readAt_wblk arg4 harg4 x1 1 256 rfl, readAt_wblk arg4 harg4 x1 2 512 rfl, readAt_wblk arg4 harg4 x1 3 768 rfl, readAt_wblk arg4 harg4 x1 4 1024 rfl, readAt_wblk arg4 harg4 x1 5 1280 rfl, readAt_wblk arg4 harg4 x1 6 1536 rfl, readAt_wblk arg4 harg4 x1 7 1792 rfl, readAt_all arg9 harg9]
  exact read_gate m.view f x1 x6

/-- The up scratch after a change of expert. -/
theorem up_writes (arg4 : Memref sig .tc .vmem S1x1024x2048 .f32) (harg4 : arg4.IsWhole) (arg9 : Memref sig .tc .vmem S256x256 .bf16) (harg9 : arg9.IsWhole)
    (m : Memref sig .tc .vmem S1024x1024 .bf16) (hm : m.IsWhole) (f : m.view.ty.Contents (Elt F)) (x1 : Vec F S1x1024x2048 .f32) (x6 : Vec F S256x256 .bf16) (L : List (View.Piece (Elt F) S1024x1024 .bf16))
    (hL : L = [
    ⟨Rect.unit (s := S1024x1024) ![0, 896] S1024x128.size inb_S1024x1024_S1024x128_0_896, k0_pay5 (View.readAt (Elt F) arg4.view (Rect.unit (s := S1x1024x2048) ![0, 0, 1792] S1x1024x256.size inb_S1x1024x2048_S1x1024x256_0_0_1792).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 768] S1024x128.size inb_S1024x1024_S1024x128_0_768, k0_pay2 (k0_pay30 (View.readAt (Elt F) arg4.view (Rect.unit (s := S1x1024x2048) ![0, 0, 1536] S1x1024x256.size inb_S1x1024x2048_S1x1024x256_0_0_1536).toLoadRect (harg4.unread x1)) (View.readAt (Elt F) arg9.view (Rect.unit (s := S256x256) ![0, 0] S256x256.size inb_S256x256_S256x256_0_0).toLoadRect (harg9.unread x6)))⟩,
    ⟨Rect.unit (s := S1024x1024) ![0, 640] S1024x128.size inb_S1024x1024_S1024x128_0_640, k0_pay29 (View.readAt (Elt F) arg4.view (Rect.unit (s := S1x1024x2048) ![0, 0, 1280] S1x1024x256.size inb_S1x1024x2048_S1x1024x256_0_0_1280).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 512] S1024x128.size inb_S1024x1024_S1024x128_0_512, k0_pay26 (k0_pay23 (View.readAt (Elt F) arg4.view (Rect.unit (s := S1x1024x2048) ![0, 0, 1024] S1x1024x256.size inb_S1x1024x2048_S1x1024x256_0_0_1024).toLoadRect (harg4.unread x1))) (View.readAt (Elt F) arg9.view (Rect.unit (s := S256x256) ![0, 0] S256x256.size inb_S256x256_S256x256_0_0).toLoadRect (harg9.unread x6))⟩,
    ⟨Rect.unit (s := S1024x1024) ![0, 384] S1024x128.size inb_S1024x1024_S1024x128_0_384, k0_pay22 (View.readAt (Elt F) arg4.view (Rect.unit (s := S1x1024x2048) ![0, 0, 768] S1x1024x256.size inb_S1x1024x2048_S1x1024x256_0_0_768).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 256] S1024x128.size inb_S1024x1024_S1024x128_0_256, k0_pay19 (View.readAt (Elt F) arg4.view (Rect.unit (s := S1x1024x2048) ![0, 0, 512] S1x1024x256.size inb_S1x1024x2048_S1x1024x256_0_0_512).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 128] S1024x128.size inb_S1024x1024_S1024x128_0_128, k0_pay16 (View.readAt (Elt F) arg4.view (Rect.unit (s := S1x1024x2048) ![0, 0, 256] S1x1024x256.size inb_S1x1024x2048_S1x1024x256_0_0_256).toLoadRect (harg4.unread x1)) (View.readAt (Elt F) arg9.view (Rect.unit (s := S256x256) ![0, 0] S256x256.size inb_S256x256_S256x256_0_0).toLoadRect (harg9.unread x6))⟩,
    ⟨Rect.unit (s := S1024x1024) ![0, 0] S1024x128.size inb_S1024x1024_S1024x128_0_0, k0_pay13 (View.readAt (Elt F) arg4.view (Rect.unit (s := S1x1024x2048) ![0, 0, 0] S1x1024x256.size inb_S1x1024x2048_S1x1024x256_0_0_0).toLoadRect (harg4.unread x1)) (View.readAt (Elt F) arg9.view (Rect.unit (s := S256x256) ![0, 0] S256x256.size inb_S256x256_S256x256_0_0).toLoadRect (harg9.unread x6))⟩]) : m.view.writes (Elt F) f L = hm.unread (upW x1 x6) := by
  subst hL
  apply hm.eq_unread
  rw [readAt_wblk arg4 harg4 x1 0 0 rfl, readAt_wblk arg4 harg4 x1 1 256 rfl, readAt_wblk arg4 harg4 x1 2 512 rfl, readAt_wblk arg4 harg4 x1 3 768 rfl, readAt_wblk arg4 harg4 x1 4 1024 rfl, readAt_wblk arg4 harg4 x1 5 1280 rfl, readAt_wblk arg4 harg4 x1 6 1536 rfl, readAt_wblk arg4 harg4 x1 7 1792 rfl, readAt_all arg9 harg9]
  exact read_up m.view f x1 x6

/-- The down scratch after a change of expert. -/
theorem down_writes (arg5 : Memref sig .tc .vmem S1x1024x1024 .f32) (harg5 : arg5.IsWhole)
    (m : Memref sig .tc .vmem S1024x1024 .bf16) (hm : m.IsWhole) (f : m.view.ty.Contents (Elt F)) (x2 : Vec F S1x1024x1024 .f32) (L : List (View.Piece (Elt F) S1024x1024 .bf16))
    (hL : L = [⟨Rect.unit (s := S1024x1024) ![0, 0] S1024x1024.size inb_S1024x1024_S1024x1024_0_0, k0_pay6 (View.readAt (Elt F) arg5.view (Rect.unit (s := S1x1024x1024) ![0, 0, 0] S1x1024x1024.size inb_S1x1024x1024_S1x1024x1024_0_0_0).toLoadRect (harg5.unread x2))⟩]) :
    m.view.writes (Elt F) f L = hm.unread (k0_pay6 x2) := by
  subst hL
  apply hm.eq_unread
  rw [readAt_all arg5 harg5]
  funext y
  have hy : (Rect.unit (s := S1024x1024) ![0, 0] S1024x1024.size inb_S1024x1024_S1024x1024_0_0).emb y = y := Rect.emb_unit_full _ _
  conv_lhs => rw [← hy]
  exact View.read_writes_cons_emb _ _ _ _ _ _

/-- The output block after the four strided stores of a step that computes. -/
theorem read_out (arg10 : Memref sig .tc .vmem S4096x128 .bf16) (hc) (f : arg10.view.ty.Contents (Elt F)) (i0 i1 i2 i3)
    (x0 : Vec F S4096x128 .bf16) (x3 x4 x5 : Vec F S1x1x1024 .f32) (g u d : Vec F S1024x1024 .bf16)
    (a0 a1 a2 a3 : Vec F S512x2x128 .bf16) (b3 b4 b5 : Vec F S1x1x1024 .f32) (g' u' d' : Vec F S1024x1024 .bf16)
    (h0 : a0 = tokQ x0 0) (h1 : a1 = tokQ x0 1) (h2 : a2 = tokQ x0 2) (h3 : a3 = tokQ x0 3) (hb3 : b3 = x3) (hb4 : b4 = x4) (hb5 : b5 = x5)
    (hg : g' = g) (hu : u' = u) (hd : d' = d) :
    View.read (Elt F) arg10.view (View.write (Elt F) ((arg10.reshape S2048x2x128 reshapes_S4096x128_S2048x2x128.1 reshapes_S4096x128_S2048x2x128.2 hc).access (quarter 3 i3)) (View.write (Elt F) ((arg10.reshape S2048x2x128 reshapes_S4096x128_S2048x2x128.1 reshapes_S4096x128_S2048x2x128.2 hc).access (quarter 2 i2)) (View.write (Elt F) ((arg10.reshape S2048x2x128 reshapes_S4096x128_S2048x2x128.1 reshapes_S4096x128_S2048x2x128.2 hc).access (quarter 1 i1)) (View.write (Elt F) ((arg10.reshape S2048x2x128 reshapes_S4096x128_S2048x2x128.1 reshapes_S4096x128_S2048x2x128.2 hc).access (quarter 0 i0)) f
        (k0_pay35 (k0_pay31 a0 a1 a2 a3) (k0_pay32 a0 a1 a2 a3 g' b3) (k0_pay33 (F := F)) u' b4 d' b5) Finset.univ)
        (k0_pay7 (k0_pay36 (k0_pay31 a0 a1 a2 a3) (k0_pay32 a0 a1 a2 a3 g' b3) (k0_pay33 (F := F)) u' b4 d' b5) (k0_pay37 (k0_pay31 a0 a1 a2 a3) (k0_pay32 a0 a1 a2 a3 g' b3) (k0_pay33 (F := F)) u' b4 d' b5)) Finset.univ)
        (k0_pay8 (k0_pay34 (k0_pay31 a0 a1 a2 a3) (k0_pay32 a0 a1 a2 a3 g' b3) (k0_pay33 (F := F)) u' b4 d' b5)) Finset.univ)
        (k0_pay9 (k0_pay34 (k0_pay31 a0 a1 a2 a3) (k0_pay32 a0 a1 a2 a3 g' b3) (k0_pay33 (F := F)) u' b4 d' b5)) Finset.univ) = outY x0 x3 x4 x5 g u d := by
  subst h0 h1 h2 h3 hb3 hb4 hb5 hg hu hd
  exact read_weave arg10 hc f _ _ _ _ i0 i1 i2 i3

/-- The zero block a step past the last expert tile leaves. -/
theorem read_zero (m : Memref sig .tc .vmem S4096x128 .bf16) (f : m.view.ty.Contents (Elt F)) :
    View.read (Elt F) m.view (m.view.writes (Elt F) f [⟨Rect.unit (s := S4096x128) ![0, 0] S4096x128.size inb_S4096x128_S4096x128_0_0, k0_pay10 (F := F)⟩]) = k0_pay10 (F := F) := by
  funext y
  have hy : (Rect.unit (s := S4096x128) ![0, 0] S4096x128.size inb_S4096x128_S4096x128_0_0).emb y = y := Rect.emb_unit_full _ _
  conv_lhs => rw [← hy]
  exact View.read_writes_cons_emb _ _ _ _ _ _

end Cert.LatentExpertsIdeal.Hand

end
-- ==== Proof.LatentExpertsIdealTab.lean ====
module

public import proofs.«01_k».proof.Proof.Gen.LatentExpertsIdeal
public import proofs.«01_k».proof.Proof.Gen.LatentExpertsIdeal.Launch
public import proofs.«01_k».proof.Proof.Gen.LatentExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.LatentExpertsIdealKit
public import proofs.«01_k».proof.Proof.LatentExpertsIdealBack
public import Idealize.ShloMosaic.Lib.WordCmp
public import Idealize.ShloMosaic.Lib.Affine
@[expose] public section

set_option maxRecDepth 16384

noncomputable section

namespace Cert.LatentExpertsIdeal.Hand

open Cert.LatentExpertsIdeal.Gen
open Idealize.ShloMosaic Idealize.ShloMosaic.TcCoe

variable {F : FTy → Type} [FloatOps F]
variable (m : (ℓ : Loc nD τ sig) → Buf (Elt F) ℓ)

/-- The expert of tile `j` and the number of tiles that hold tokens, as the tables say. -/
def teN (j : Fin 287) : BitVec 32 := tbl m 0 (fun a : Fin 1 => (⟨j.val, by fin_cases a; exact j.isLt⟩ : Fin ((![287] : Fin 1 → ℕ) a)))
def nvN : BitVec 32 := tbl m 1 (fun a : Fin 1 => (⟨0, by fin_cases a; exact Nat.one_pos⟩ : Fin ((![1] : Fin 1 → ℕ) a)))

/-- Each expert's number is one of the 128, and between one and all tiles hold tokens. -/
structure InRange : Prop where
  te : ∀ j, (teN m j).toNat < 128
  one : 1 ≤ (nvN m).toNat
  all : (nvN m).toNat ≤ 287

/-- A grid point as a tile's number. -/
abbrev tile (i : grid0.Coords) : Fin 287 := ⟨(i 0).val, (i 0).isLt⟩

theorem first0 (n : ℕ) (x : Fin 1) : n + 1 * x.val = n := by omega

/-- Words whose signed value is known. -/
theorem intOf {x : BitVec 32} {e : Int} (h : Affine.IsInt x e) : x.toInt = e := by unfold Affine.IsInt at h; exact h
theorem isOf {x : BitVec 32} {e : Int} (h : x.toInt = e) : Affine.IsInt x e := by unfold Affine.IsInt; exact h

theorem te_at (i : grid0.Coords) : (tbl m).at 0 (Rect.unit (s := S287) (k0_off1 i) S1.size (k0_off1_inb i)) numel1_S1 = teN m (tile i) := by
  unfold teN
  refine congrArg (tbl m 0) (funext fun a => ?_)
  fin_cases a; apply Fin.ext
  have h : k0_off1 i 0 = (i 0).val := by rw [k0_off1_eq]; rfl
  refine (congrArg (· + 1 * _) h).trans ?_
  exact first0 _ _

theorem nv_at : (tbl m).at 1 (Rect.unit (s := S1) ![0] S1.size inb_S1_S1_0) numel1_S1 = nvN m := by
  unfold nvN
  refine congrArg (tbl m 1) (funext fun a => ?_)
  fin_cases a; apply Fin.ext
  exact first0 0 _

theorem transform_1 (i : grid0.Coords) : cc0_transform_1 k0_off1_inb numel1_S1 (tbl m) i = ![(teN m (tile i)).toNat, 0, 0] := by
  have h := te_at m i
  unfold cc0_transform_1
  exact congrArg (fun v : BitVec 32 => ![v.toNat, 0, 0]) h
theorem transform_2 (i : grid0.Coords) : cc0_transform_2 k0_off1_inb numel1_S1 (tbl m) i = ![(teN m (tile i)).toNat, 0, 0] := by
  have h := te_at m i
  unfold cc0_transform_2
  exact congrArg (fun v : BitVec 32 => ![v.toNat, 0, 0]) h
theorem transform_3 (i : grid0.Coords) : cc0_transform_3 k0_off1_inb numel1_S1 (tbl m) i = ![(teN m (tile i)).toNat, 0, 0] := by
  have h := te_at m i
  unfold cc0_transform_3
  exact congrArg (fun v : BitVec 32 => ![v.toNat, 0, 0]) h
theorem transform_4 (i : grid0.Coords) : cc0_transform_4 k0_off1_inb numel1_S1 (tbl m) i = ![(teN m (tile i)).toNat, 0, 0] := by
  have h := te_at m i
  unfold cc0_transform_4
  exact congrArg (fun v : BitVec 32 => ![v.toNat, 0, 0]) h
theorem transform_5 (i : grid0.Coords) : cc0_transform_5 k0_off1_inb numel1_S1 (tbl m) i = ![(teN m (tile i)).toNat, 0, 0] := by
  have h := te_at m i
  unfold cc0_transform_5
  exact congrArg (fun v : BitVec 32 => ![v.toNat, 0, 0]) h

/-- The tokens' block: the point's own, or the last tile's past it. -/
theorem transform_0 (h : InRange m) (i : grid0.Coords) : cc0_transform_0 inb_S1_S1_0 numel1_S1 (tbl m) i = ![min (i 0).val ((nvN m).toNat - 1), 0] := by
  have hn := nv_at m
  have h1 := h.one; have h2 := h.all
  have hi : (i 0).val < 287 := (i 0).isLt
  have hN : Affine.IsInt (nvN m) ((nvN m).toNat : Int) := isOf (WordCmp.toInt_eq_toNat_of_lt_half (by change (nvN m).toNat < 2 ^ 31; omega))
  unfold cc0_transform_0
  refine (congrArg (fun v : BitVec 32 => ![(Scalar.minsi (BitVec.ofNat 32 (i 0).val) (Scalar.subi v 1#32)).toNat, 0]) hn).trans ?_
  have hA := Affine.minsi (Affine.ofNat (e := ((i 0).val : Int)) (i 0).val ⟨rfl, by omega⟩) (Affine.subi hN (Affine.ofNat (e := 1) 1 ⟨rfl, by omega⟩) (e := ((nvN m).toNat : Int) - 1) ⟨rfl, by omega, by omega⟩) rfl
  have hT : (Scalar.minsi (BitVec.ofNat 32 (i 0).val) (Scalar.subi (nvN m) 1#32)).toNat = min (i 0).val ((nvN m).toNat - 1) := by
    have := intOf hA
    rw [BitVec.toInt_eq_toNat_cond] at this
    split at this <;> omega
  exact congrArg (fun k : ℕ => ![k, 0]) hT

set_option maxHeartbeats 1600000 in
/-- Tables in range select blocks inside the arrays. -/
theorem ok_of_inRange (h : InRange m) : Ok m := by
  have h1 := h.one; have h2 := h.all
  unfold Ok ok0
  refine ⟨fun i => ?_, fun i => ?_, fun i => ?_, fun i => ?_, fun i => ?_, fun i => ?_⟩
  · have hT := transform_0 m h i
    refine ⟨fun a => ?_, .inr (Affine.block_words_dvd (of_decide_eq_true rfl) (by decide))⟩
    rw [hT]
    have hi : (i 0).val < 287 := (i 0).isLt
    fin_cases a
    · change (min (i 0).val ((nvN m).toNat - 1) + 1) * 4096 ≤ 1175552; omega
    · change (0 + 1) * 128 ≤ 128; omega
  · have hT := transform_1 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 2048 ≤ 2048; omega
  · have hT := transform_2 m i
    refine ⟨fun a => ?_, .inl rfl⟩
    rw [hT]
    have hi := h.te (tile i)
    fin_cases a
    · change ((teN m (tile i)).toNat + 1) * 1 ≤ 128; omega
    · change (0 + 1) * 1024 ≤ 1024; omega
    · change (0 + 1) * 1024 ≤ 1024; omega
  · have hT := transform_3 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_4 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega
  · have hT := transform_5 m i
    refine ⟨fun a => ?_, .inl rfl⟩
    rw [hT]
    have hi := h.te (tile i)
    fin_cases a
    · change ((teN m (tile i)).toNat + 1) * 1 ≤ 128; omega
    · change (0 + 1) * 1 ≤ 1; omega
    · change (0 + 1) * 1024 ≤ 1024; omega

/-- The words the body reads are the tables'. -/
theorem nvW_eq (c : Dev nD) : nvW (F := F) c (tbl m 1) = nvN m := nv_at m
theorem teW_eq (c : Dev nD) (i : grid0.Coords) : teW (F := F) c i (tbl m 0) = teN m (tile i) := te_at m i

/-- The tile before a point's, for a point that is not the first. -/
theorem tpW_eq (c : Dev nD) (i : grid0.Coords) (hz : (i 0).val ≠ 0) :
    tpW (F := F) c i (tbl m 0) = teN m ⟨(i 0).val - 1, by have := (i 0).isLt; exact lt_of_le_of_lt (Nat.sub_le _ _) this⟩ := by
  have hi : (i 0).val < 287 := (i 0).isLt
  have hoff : k0_off2 i 0 = (i 0).val - 1 := by
    have hA := Affine.indexCast (Affine.maxsi (Affine.subi (Affine.ofNat (e := ((i 0).val : Int)) (i 0).val ⟨rfl, by omega⟩) (Affine.ofNat (e := 1) 1 ⟨rfl, by omega⟩) (e := ((i 0).val : Int) - 1) ⟨rfl, by omega, by omega⟩) (Affine.ofNat (e := 0) 0 ⟨rfl, by omega⟩) (e := ((i 0).val : Int) - 1) (by omega))
    have := intOf hA
    rw [BitVec.toInt_eq_toNat_cond] at this
    unfold k0_off2
    change (Scalar.indexCast (Scalar.maxsi (Scalar.subi (BitVec.ofNat 32 (i 0).val) 1#32) 0#32)).toNat = _
    split at this <;> omega
  unfold teN
  refine congrArg (tbl m 0) (funext fun a => ?_)
  fin_cases a; apply Fin.ext
  refine (congrArg (· + 1 * _) hoff).trans ?_
  exact first0 _ _

/-- The body's comparison of the point with the count. -/
theorem slt_iff (h : InRange m) (i : grid0.Coords) : Scalar.cmpi .slt (BitVec.ofNat 32 (i 0).val) (nvN m) = BitVec.ofBool (decide ((i 0).val < (nvN m).toNat)) := by
  have hi : (i 0).val < 287 := (i 0).isLt
  have h2 := h.all
  have hn : (BitVec.ofNat 32 (i 0).val).toNat = (i 0).val := WordCmp.toNat_ofNat_of_lt (by omega)
  have := WordCmp.cmpi_slt_of_lt (w := 32) (x := BitVec.ofNat 32 (i 0).val) (y := nvN m) (by rw [hn]; omega) (by omega)
  rw [hn] at this
  exact this

theorem bit_ne (b : Bool) : (Scalar.cmpi .ne (Scalar.extui (BitVec.ofBool b) : BitVec 32) 0#32 = 1#1) ↔ b = true := by
  cases b <;> decide
theorem bit_nne (b : Bool) : (Scalar.cmpi .ne (Scalar.extui (Scalar.xori (BitVec.ofBool b) 1#1) : BitVec 32) 0#32 = 1#1) ↔ b = false := by
  cases b <;> decide

theorem cond2_iff (h : InRange m) (i : grid0.Coords) : k0_cond2 i (nvN m) = 1#1 ↔ (i 0).val < (nvN m).toNat := by
  change (Scalar.cmpi .ne (Scalar.extui (Scalar.cmpi .slt (BitVec.ofNat 32 (i 0).val) (nvN m)) : BitVec 32) 0#32 = 1#1) ↔ _
  rw [slt_iff m h i]
  exact (bit_ne _).trans decide_eq_true_iff

theorem cond3_iff (h : InRange m) (i : grid0.Coords) : k0_cond3 i (nvN m) = 1#1 ↔ ¬(i 0).val < (nvN m).toNat := by
  change (Scalar.cmpi .ne (Scalar.extui (Scalar.xori (Scalar.cmpi .slt (BitVec.ofNat 32 (i 0).val) (nvN m)) 1#1) : BitVec 32) 0#32 = 1#1) ↔ _
  rw [slt_iff m h i]
  exact (bit_nne _).trans decide_eq_false_iff_not

theorem condL_iff (h : InRange m) (i : grid0.Coords) (a b : BitVec 32) :
    condL i (nvN m) a b ↔ (i 0).val < (nvN m).toNat ∧ ((i 0).val = 0 ∨ a ≠ b) := by
  have hi : (i 0).val < 287 := (i 0).isLt
  have e1 : Scalar.cmpi .eq (BitVec.ofNat 32 (i 0).val) 0#32 = BitVec.ofBool (decide ((i 0).val = 0)) := by
    have := WordCmp.cmpi_eq_eq_toNat (BitVec.ofNat 32 (i 0).val) 0#32
    rw [WordCmp.toNat_ofNat_of_lt (by omega)] at this
    exact this
  have e2 : Scalar.cmpi .ne a b = BitVec.ofBool (decide (a ≠ b)) := WordCmp.cmpi_ne_eq a b
  unfold condL
  rw [slt_iff m h i, e1, e2]
  have e3 : ∀ p q r : Bool, Scalar.andi (BitVec.ofBool p) (Scalar.ori (BitVec.ofBool q) (BitVec.ofBool r)) = BitVec.ofBool (p && (q || r)) := by decide
  rw [e3, bit_ne]
  simp

end Cert.LatentExpertsIdeal.Hand

end
-- ==== Proof.LatentExpertsPre.lean ====
/- The precondition on the routing table read as ranges of its words. -/
module

public import proofs.«01_k».proof.Pre_routed_latents
public import proofs.«01_k».proof.Defs
public import proofs.«01_k».proof.Proof.LatentExpertsTab
public import proofs.«01_k».proof.Proof.LatentExpertsIdealTab
public import Idealize.ShloMosaic.Lib.ReduceAll
public import Idealize.ShloMosaic.Lib.Affine
public import Idealize.ShloMosaic.Lib.Decide

@[expose] public section

set_option maxRecDepth 16384

noncomputable section

namespace Cert.LatentExpertsPre

open Idealize.ShloMosaic
open Cert.Pre_routed_latents (S287 S1 S1175552x128 S128x1024x2048 S128x1024x1024 S128x2048 S128x1024)

/-- The precondition's shape facts. -/
instance preFacts : Cert.Pre_routed_latents.Facts where
  bcast_S_S287 := by decide
  reducesTo_S287_S_d0 := by decide
  h_S_ := by decide
  bcast_S_S1 := by decide
  reducesTo_S1_S_d0 := by decide

/-- A bit of a truth value is one exactly when the value is true. -/
theorem bit_true {b : Bool} (h : BitVec.ofBool b = 1#1) : b = true := by
  cases b
  · exact absurd h (by decide)
  · rfl

/-- A word from 0 up to, not with, 128, signed, is so unsigned. -/
theorem word_below (w : BitVec 32) (h0 : IntOp.cmpi .sge w 0#32 = 1#1) (h1 : IntOp.cmpi .slt w 128#32 = 1#1) : w.toNat < 128 := by
  have a0 : (0#32 : BitVec 32).sle w = true := bit_true h0
  have a1 : w.slt 128#32 = true := bit_true h1
  rw [BitVec.sle_eq_decide] at a0
  rw [BitVec.slt_eq_decide] at a1
  have b0 : (0#32 : BitVec 32).toInt ≤ w.toInt := of_decide_eq_true a0
  have b1 : w.toInt < (128#32 : BitVec 32).toInt := of_decide_eq_true a1
  have c0 : (0#32 : BitVec 32).toInt = 0 := by decide
  have c1 : (128#32 : BitVec 32).toInt = 128 := by decide
  rw [c0] at b0; rw [c1] at b1
  have := BitVec.toInt_eq_toNat_cond w
  split at this <;> omega

/-- A word from 1 to 287, signed, is so unsigned. -/
theorem word_within (w : BitVec 32) (h0 : IntOp.cmpi .sge w 1#32 = 1#1) (h1 : IntOp.cmpi .sle w 287#32 = 1#1) : 1 ≤ w.toNat ∧ w.toNat ≤ 287 := by
  have a0 : (1#32 : BitVec 32).sle w = true := bit_true h0
  have a1 : w.sle 287#32 = true := bit_true h1
  rw [BitVec.sle_eq_decide] at a0 a1
  have b0 : (1#32 : BitVec 32).toInt ≤ w.toInt := of_decide_eq_true a0
  have b1 : w.toInt ≤ (287#32 : BitVec 32).toInt := of_decide_eq_true a1
  have c0 : (1#32 : BitVec 32).toInt = 1 := by decide
  have c1 : (287#32 : BitVec 32).toInt = 287 := by decide
  rw [c0] at b0; rw [c1] at b1
  have := BitVec.toInt_eq_toNat_cond w
  split at this <;> constructor <;> omega

/-- What the precondition says: each tile's expert is one of the 128, and from one to all of the tiles hold tokens. -/
theorem ranges {F : FTy → Type} [FloatOps F] (te : IVec S287 32) (nv : IVec S1 32) (xs : FVec F S1175552x128 .bf16) (wgu : FVec F S128x1024x2048 .f32)
    (wd : FVec F S128x1024x1024 .f32) (bgu : FVec F S128x2048 .f32) (bd : FVec F S128x1024 .f32) (h : Cert.Pre_routed_latents.fn (F := F) te nv xs wgu wd bgu bd = fun _ => 1#1) :
    (∀ i, (te i).toNat < 128) ∧ (∀ i, 1 ≤ (nv i).toNat ∧ (nv i).toNat ≤ 287) := by
  have h0 := congrFun h (fun a => a.elim0)
  obtain ⟨h1, h2⟩ := IntOp.andi_eq_one.1 h0
  constructor
  · intro i
    obtain ⟨a, b⟩ := IntOp.andi_eq_one.1 (Host.reduce_andi_all _ _ _ _ _ h1 i)
    exact word_below _ a b
  · intro i
    obtain ⟨a, b⟩ := IntOp.andi_eq_one.1 (Host.reduce_andi_all _ _ _ _ _ h2 i)
    exact word_within _ a b

/-- The kernel's tables are in range. -/
theorem inRange (m : (ℓ : Loc Cert.LatentExperts.nD Cert.LatentExperts.τ Cert.LatentExperts.sig) → Buf (Elt Bits) ℓ) (h : Cert.Pre_LatentExperts m) : Cert.LatentExperts.Hand.InRange m := by
  obtain ⟨h1, h2⟩ := ranges _ _ _ _ _ _ _ (h 0)
  have e0 := Cert.LatentExperts.Hand.V_main_arg0 m 0
  have e1 := Cert.LatentExperts.Hand.V_main_arg1 m 0
  refine ⟨fun j => ?_, ?_, ?_⟩
  · exact (congrArg BitVec.toNat (congrFun e0 _)).trans_lt (h1 _)
  · exact (h2 _).1.trans_eq (congrArg BitVec.toNat (congrFun e1 _)).symm
  · exact (congrArg BitVec.toNat (congrFun e1 _)).trans_le (h2 _).2

/-- The idealized kernel's tables are in range. -/
theorem inRangeIdeal (m : (ℓ : Loc Cert.LatentExpertsIdeal.nD Cert.LatentExpertsIdeal.τ Cert.LatentExpertsIdeal.sig) → Buf (Elt Ideal) ℓ) (h : Cert.Pre_LatentExpertsIdeal m) : Cert.LatentExpertsIdeal.Hand.InRange m := by
  obtain ⟨h1, h2⟩ := ranges _ _ _ _ _ _ _ (h 0)
  have e0 := Cert.LatentExpertsIdeal.Hand.V_main_arg0 m 0
  have e1 := Cert.LatentExpertsIdeal.Hand.V_main_arg1 m 0
  refine ⟨fun j => ?_, ?_, ?_⟩
  · exact (congrArg BitVec.toNat (congrFun e0 _)).trans_lt (h1 _)
  · exact (h2 _).1.trans_eq (congrArg BitVec.toNat (congrFun e1 _)).symm
  · exact (congrArg BitVec.toNat (congrFun e1 _)).trans_le (h2 _).2

end Cert.LatentExpertsPre

end
-- ==== Proof.LatentExpertsRun.lean ====
module

public import proofs.«01_k».proof.Proof.Gen.LatentExperts
public import proofs.«01_k».proof.Proof.Gen.LatentExperts.Launch
public import proofs.«01_k».proof.Proof.Gen.LatentExperts.Skeleton
public import proofs.«01_k».proof.Proof.LatentExpertsKit
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExperts.Hand

open Cert.LatentExperts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- One step of the kernel, whatever the two tables say: from the operands at any contents and everything the step may write at anything, the body
    runs through, leaves the operands and the tables as they were, and the rest at something. The conditions are not decided: a guarded region is
    followed both ways. -/
theorem run (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; exact rfl
  isplitl [HS0]
  · iexists _, _; isplitr; swap; · iexact HS0
    ipureintro; exact rfl
  isplitl [HS1]
  · iexists _, _; isplitr; swap; · iexact HS1
    ipureintro; exact rfl
  isplitl [HS2]
  · iexists _, _; isplitr; swap; · iexact HS2
    ipureintro; exact rfl
  isplitl [HT0]
  · iexact HT0
  iexact HT1

end Cert.LatentExperts.Hand

end
-- ==== Proof.LatentExpertsFrame.lean ====
module

public import proofs.«01_k».proof.Proof.Gen.LatentExperts
public import proofs.«01_k».proof.Proof.Gen.LatentExperts.Launch
public import proofs.«01_k».proof.Proof.Gen.LatentExperts.Skeleton
public import proofs.«01_k».proof.Proof.LatentExpertsKit
public import proofs.«01_k».proof.Proof.LatentExpertsRun
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExperts.Hand

open Cert.LatentExperts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: each operand's buffer keeps its block; what the body leaves in the output's buffer is not named; the scratch and the
    tables' halves stand at every point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => Dat.unnamed (cfg := cfgM m hO) 7 t
  Φ _ := iprop(Pipeline.ΦA spec0 c ∗ Pipeline.ΦT pre0 (tbl m) c)
  q _ := fullShare
  owed _ := 0

/-- Only the output is left unnamed. -/
def unnamedOut (hO : Ok m) : Fin (cfgM m hO).W → Bool := fun w => match w with
  | ⟨7, _⟩ => true
  | ⟨_, _⟩ => false

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d))

set_option maxHeartbeats 6400000 in
/-- The body at any point, by the run. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, H7⟩
  iapply (run c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, H7, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s buffers is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's demand on the body, at every point. -/
theorem body_obligation (hO : Ok m) (c : Dev nD) :
    Pipeline.BodyObligationLoose (dats (F := F) m hO 0 c) (defs₀ (F := F)) Variants.none () Set.univ (unnamedOut m hO) := fun t => by
  rw [bigSep_W0, bigSep_W0, defs₀_row m hO]
  exact triple_restated (sound_body m hO c t) rfl .rfl fun _ => .rfl

set_option maxHeartbeats 3200000 in
set_option backward.isDefEq.respectTransparency.types false in
/-- Every run ends, with the operand arrays as they were and every counter at zero. -/
theorem run_main_quiescent (hO : Ok m) : θ_run defs (onTc (τ := τ) (main (F := F))) (s₀ m ρ)
    (fun r => Pipeline.RDat.FramePost (cfgM m hO) (fun c => (dats m hO 0 c).toRForget (unnamedOut m hO)) (V m) r ∧ r.2.sem = fun _ => 0) :=
  Pipeline.θ_run_frameP_forget (Q' := _) pcfgs (fun _ => adm m hO) (dats m hO) (0 : Fin 1) launch0 defs₀ Variants.none (unnamedOut m hO) m ρ main
    (hbody := body_obligation m hO) (hshare := fun c => (dats m hO 0 c).share_full fun _ => rfl)
    (howed := fun _ _ => rfl) (V := V m) (hmain := hmain m Variants.none) (hA := A_eq m hO) (hpf := V_pre m)
    (hΦ := fun _ _ => rfl)

/-- Where a run ends, an array whose window is not left unnamed holds what the proof data say. -/
theorem named (hO : Ok m) (c : Dev nD) {r : PUnit × MemSt nD τ sig (Elt F)}
    (h : Pipeline.RDat.FramePost (cfgM m hO) (fun c => (dats m hO 0 c).toRForget (unnamedOut m hO)) (V m) r)
    (w : Fin (cfgM m hO).W) (hw : unnamedOut m hO w = false) :
    r.2.mem (((cfgM m hO).spec w).arr.view.loc (c.tc : Thread nD τ)) = (dats m hO 0 c).arrAt w (cfgM m hO).N :=
  ((dats m hO 0 c).toRForget_arrAt_iff hw _ _).mp ((h c).1 w)

/-- Every run ends, with the arguments as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (named m hO c h.1 0 rfl).trans (((dats m hO 0 c).arrAt_in 0 rfl _).trans ((A_eq m hO c 0).trans (V_main_arg2 m c))),
      (named m hO c h.1 1 rfl).trans (((dats m hO 0 c).arrAt_in 1 rfl _).trans ((A_eq m hO c 1).trans (V_main_arg3 m c))),
      (named m hO c h.1 2 rfl).trans (((dats m hO 0 c).arrAt_in 2 rfl _).trans ((A_eq m hO c 2).trans (V_main_arg4 m c))),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩) (run_main_quiescent m ρ hO)

end Cert.LatentExperts.Hand

end
-- ==== Proof.LatentExpertsMath.lean ====
/- The routed experts' result, as a function of the argument arrays. -/
module

public import proofs.«01_k».proof.LatentExpertsIdeal
public import Idealize.ShloMosaic.Lib.Pointwise

@[expose] public section

noncomputable section

namespace Cert.LatentExpertsMath

open Idealize.ShloMosaic
open Cert.LatentExpertsIdeal (S287 S1 S1175552x128 S128x1024x2048 S128x1024x1024 S128x2048 S128x1024)

/-- The gated activation: gate capped at 7, up clamped to [-7, 7] plus one, times the gate's swish with slope 1.702. -/
def actE (g u : EReal) : EReal :=
  ((min (Ideal.ofBits .f32 0x40E00000#32) (max (Ideal.ofBits .f32 0xC0E00000#32) u) + 1) * min g (Ideal.ofBits .f32 0x40E00000#32))
    * Ideal.logistic (Ideal.ofBits .f32 0x3FD9DB23#32 * min g (Ideal.ofBits .f32 0x40E00000#32))

/-- One token's feed-forward at output column `n`. -/
def mlpAt (x : Fin 1024 → EReal) (wg wu wd : Fin 1024 → Fin 1024 → EReal) (bg bu bd : Fin 1024 → EReal) (n : Fin 1024) : EReal :=
  (∑ f : Fin 1024, actE ((∑ k : Fin 1024, x k * wg k f) + bg f) ((∑ k : Fin 1024, x k * wu k f) + bu f) * wd f n) + bd n

/-- Feature `k` of token `r`: eight packed rows hold a token, an even row its features 512 up, an odd row those below. -/
def tokAt (xs : FVec Ideal S1175552x128 .bf16) (r : Fin 146944) (k : Fin 1024) : EReal :=
  xs (ix2 (⟨8 * r.val + 2 * (k.val % 512 / 128) + (if k.val < 512 then 1 else 0), by have := r.isLt; split <;> omega⟩ : Fin 1175552) (⟨k.val % 128, by omega⟩ : Fin 128))

/-- Expert `e`'s feed-forward of token `r`, at column `n`: gate weights in the even columns, up weights in the odd. -/
def expAt (xs : FVec Ideal S1175552x128 .bf16) (wgu : FVec Ideal S128x1024x2048 .f32) (wd : FVec Ideal S128x1024x1024 .f32)
    (bgu : FVec Ideal S128x2048 .f32) (bd : FVec Ideal S128x1024 .f32) (e : Fin 128) (r : Fin 146944) (n : Fin 1024) : EReal :=
  mlpAt (tokAt xs r) (fun k f => wgu (ix3 e k (⟨2 * f.val, by omega⟩ : Fin 2048))) (fun k f => wgu (ix3 e k (⟨2 * f.val + 1, by omega⟩ : Fin 2048)))
    (fun f n => wd (ix3 e f n)) (fun f => bgu (ix2 e (⟨2 * f.val, by omega⟩ : Fin 2048))) (fun f => bgu (ix2 e (⟨2 * f.val + 1, by omega⟩ : Fin 2048)))
    (fun n => bd (ix2 e n)) n

/-- The expert a tile of 512 tokens is routed to. -/
def tileExp (te : IVec S287 32) (t : Fin 287) : Fin 128 := ⟨(te (ix1 t)).toNat % 128, by omega⟩

/-- The result's packed row `R` at lane `l`: the token's feed-forward by its tile's expert, zero in the tiles past the live ones. -/
def resAt (te : IVec S287 32) (nv : IVec S1 32) (xs : FVec Ideal S1175552x128 .bf16) (wgu : FVec Ideal S128x1024x2048 .f32) (wd : FVec Ideal S128x1024x1024 .f32)
    (bgu : FVec Ideal S128x2048 .f32) (bd : FVec Ideal S128x1024 .f32) (R : Fin 1175552) (l : Fin 128) : EReal :=
  if R.val / 4096 < (nv (ix1 (0 : Fin 1))).toNat then
    expAt xs wgu wd bgu bd (tileExp te ⟨R.val / 4096, by omega⟩) ⟨R.val / 8, by omega⟩ (⟨128 * (R.val % 8 / 2) + l.val + (if R.val % 2 = 0 then 512 else 0), by split <;> omega⟩ : Fin 1024)
  else 0

end Cert.LatentExpertsMath

end
-- ==== Proof.LatentExpertsOut.lean ====
/- What one step of the experts kernel stores, element by element. -/
module

public import proofs.«01_k».proof.Proof.LatentExpertsIdealVal
public import proofs.«01_k».proof.Proof.LatentExpertsMath
public import Idealize.ShloMosaic.Lib.Pointwise
public import Idealize.ShloMosaic.Lib.ValueLayout

@[expose] public section

set_option maxRecDepth 16384

noncomputable section

namespace Cert.LatentExpertsIdeal.Hand

open Cert.LatentExpertsMath
open Cert.LatentExpertsIdeal Cert.LatentExpertsIdeal.Gen Idealize.ShloMosaic Idealize.ShloMosaic.TcCoe Idealize.SL.Sem

/-- The kernel's products, bias adds, activation and second product. -/
theorem pay34_apply (X : FVec Ideal S512x1024 .bf16) (g u d : Vec Ideal S1024x1024 .bf16) (x3 x4 x5 : Vec Ideal S1x1x1024 .f32)
    (q0 q1 q2 q3 : Vec Ideal S512x2x128 .bf16) (hX : k0_pay31 q0 q1 q2 q3 = X) (r : Fin 512) (n : Fin 1024) :
    k0_pay34 X (k0_pay32 q0 q1 q2 q3 g x3) (k0_pay33 (F := Ideal)) u x4 d x5 (ix2 r n)
      = mlpAt (fun k => X (ix2 r k)) (fun k f => g (ix2 k f)) (fun k f => u (ix2 k f)) (fun f n => d (ix2 f n))
          (fun f => x3 (ix3 0 0 f)) (fun f => x4 (ix3 0 0 f)) (fun n => x5 (ix3 0 0 n)) n := by
  unfold mlpAt actE
  pointwise [k0_pay34, k0_pay32, k0_pay33, hX]

/-- A step's tokens out of the four packed pieces. -/
theorem pay31_apply (q : Fin 4 → Vec Ideal S512x2x128 .bf16) (r : Fin 512) (k : Fin 1024) :
    k0_pay31 (q 0) (q 1) (q 2) (q 3) (ix2 r k)
      = q ⟨k.val % 512 / 128, by omega⟩ (ix3 r (⟨if k.val < 512 then 1 else 0, by split <;> omega⟩ : Fin 2) (⟨k.val % 128, by omega⟩ : Fin 128)) := by
  pointwise [k0_pay31]
  have hk := k.isLt
  have key : ∀ (a : ℕ) (ha : a < 4) (b : ℕ) (hb : b < 2) (x : ℕ) (hx : x < 128), k.val % 512 / 128 = a → (if k.val < 512 then 1 else 0) = b → k.val % 128 = x →
      q ⟨a, ha⟩ (ix3 r (⟨b, hb⟩ : Fin 2) (⟨x, hx⟩ : Fin 128))
        = q ⟨k.val % 512 / 128, by omega⟩ (ix3 r (⟨if k.val < 512 then 1 else 0, by split <;> omega⟩ : Fin 2) (⟨k.val % 128, by omega⟩ : Fin 128)) := by
    intro a ha b hb x hx e1 e2 e3
    subst e1 e2 e3; rfl
  by_cases h0 : k.val < 128
  · rw [dif_pos h0]; exact key 0 (by omega) 1 (by omega) _ (by omega) (by omega) (if_pos (by omega)) (by omega)
  rw [dif_neg h0]
  by_cases h1 : k.val - 128 < 128
  · rw [dif_pos h1]; exact key 1 (by omega) 1 (by omega) _ (by omega) (by omega) (if_pos (by omega)) (by omega)
  rw [dif_neg h1]
  by_cases h2 : k.val - 128 - 128 < 128
  · rw [dif_pos h2]; exact key 2 (by omega) 1 (by omega) _ (by omega) (by omega) (if_pos (by omega)) (by omega)
  rw [dif_neg h2]
  by_cases h3 : k.val - 128 - 128 - 128 < 128
  · rw [dif_pos h3]; exact key 3 (by omega) 1 (by omega) _ (by omega) (by omega) (if_pos (by omega)) (by omega)
  rw [dif_neg h3]
  by_cases h4 : k.val - 128 - 128 - 128 - 128 < 128
  · rw [dif_pos h4]; exact key 0 (by omega) 0 (by omega) _ (by omega) (by omega) (if_neg (by omega)) (by omega)
  rw [dif_neg h4]
  by_cases h5 : k.val - 128 - 128 - 128 - 128 - 128 < 128
  · rw [dif_pos h5]; exact key 1 (by omega) 0 (by omega) _ (by omega) (by omega) (if_neg (by omega)) (by omega)
  rw [dif_neg h5]
  by_cases h6 : k.val - 128 - 128 - 128 - 128 - 128 - 128 < 128
  · rw [dif_pos h6]; exact key 2 (by omega) 0 (by omega) _ (by omega) (by omega) (if_neg (by omega)) (by omega)
  rw [dif_neg h6]
  exact key 3 (by omega) 0 (by omega) _ (by omega) (by omega) (if_neg (by omega)) (by omega)

theorem pay35_apply (v52 v58 v59 v61 v63 v79 v81) (r : Fin 512) (h : Fin 2) (l : Fin 128) :
    k0_pay35 (F := Ideal) v52 v58 v59 v61 v63 v79 v81 (ix3 r h l) = k0_pay34 v52 v58 v59 v61 v63 v79 v81 (ix2 r (⟨l.val + (if h.val = 0 then 512 else 0), by split <;> omega⟩ : Fin 1024)) := by
  pointwise [k0_pay35]
  have hh := h.isLt
  by_cases h0 : h.val = 0
  · rw [if_pos (by omega : h.val % 2 = 0)]; simp only [if_pos h0]
    exact congrArg (k0_pay34 (F := Ideal) v52 v58 v59 v61 v63 v79 v81) ((ix2_inj ..).2 ⟨rfl, Fin.ext (Nat.add_comm _ _)⟩)
  · rw [if_neg (by omega : ¬ h.val % 2 = 0)]; simp only [if_neg h0]; rfl

theorem pay7_apply (a b : FVec Ideal S512x128 .f32) (r : Fin 512) (h : Fin 2) (l : Fin 128) :
    k0_pay7 a b (ix3 r h l) = (if h.val = 0 then b else a) (ix2 r l) := by
  pointwise [k0_pay7]
  have hh := h.isLt
  by_cases h0 : h.val = 0
  · rw [if_pos (by omega : h.val % 2 = 0), if_pos h0]
  · rw [if_neg (by omega : ¬ h.val % 2 = 0), if_neg h0]

theorem gateW_apply (x1 : Vec Ideal S1x1024x2048 .f32) (x6 : Vec Ideal S256x256 .bf16) (k f : Fin 1024) :
    gateW x1 x6 (ix2 k f) = ∑ r : Fin 256, x1 (ix3 0 k (⟨256 * (f.val / 128) + r.val, by omega⟩ : Fin 2048)) * x6 (ix2 r (⟨f.val % 128, by omega⟩ : Fin 256)) := by
  unfold gateW colIn wblk colBlk
  pointwise [k0_pay12, k0_pay11]
  rfl

theorem upW_apply (x1 : Vec Ideal S1x1024x2048 .f32) (x6 : Vec Ideal S256x256 .bf16) (k f : Fin 1024) :
    upW x1 x6 (ix2 k f) = ∑ r : Fin 256, x1 (ix3 0 k (⟨256 * (f.val / 128) + r.val, by omega⟩ : Fin 2048)) * x6 (ix2 r (⟨128 + f.val % 128, by omega⟩ : Fin 256)) := by
  unfold upW colIn wblk colBlk
  pointwise [k0_pay13, k0_pay11]
  rfl

theorem pay36_apply (v52 v58 v59 v61 v63 v79 v81) (r : Fin 512) (l : Fin 128) :
    k0_pay36 (F := Ideal) v52 v58 v59 v61 v63 v79 v81 (ix2 r l) = k0_pay34 v52 v58 v59 v61 v63 v79 v81 (ix2 r (⟨128 + l.val, by omega⟩ : Fin 1024)) := by
  pointwise [k0_pay36]

theorem pay37_apply (v52 v58 v59 v61 v63 v79 v81) (r : Fin 512) (l : Fin 128) :
    k0_pay37 (F := Ideal) v52 v58 v59 v61 v63 v79 v81 (ix2 r l) = k0_pay34 v52 v58 v59 v61 v63 v79 v81 (ix2 r (⟨640 + l.val, by omega⟩ : Fin 1024)) := by
  pointwise [k0_pay37]

theorem pay8_apply (y : FVec Ideal S512x1024 .f32) (r : Fin 512) (h : Fin 2) (l : Fin 128) :
    k0_pay8 (F := Ideal) y (ix3 r h l) = if h.val % 2 = 0 then y (ix2 r (⟨768 + l.val, by omega⟩ : Fin 1024)) else y (ix2 r (⟨256 + l.val, by omega⟩ : Fin 1024)) := by
  pointwise [k0_pay8]

theorem pay9_apply (y : FVec Ideal S512x1024 .f32) (r : Fin 512) (h : Fin 2) (l : Fin 128) :
    k0_pay9 (F := Ideal) y (ix3 r h l) = if h.val % 2 = 0 then y (ix2 r (⟨896 + l.val, by omega⟩ : Fin 1024)) else y (ix2 r (⟨384 + l.val, by omega⟩ : Fin 1024)) := by
  pointwise [k0_pay9]

/-- A packed piece of the result: a row pair's even row is 512 columns up. -/
theorem piece_apply (x0 : Vec Ideal S4096x128 .bf16) (x3 x4 x5 : Vec Ideal S1x1x1024 .f32) (g u d : Vec Ideal S1024x1024 .bf16)
    (j : Fin 4) (r : Fin 512) (h : Fin 2) (l : Fin 128) :
    (![k0_pay35 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5,
    k0_pay7 (k0_pay36 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5)
      (k0_pay37 (k0_pay31 (tokQ x0 0) (tokQ x0 1) (tokQ x0 2) (tokQ x0 3)) (k0_pay32 (tokQ x0 0) (tokQ x0 1) (tokQ x0 2) (tokQ x0 3) g x3) (k0_pay33 (F := Ideal)) u x4 d x5),
    k0_pay8 (ffn x0 x3 x4 x5 g u d), k0_pay9 (ffn x0 x3 x4 x5 g u d)] : Fin 4 → Vec Ideal S512x2x128 .bf16) j (ix3 r h l)
      = ffn x0 x3 x4 x5 g u d (ix2 r (⟨128 * j.val + l.val + (if h.val = 0 then 512 else 0), by have := j.isLt; split <;> omega⟩ : Fin 1024)) := by
  have hh := h.isLt
  have key : ∀ (a b : ℕ) (ha : a < 1024) (hb : b < 1024), a = b → ffn x0 x3 x4 x5 g u d (ix2 r (⟨a, ha⟩ : Fin 1024)) = ffn x0 x3 x4 x5 g u d (ix2 r (⟨b, hb⟩ : Fin 1024)) := by
    intro a b ha hb e; subst e; rfl
  have h4 : j = 0 ∨ j = 1 ∨ j = 2 ∨ j = 3 := by omega
  rcases h4 with rfl | rfl | rfl | rfl
  · refine (pay35_apply _ _ _ _ _ _ _ r h l).trans (key _ _ _ _ ?_)
    change l.val + _ = 128 * 0 + l.val + _; omega
  · refine (pay7_apply _ _ r h l).trans ?_
    by_cases h0 : h.val = 0
    · rw [if_pos h0]
      refine (pay37_apply _ _ _ _ _ _ _ r l).trans (key _ _ _ _ ?_)
      rw [if_pos h0]; change 640 + l.val = 128 * 1 + l.val + 512; omega
    · rw [if_neg h0]
      refine (pay36_apply _ _ _ _ _ _ _ r l).trans (key _ _ _ _ ?_)
      rw [if_neg h0]; change 128 + l.val = 128 * 1 + l.val + 0; omega
  · refine (pay8_apply _ r h l).trans ?_
    by_cases h0 : h.val = 0
    · rw [if_pos (by omega : h.val % 2 = 0)]
      refine key _ _ _ _ ?_
      rw [if_pos h0]; change 768 + l.val = 128 * 2 + l.val + 512; omega
    · rw [if_neg (by omega : ¬ h.val % 2 = 0)]
      refine key _ _ _ _ ?_
      rw [if_neg h0]; change 256 + l.val = 128 * 2 + l.val + 0; omega
  · refine (pay9_apply _ r h l).trans ?_
    by_cases h0 : h.val = 0
    · rw [if_pos (by omega : h.val % 2 = 0)]
      refine key _ _ _ _ ?_
      rw [if_pos h0]; change 896 + l.val = 128 * 3 + l.val + 512; omega
    · rw [if_neg (by omega : ¬ h.val % 2 = 0)]
      refine key _ _ _ _ ?_
      rw [if_neg h0]; change 384 + l.val = 128 * 3 + l.val + 0; omega

/-- A block's packed row read as pair, piece and parity. -/
theorem outY_apply (x0 : Vec Ideal S4096x128 .bf16) (x3 x4 x5 : Vec Ideal S1x1x1024 .f32) (g u d : Vec Ideal S1024x1024 .bf16)
    (a : Fin 4096) (l : Fin 128) :
    outY x0 x3 x4 x5 g u d (ix2 a l)
      = ffn x0 x3 x4 x5 g u d (ix2 (⟨a.val / 8, by omega⟩ : Fin 512) (⟨128 * (a.val % 8 / 2) + l.val + (if a.val % 2 = 0 then 512 else 0), by split <;> omega⟩ : Fin 1024)) := by
  have e : (Shape.reshapeEquiv reshapes_S4096x128_S2048x2x128.1).symm (ix2 a l : S4096x128.Idx) = (ix3 (⟨a.val / 2, by omega⟩ : Fin 2048) (⟨a.val % 2, by omega⟩ : Fin 2) l : S2048x2x128.Idx) := by
    rw [Shape.reshapeEquiv_symm]
    refine Shape.reshapeEquiv_eq_of_rowMajor _ ?_
    rw [Shape.rowMajor_val_three, Shape.rowMajor_val_two]
    change (a.val / 2 * 2 + a.val % 2) * 128 + l.val = a.val * 128 + l.val
    omega
  refine (congrArg (weaveAt _) e).trans ?_
  refine (piece_apply x0 x3 x4 x5 g u d ⟨a.val / 2 % 4, by omega⟩ ⟨a.val / 2 / 4, by omega⟩ ⟨a.val % 2, by omega⟩ l).trans ?_
  refine congrArg (ffn x0 x3 x4 x5 g u d) ((ix2_inj ..).2 ⟨Fin.ext ?_, Fin.ext ?_⟩)
  · change a.val / 2 / 4 = a.val / 8; omega
  · change 128 * (a.val / 2 % 4) + l.val + (if a.val % 2 = 0 then 512 else 0) = 128 * (a.val % 8 / 2) + l.val + (if a.val % 2 = 0 then 512 else 0); omega

/-- A packed piece of the tokens. -/
theorem tokQ_apply (x0 : Vec Ideal S4096x128 .bf16) (j : Fin 4) (r : Fin 512) (h : Fin 2) (l : Fin 128) :
    tokQ x0 j (ix3 r h l) = x0 (ix2 (⟨8 * r.val + 2 * j.val + h.val, by omega⟩ : Fin 4096) l) := by
  have e : Shape.reshapeEquiv reshapes_S4096x128_S2048x2x128.1 (ix3 (⟨4 * r.val + j.val, by omega⟩ : Fin 2048) h l : S2048x2x128.Idx) = (ix2 (⟨8 * r.val + 2 * j.val + h.val, by omega⟩ : Fin 4096) l : S4096x128.Idx) := by
    refine Shape.reshapeEquiv_eq_of_rowMajor _ ?_
    rw [Shape.rowMajor_val_three, Shape.rowMajor_val_two]
    change (8 * r.val + 2 * j.val + h.val) * 128 + l.val = ((4 * r.val + j.val) * 2 + h.val) * 128 + l.val
    omega
  exact congrArg x0 e

/-- One step's result row from the token rows and weights in its blocks. -/
theorem ffn_apply (x0 : Vec Ideal S4096x128 .bf16) (x3 x4 x5 : Vec Ideal S1x1x1024 .f32) (g u d : Vec Ideal S1024x1024 .bf16) (r : Fin 512) (n : Fin 1024) :
    ffn x0 x3 x4 x5 g u d (ix2 r n)
      = mlpAt (fun k => x0 (ix2 (⟨8 * r.val + 2 * (k.val % 512 / 128) + (if k.val < 512 then 1 else 0), by split <;> omega⟩ : Fin 4096) (⟨k.val % 128, by omega⟩ : Fin 128)))
          (fun k f => g (ix2 k f)) (fun k f => u (ix2 k f)) (fun f n => d (ix2 f n))
          (fun f => x3 (ix3 0 0 f)) (fun f => x4 (ix3 0 0 f)) (fun n => x5 (ix3 0 0 n)) n := by
  refine (pay34_apply _ g u d x3 x4 x5 _ _ _ _ rfl r n).trans ?_
  refine congrArg (fun x => mlpAt x _ _ _ _ _ _ n) (funext fun k => ?_)
  exact (pay31_apply (tokQ x0) r k).trans (tokQ_apply x0 _ r _ _)

end Cert.LatentExpertsIdeal.Hand

end
-- ==== Proof.LatentExpertsHost.lean ====
/- The host's operands of the experts kernel: the split biases and the selector. -/
module

public import proofs.«01_k».proof.Proof.LatentExpertsIdealTab
public import Idealize.ShloMosaic.Lib.Pipeline.ValueKit
public import Idealize.ShloMosaic.Lib.Pointwise

@[expose] public section

set_option maxRecDepth 16384

noncomputable section

namespace Cert.LatentExpertsIdeal.Hand

open Cert.LatentExpertsIdeal Cert.LatentExpertsIdeal.Gen Idealize.ShloMosaic Idealize.ShloMosaic.TcCoe Idealize.SL.Sem

variable (m : (ℓ : Loc nD τ sig) → Buf (Elt Ideal) ℓ)

theorem V1_apply (c : Dev nD) (e : Fin 128) (f : Fin 1024) :
    (V m c main_v1 : Vec Ideal S128x1x1024 .f32) (ix3 e (0 : Fin 1) f)
      = (m ((c : Thread nD τ).loc main_arg5) : Vec Ideal S128x2048 .f32) (ix2 e (⟨2 * f.val, by omega⟩ : Fin 2048)) := by
  unfold V
  simp only [hostOps0, hostOps0_1, hostOps0_2, List.flatten_cons, List.flatten_nil, List.append_nil, List.cons_append, List.nil_append]
  entry_read
  pointwise []

theorem V2_apply (c : Dev nD) (e : Fin 128) (f : Fin 1024) :
    (V m c main_v2 : Vec Ideal S128x1x1024 .f32) (ix3 e (0 : Fin 1) f)
      = (m ((c : Thread nD τ).loc main_arg5) : Vec Ideal S128x2048 .f32) (ix2 e (⟨2 * f.val + 1, by omega⟩ : Fin 2048)) := by
  unfold V
  simp only [hostOps0, hostOps0_1, hostOps0_2, List.flatten_cons, List.flatten_nil, List.append_nil, List.cons_append, List.nil_append]
  entry_read
  pointwise []
  exact congrArg (m ((c : Thread nD τ).loc main_arg5) : Vec Ideal S128x2048 .f32) ((ix2_inj ..).2 ⟨rfl, Fin.ext (Nat.add_comm _ _)⟩)

theorem V3_apply (c : Dev nD) (e : Fin 128) (f : Fin 1024) :
    (V m c main_v3 : Vec Ideal S128x1x1024 .f32) (ix3 e (0 : Fin 1) f)
      = (m ((c : Thread nD τ).loc main_arg6) : Vec Ideal S128x1024 .f32) (ix2 e f) := by
  unfold V
  simp only [hostOps0, hostOps0_1, hostOps0_2, List.flatten_cons, List.flatten_nil, List.append_nil, List.cons_append, List.nil_append]
  entry_read
  pointwise []

/-- The column of 256 the selector's column `l` picks, as the host computes it. -/
def colWord (l : Fin 256) : BitVec 32 :=
  Scalar.select (IntOp.cmpi .slt (BitVec.ofNat 32 l.val) 128#32) (IntOp.muli 2#32 (BitVec.ofNat 32 l.val))
    (IntOp.addi (IntOp.muli 2#32 (IntOp.subi (BitVec.ofNat 32 l.val) 128#32)) 1#32)

/-- It is twice `l` in the first half, twice the rest plus one in the second. -/
theorem colWord_eq (l : Fin 256) : colWord l = BitVec.ofNat 32 (if l.val < 128 then 2 * l.val else 2 * (l.val - 128) + 1) := by
  revert l; decide +kernel

theorem V21_apply (c : Dev nD) (r l : Fin 256) :
    (V m c main_v21 : Vec Ideal S256x256 .bf16) (ix2 r l)
      = if r.val = (if l.val < 128 then 2 * l.val else 2 * (l.val - 128) + 1) then (1 : EReal) else 0 := by
  unfold V
  simp only [hostOps0, hostOps0_1, hostOps0_2, List.flatten_cons, List.flatten_nil, List.append_nil, List.cons_append, List.nil_append]
  entry_read
  pointwise []
  change (FloatOps.uitofp .bf16 (IntOp.cmpi .eq (BitVec.ofNat 32 r.val) (colWord l)) : Ideal .bf16) = _
  rw [colWord_eq]
  by_cases h : r.val = (if l.val < 128 then 2 * l.val else 2 * (l.val - 128) + 1)
  · rw [if_pos h, ← h]
    have e : IntOp.cmpi .eq (BitVec.ofNat 32 r.val) (BitVec.ofNat 32 r.val) = 1#1 := by unfold IntOp.cmpi; simp
    rw [e]; simp [FloatOps.uitofp]
  · rw [if_neg h]
    have hl := l.isLt
    have hr := r.isLt
    have hn : (if l.val < 128 then 2 * l.val else 2 * (l.val - 128) + 1) < 256 := by split <;> omega
    generalize (if l.val < 128 then 2 * l.val else 2 * (l.val - 128) + 1) = n at h hn
    have hne : ¬ BitVec.ofNat 32 r.val = BitVec.ofNat 32 n := by
      intro e
      have := congrArg BitVec.toNat e
      simp only [BitVec.toNat_ofNat] at this
      omega
    have e : IntOp.cmpi .eq (BitVec.ofNat 32 r.val) (BitVec.ofNat 32 n) = 0#1 := by unfold IntOp.cmpi; change BitVec.ofBool (BitVec.ofNat 32 r.val == BitVec.ofNat 32 n) = 0#1; rw [beq_eq_false_iff_ne.2 hne]; rfl
    rw [e]; simp [FloatOps.uitofp]

end Cert.LatentExpertsIdeal.Hand

end
-- ==== Proof.LatentExpertsIdealBlk.lean ====
module

public import proofs.«01_k».proof.Proof.Gen.LatentExpertsIdeal
public import proofs.«01_k».proof.Proof.Gen.LatentExpertsIdeal.Launch
public import proofs.«01_k».proof.Proof.Gen.LatentExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.LatentExpertsIdealKit
public import proofs.«01_k».proof.Proof.LatentExpertsIdealTab
public import Idealize.ShloMosaic.Lib.ValueIdxCoords
public import Idealize.ShloMosaic.Lib.Pipeline.Value
@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]
variable (m : (ℓ : Loc nD τ sig) → Buf (Elt F) ℓ)

theorem pt_lt (hO : Ok m) (t : Fin (cfgM m hO).N) : t.val < 287 := lt_of_lt_of_eq t.isLt (show (cfgM m hO).N = 287 from N_0)

/-- The tile of a grid point. -/
abbrev tileT (hO : Ok m) (t : Fin (cfgM m hO).N) : Fin 287 := ⟨t.val, pt_lt m hO t⟩

theorem coords_val (hO : Ok m) (t : Fin (cfgM m hO).N) : (grid0.coords t 0).val = t.val := by
  have h := Pipeline.Grid.coords_val (G := grid0) t 0 (S := 1) (B := 287) (by decide) rfl
  have ht := pt_lt m hO t
  rw [h]; omega

theorem tile_coords (hO : Ok m) (t : Fin (cfgM m hO).N) : tile (grid0.coords t) = tileT m hO t := Fin.ext (coords_val m hO t)

/-- The tokens' block at a point. -/
theorem blk0 (hR : InRange m) (hO : Ok m) (c : Dev nD) (t : Fin (cfgM m hO).N) (z : S4096x128.Idx) :
    (iblk m hO c 0 t : Vec F S4096x128 .bf16) z
      = (V m c main_arg2 : Vec F S1175552x128 .bf16) (ix2 (⟨min t.val ((nvN m).toNat - 1) * 4096 + (z 0).val, by have := pt_lt m hO t; have h : (z 0).val < 4096 := (z 0).isLt; omega⟩ : Fin 1175552) (z 1 : Fin 128)) := by
  unfold iblk
  refine congrArg (V m c main_arg2) (funext fun a => Fin.ext ?_)
  refine (Pipeline.Window.rect_emb_val ((cfgM m hO).win 0) t z a).trans ?_
  have hT : ((cfgM m hO).win 0).index t = ![min t.val ((nvN m).toNat - 1), 0] := (transform_0 m hR (grid0.coords t)).trans (by rw [coords_val m hO t])
  rw [hT]
  fin_cases a
  · rfl
  · change 0 * 128 + (z 1).val = (z 1).val; omega

/-- The expert's fused weights at a point. -/
theorem blk1 (hR : InRange m) (hO : Ok m) (c : Dev nD) (t : Fin (cfgM m hO).N) (z : S1x1024x2048.Idx) :
    (iblk m hO c 1 t : Vec F S1x1024x2048 .f32) z
      = (V m c main_arg3 : Vec F S128x1024x2048 .f32) (ix3 (⟨(teN m (tileT m hO t)).toNat, hR.te _⟩ : Fin 128) (z 1 : Fin 1024) (z 2 : Fin 2048)) := by
  unfold iblk
  refine congrArg (V m c main_arg3) (funext fun a => Fin.ext ?_)
  refine (Pipeline.Window.rect_emb_val ((cfgM m hO).win 1) t z a).trans ?_
  have hT : ((cfgM m hO).win 1).index t = ![(teN m (tileT m hO t)).toNat, 0, 0] := (transform_1 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1024 + (z 1).val = (z 1).val; omega
  · change 0 * 2048 + (z 2).val = (z 2).val; omega

/-- The expert's down weights at a point. -/
theorem blk2 (hR : InRange m) (hO : Ok m) (c : Dev nD) (t : Fin (cfgM m hO).N) (z : S1x1024x1024.Idx) :
    (iblk m hO c 2 t : Vec F S1x1024x1024 .f32) z
      = (V m c main_arg4 : Vec F S128x1024x1024 .f32) (ix3 (⟨(teN m (tileT m hO t)).toNat, hR.te _⟩ : Fin 128) (z 1 : Fin 1024) (z 2 : Fin 1024)) := by
  unfold iblk
  refine congrArg (V m c main_arg4) (funext fun a => Fin.ext ?_)
  refine (Pipeline.Window.rect_emb_val ((cfgM m hO).win 2) t z a).trans ?_
  have hT : ((cfgM m hO).win 2).index t = ![(teN m (tileT m hO t)).toNat, 0, 0] := (transform_2 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1024 + (z 1).val = (z 1).val; omega
  · change 0 * 1024 + (z 2).val = (z 2).val; omega

/-- The expert's gate biases at a point. -/
theorem blk3 (hR : InRange m) (hO : Ok m) (c : Dev nD) (t : Fin (cfgM m hO).N) (z : S1x1x1024.Idx) :
    (iblk m hO c 3 t : Vec F S1x1x1024 .f32) z
      = (V m c main_v1 : Vec F S128x1x1024 .f32) (ix3 (⟨(teN m (tileT m hO t)).toNat, hR.te _⟩ : Fin 128) (z 1 : Fin 1) (z 2 : Fin 1024)) := by
  unfold iblk
  refine congrArg (V m c main_v1) (funext fun a => Fin.ext ?_)
  refine (Pipeline.Window.rect_emb_val ((cfgM m hO).win 3) t z a).trans ?_
  have hT : ((cfgM m hO).win 3).index t = ![(teN m (tileT m hO t)).toNat, 0, 0] := (transform_3 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The expert's up biases at a point. -/
theorem blk4 (hR : InRange m) (hO : Ok m) (c : Dev nD) (t : Fin (cfgM m hO).N) (z : S1x1x1024.Idx) :
    (iblk m hO c 4 t : Vec F S1x1x1024 .f32) z
      = (V m c main_v2 : Vec F S128x1x1024 .f32) (ix3 (⟨(teN m (tileT m hO t)).toNat, hR.te _⟩ : Fin 128) (z 1 : Fin 1) (z 2 : Fin 1024)) := by
  unfold iblk
  refine congrArg (V m c main_v2) (funext fun a => Fin.ext ?_)
  refine (Pipeline.Window.rect_emb_val ((cfgM m hO).win 4) t z a).trans ?_
  have hT : ((cfgM m hO).win 4).index t = ![(teN m (tileT m hO t)).toNat, 0, 0] := (transform_4 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The expert's down biases at a point. -/
theorem blk5 (hR : InRange m) (hO : Ok m) (c : Dev nD) (t : Fin (cfgM m hO).N) (z : S1x1x1024.Idx) :
    (iblk m hO c 5 t : Vec F S1x1x1024 .f32) z
      = (V m c main_v3 : Vec F S128x1x1024 .f32) (ix3 (⟨(teN m (tileT m hO t)).toNat, hR.te _⟩ : Fin 128) (z 1 : Fin 1) (z 2 : Fin 1024)) := by
  unfold iblk
  refine congrArg (V m c main_v3) (funext fun a => Fin.ext ?_)
  refine (Pipeline.Window.rect_emb_val ((cfgM m hO).win 5) t z a).trans ?_
  have hT : ((cfgM m hO).win 5).index t = ![(teN m (tileT m hO t)).toNat, 0, 0] := (transform_5 m (grid0.coords t)).trans (by rw [tile_coords m hO t])
  rw [hT]
  have hz : (z 0).val < 1 := (z 0).isLt
  fin_cases a
  · change (teN m (tileT m hO t)).toNat * 1 + (z 0).val = (teN m (tileT m hO t)).toNat; omega
  · change 0 * 1 + (z 1).val = (z 1).val; omega
  · change 0 * 1024 + (z 2).val = (z 2).val; omega

/-- The selector at a point: the whole of it. -/
theorem blk6 (hO : Ok m) (c : Dev nD) (t : Fin (cfgM m hO).N) (z : S256x256.Idx) :
    (iblk m hO c 6 t : Vec F S256x256 .bf16) z = (V m c main_v21 : Vec F S256x256 .bf16) z := by
  unfold iblk
  refine congrArg (V m c main_v21) (funext fun a => Fin.ext ?_)
  refine (Pipeline.Window.rect_emb_val ((cfgM m hO).win 6) t z a).trans ?_
  fin_cases a
  · change 0 * 256 + (z 0).val = (z 0).val; omega
  · change 0 * 256 + (z 1).val = (z 1).val; omega

/-- The weights the scratch holds while a point's expert is at work. -/
def gW (hO : Ok m) (c : Dev nD) (t : Fin (cfgM m hO).N) : Vec F S1024x1024 .bf16 := gateW (iblk m hO c 1 t) (iblk m hO c 6 t)
def uW (hO : Ok m) (c : Dev nD) (t : Fin (cfgM m hO).N) : Vec F S1024x1024 .bf16 := upW (iblk m hO c 1 t) (iblk m hO c 6 t)
def dW (hO : Ok m) (c : Dev nD) (t : Fin (cfgM m hO).N) : Vec F S1024x1024 .bf16 := k0_pay6 (iblk m hO c 2 t)

/-- Two points of one expert have the same weights. -/
theorem weights_eq (hR : InRange m) (hO : Ok m) (c : Dev nD) (t t' : Fin (cfgM m hO).N) (h : teN m (tileT m hO t) = teN m (tileT m hO t')) :
    gW m hO c t = gW m hO c t' ∧ uW m hO c t = uW m hO c t' ∧ dW m hO c t = dW m hO c t' := by
  have e1 : (iblk m hO c 1 t : Vec F S1x1024x2048 .f32) = iblk m hO c 1 t' := by
    refine funext fun z : S1x1024x2048.Idx => (blk1 m hR hO c t z).trans (Eq.trans ?_ (blk1 m hR hO c t' z).symm)
    exact congrArg (fun e : Fin 128 => (V m c main_arg3 : Vec F S128x1024x2048 .f32) (ix3 e (z 1) (z 2))) (Fin.ext (congrArg BitVec.toNat h))
  have e2 : (iblk m hO c 2 t : Vec F S1x1024x1024 .f32) = iblk m hO c 2 t' := by
    refine funext fun z : S1x1024x1024.Idx => (blk2 m hR hO c t z).trans (Eq.trans ?_ (blk2 m hR hO c t' z).symm)
    exact congrArg (fun e : Fin 128 => (V m c main_arg4 : Vec F S128x1024x1024 .f32) (ix3 e (z 1) (z 2))) (Fin.ext (congrArg BitVec.toNat h))
  have e6 : (iblk m hO c 6 t : Vec F S256x256 .bf16) = iblk m hO c 6 t' := by
    exact funext fun z : S256x256.Idx => (blk6 m hO c t z).trans (blk6 m hO c t' z).symm
  exact ⟨congrArg₂ gateW e1 e6, congrArg₂ upW e1 e6, congrArg k0_pay6 e2⟩

/-- What a point leaves in its block of the result: the experts' layer of its tokens, or zeros past the last tile that holds any. -/
def outAt (hO : Ok m) (c : Dev nD) (t : Fin (cfgM m hO).N) : Vec F S4096x128 .bf16 :=
  if t.val < (nvN m).toNat then
    outY (iblk m hO c 0 t) (iblk m hO c 3 t) (iblk m hO c 4 t) (iblk m hO c 5 t) (gW m hO c t) (uW m hO c t) (dW m hO c t)
  else k0_pay10

end Cert.LatentExpertsIdeal.Hand

end
-- ==== Proof.LatentExpertsIdealRunA.lean ====
module

public import proofs.«01_k».proof.Proof.Gen.LatentExpertsIdeal
public import proofs.«01_k».proof.Proof.Gen.LatentExpertsIdeal.Launch
public import proofs.«01_k».proof.Proof.Gen.LatentExpertsIdeal.Skeleton
public import proofs.«01_k».proof.Proof.LatentExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step that starts an expert: the three scratch buffers receive the expert's weights, and the output block the feed-forward of the step's tokens. -/
theorem runA (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : condL i (nvW c xt1) (teW c i xt0) (tpW c i xt0)) (h2 : k0_cond2 i (nvW c xt1) = 1#1) (h3 : ¬ k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (outY x0 x3 x4 x5 (gateW x1 x6) (upW x1 x6) (k0_pay6 x2)) ∗ owns (c : Thread nD τ) arg11 fullShare (gateW x1 x6) ∗ owns (c : Thread nD τ) arg12 fullShare (upW x1 x6) ∗ owns (c : Thread nD τ) arg13 fullShare (k0_pay6 x2)
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  set_option sl_exec.stopBefore "k0_cond2" in
  sl_exec (disch := first | sl_exact hl | sl_exact h2 | sl_exact h3)
  rw [gate_writes arg4 harg4 arg9 harg9 arg11 harg11 _ x1 x6 _ ?hG, up_writes arg4 harg4 arg9 harg9 arg12 harg12 _ x1 x6 _ ?hU, down_writes arg5 harg5 arg13 harg13 _ x2 _ ?hD]
  case hG => rfl
  case hU => rfl
  case hD => rfl
  unfold runA.sl.r
  rw [dif_pos h2]
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine read_out arg10 _ f7 _ _ _ _ x0 x3 x4 x5 (gateW x1 x6) (upW x1 x6) (k0_pay6 x2) _ _ _ _ _ _ _ _ _ _ ?_ ?_ ?_ ?_ ?_ ?_ ?_ ?_ ?_ ?_
    · exact readAt_quarter arg3 harg3 _ x0 0 _
    · exact readAt_quarter arg3 harg3 _ x0 1 _
    · exact readAt_quarter arg3 harg3 _ x0 2 _
    · exact readAt_quarter arg3 harg3 _ x0 3 _
    · exact readAt_all arg6 harg6 _ x3
    · exact readAt_all arg7 harg7 _ x4
    · exact readAt_all arg8 harg8 _ x5
    · exact readAt_all arg11 harg11 _ _
    · exact readAt_all arg12 harg12 _ _
    · exact readAt_all arg13 harg13 _ _
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.LatentExpertsIdeal.Hand

end
-- ==== Proof.LatentExpertsIdealRunB.lean ====
module

public import proofs.«01_k».proof.Proof.Gen.LatentExpertsIdeal
public import proofs.«01_k».proof.Proof.Gen.LatentExpertsIdeal.Launch
public import proofs.«01_k».proof.Proof.Gen.LatentExpertsIdeal.Skeleton
public import proofs.«01_k».proof.Proof.LatentExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step that goes on with the expert of the step before: the scratch buffers stay as they are. -/
theorem runB (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : ¬ condL i (nvW c xt1) (teW c i xt0) (tpW c i xt0)) (h2 : k0_cond2 i (nvW c xt1) = 1#1) (h3 : ¬ k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (outY x0 x3 x4 x5 g u d) ∗ owns (c : Thread nD τ) arg11 fullShare g ∗ owns (c : Thread nD τ) arg12 fullShare u ∗ owns (c : Thread nD τ) arg13 fullShare d
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns
  simp only [harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine read_out arg10 _ f7 _ _ _ _ x0 x3 x4 x5 g u d _ _ _ _ _ _ _ _ _ _ ?_ ?_ ?_ ?_ ?_ ?_ ?_ ?_ ?_ ?_
    · exact readAt_quarter arg3 harg3 _ x0 0 _
    · exact readAt_quarter arg3 harg3 _ x0 1 _
    · exact readAt_quarter arg3 harg3 _ x0 2 _
    · exact readAt_quarter arg3 harg3 _ x0 3 _
    · exact readAt_all arg6 harg6 _ x3
    · exact readAt_all arg7 harg7 _ x4
    · exact readAt_all arg8 harg8 _ x5
    · exact readAt_all arg11 harg11 _ _
    · exact readAt_all arg12 harg12 _ _
    · exact readAt_all arg13 harg13 _ _
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.LatentExpertsIdeal.Hand

end
-- ==== Proof.LatentExpertsIdealRunC.lean ====
module

public import proofs.«01_k».proof.Proof.Gen.LatentExpertsIdeal
public import proofs.«01_k».proof.Proof.Gen.LatentExpertsIdeal.Launch
public import proofs.«01_k».proof.Proof.Gen.LatentExpertsIdeal.Skeleton
public import proofs.«01_k».proof.Proof.LatentExpertsIdealBack
public import Idealize.ShloMosaic.Lib.VecWindow
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A step past the last expert tile: its output block is zeroed. -/
theorem runC (c : Dev nD) (i : grid0.Coords) (arg3 : Memref sig .tc .vmem S4096x128 .bf16) (harg3 : arg3.IsWhole) (arg4 : Memref sig .tc .vmem S1x1024x2048 .f32) (harg4 : arg4.IsWhole)
    (arg5 : Memref sig .tc .vmem S1x1024x1024 .f32) (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1x1024 .f32) (harg8 : arg8.IsWhole)
    (arg9 : Memref sig .tc .vmem S256x256 .bf16) (harg9 : arg9.IsWhole) (arg10 : Memref sig .tc .vmem S4096x128 .bf16) (harg10 : arg10.IsWhole)
    (arg11 : Memref sig .tc .vmem S1024x1024 .bf16) (harg11 : arg11.IsWhole) (arg12 : Memref sig .tc .vmem S1024x1024 .bf16) (harg12 : arg12.IsWhole)
    (arg13 : Memref sig .tc .vmem S1024x1024 .bf16) (harg13 : arg13.IsWhole)
    (x0 : Vec F S4096x128 .bf16) (x1 : Vec F S1x1024x2048 .f32) (x2 : Vec F S1x1024x1024 .f32) (x3 x4 x5 : Vec F S1x1x1024 .f32)
    (x6 : Vec F S256x256 .bf16) (xt0 : TbBuf0 (F := F) c tbM0_0) (xt1 : TbBuf0 (F := F) c tbM0_1)
    (hl : ¬ condL i (nvW c xt1) (teW c i xt0) (tpW c i xt0)) (h2 : ¬ k0_cond2 i (nvW c xt1) = 1#1) (h3 : k0_cond3 i (nvW c xt1) = 1#1)
    (g u d : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare g ∗ owns (c : Thread nD τ) arg12 fullShare u ∗ owns (c : Thread nD τ) arg13 fullShare d
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6
          ∗ owns (c : Thread nD τ) arg10 fullShare (k0_pay10 (F := F)) ∗ owns (c : Thread nD τ) arg11 fullShare g ∗ owns (c : Thread nD τ) arg12 fullShare u ∗ owns (c : Thread nD τ) arg13 fullShare d
          ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part4_eq_skeleton, k0_part1_eq_skeleton, k0_part2_eq_skeleton, k0_part3_eq_skeleton, k0_part5_eq_skeleton]
  unfold owns

  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hl | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    exact read_zero arg10 f7
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.LatentExpertsIdeal.Hand

end
-- ==== Proof.LatentExpertsIdealFrame.lean ====
module

public import proofs.«01_k».proof.Proof.Gen.LatentExpertsIdeal
public import proofs.«01_k».proof.Proof.Gen.LatentExpertsIdeal.Launch
public import proofs.«01_k».proof.Proof.Gen.LatentExpertsIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.LatentExpertsIdealKit
public import proofs.«01_k».proof.Proof.LatentExpertsIdealTab
public import proofs.«01_k».proof.Proof.LatentExpertsIdealBlk
public import proofs.«01_k».proof.Proof.LatentExpertsIdealRunA
public import proofs.«01_k».proof.Proof.LatentExpertsIdealRunB
public import proofs.«01_k».proof.Proof.LatentExpertsIdealRunC
public import Idealize.ShloMosaic.Lib.ValueIdxCoords
public import Idealize.ShloMosaic.Lib.Pipeline.Value
@[expose] public section

set_option maxRecDepth 16384

noncomputable section

namespace Cert.LatentExpertsIdeal.Hand

open Cert.LatentExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is known of the three scratch buffers before point `n`: if the point before had tokens, they hold that point's weights. -/
def Held (hO : Ok m) (c : Dev nD) (n : ℕ) (g u d : Vec F S1024x1024 .bf16) : Prop :=
  ∀ t : Fin (cfgM m hO).N, t.val + 1 = n → t.val < (nvN m).toNat → g = gW m hO c t ∧ u = uW m hO c t ∧ d = dW m hO c t

/-- What stands before point `n`. -/
def PhiS (hO : Ok m) (c : Dev nD) (n : ℕ) : sProp 𝕄 :=
  iprop(∃ g u d, ⌜Held m hO c n g u d⌝
    ∗ ((owns (c : Thread nD τ) scM0_0 fullShare g ∗ owns (c : Thread nD τ) scM0_1 fullShare u ∗ owns (c : Thread nD τ) scM0_2 fullShare d) ∗ (∃ r, prngReg c r))
    ∗ Pipeline.ΦT pre0 (tbl m) c)

/-- The proof data: each operand's buffer keeps its block, the output's is left at the point's result. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 6400000 in
/-- The body at any point. -/
theorem sound_body (hR : InRange m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hn := nvW_eq m c
  have hte := teW_eq m c (grid0.coords t)
  have hc := coords_val m hO t
  have ht := pt_lt m hO t
  have hone := hR.one
  have c2 := cond2_iff m hR (grid0.coords t)
  have c3 := cond3_iff m hR (grid0.coords t)
  have cL := condL_iff m hR (grid0.coords t) (teW (F := F) c (grid0.coords t) (tbl m 0)) (tpW (F := F) c (grid0.coords t) (tbl m 0))
  rw [hc] at c2 c3 cL
  rw [← hn] at c2 c3 cL
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) from rfl, show (dats m hO 0 c).Φ t.castSucc = PhiS m hO c t.val from rfl]
  unfold PhiS
  rw [PhiT0_eq]
  iintro ⟨⟨%g, %u, %d, %hH, ⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hv : t.val < (nvW (F := F) c (tbl m 1)).toNat
  · have ho : outAt m hO c t = outY (iblk m hO c 0 t) (iblk m hO c 3 t) (iblk m hO c 4 t) (iblk m hO c 5 t) (gW m hO c t) (uW m hO c t) (dW m hO c t) := if_pos (hn ▸ hv)
    rw [ho]
    by_cases hl : condL (grid0.coords t) (nvW (F := F) c (tbl m 1)) (teW (F := F) c (grid0.coords t) (tbl m 0)) (tpW (F := F) c (grid0.coords t) (tbl m 0))
    · iapply (runA c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hl (c2.mpr hv) (fun h => c3.mp h hv) g u d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · iexists _, _, _
        isplitr; swap
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        ipureintro
        intro t' e _; obtain rfl : t' = t := Fin.ext (by omega); exact ⟨rfl, rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hz : t.val ≠ 0 := fun h => hl (cL.mpr ⟨hv, .inl h⟩)
      have hsame : teW (F := F) c (grid0.coords t) (tbl m 0) = tpW (F := F) c (grid0.coords t) (tbl m 0) := by
        by_contra h; exact hl (cL.mpr ⟨hv, .inr h⟩)
      have htp := tpW_eq m c (grid0.coords t) (by rw [hc]; exact hz)
      rw [hte, htp, tile_coords m hO t] at hsame
      have hsame' : teN m (tileT m hO t) = teN m (tileT m hO ⟨t.val - 1, by omega⟩) :=
        hsame.trans (congrArg (teN m) (Fin.ext (by change (grid0.coords t 0).val - 1 = t.val - 1; rw [hc])))
      obtain ⟨e1, e2, e3⟩ := weights_eq m hR hO c _ _ hsame'
      obtain ⟨q1, q2, q3⟩ := hH ⟨t.val - 1, by omega⟩ (by change t.val - 1 + 1 = t.val; omega) (by rw [← hn]; change t.val - 1 < _; omega)
      rw [e1, e2, e3, ← q1, ← q2, ← q3]
      iapply (runB c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hl (c2.mpr hv) (fun h => c3.mp h hv) g u d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · iexists _, _, _
        isplitr; swap
        · isplitl [HS0 HS1 HS2 Hg]
          · isplitl [HS0 HS1 HS2]
            · isplitl [HS0]
              · iexact HS0
              isplitl [HS1]
              · iexact HS1
              iexact HS2
            iexact Hg
          isplitl [HT0]; · iexact HT0
          iexact HT1
        ipureintro
        intro t' e _; obtain rfl : t' = t := Fin.ext (by omega); exact ⟨q1.trans e1.symm, q2.trans e2.symm, q3.trans e3.symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have ho : outAt m hO c t = k0_pay10 := if_neg (hn ▸ hv)
    rw [ho]
    iapply (runC c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (fun h => hv (cL.mp h).1) (fun h => hv (c2.mp h)) (c3.mpr hv) g u d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · iexists _, _, _
      isplitr; swap
      · isplitl [HS0 HS1 HS2 Hg]
        · isplitl [HS0 HS1 HS2]
          · isplitl [HS0]
            · iexact HS0
            isplitl [HS1]
            · iexact HS1
            iexact HS2
          iexact Hg
        isplitl [HT0]; · iexact HT0
        iexact HT1
      ipureintro
      intro t' e h; obtain rfl : t' = t := Fin.ext (by omega); exact absurd (hn ▸ h) hv
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s buffers is the body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem one_holds (b : BitVec 1) : (!(Scalar.cmpi .ne (Scalar.extui b : BitVec 32) 0#32 == 1#1) && !(Scalar.cmpi .ne (Scalar.extui (Scalar.xori b 1#1) : BitVec 32) 0#32 == 1#1)) = false := by
  revert b; decide

/-- Whatever the count, one of the two stores of the output is made. -/
theorem idle_word (i : grid0.Coords) (x : BitVec 32) : (!(k0_cond2 i x == 1#1) && !(k0_cond3 i x == 1#1)) = false :=
  one_holds (Scalar.cmpi .slt (BitVec.ofNat 32 (i 0).val) x)

theorem idle_at (pf : pre0.Contents (Elt F)) (i : grid0.Coords) : idle0 (F := F) pf 7 i = (!(k0_cond2 i (pf.atD 1 ![0]) == 1#1) && !(k0_cond3 i (pf.atD 1 ![0]) == 1#1)) := rfl

/-- No point leaves the output's buffer alone. -/
theorem never_idle (pf : pre0.Contents (Elt F)) (i : grid0.Coords) : idle0 (F := F) pf 7 i = false := (idle_at pf i).trans (idle_word _ _)

/-- The pipeline's demand on the body, at every point. -/
theorem body_obligation (hR : InRange m) (hO : Ok m) (c : Dev nD) : BodyObligation (dats (F := F) m hO 0 c) (defs₀ (F := F)) Variants.none () Set.univ := fun t => by
  rw [bigSep_W0, bigSep_W0, defs₀_row m hO]
  refine triple_restated (sound_body m hR hO c t) rfl .rfl fun _ => ?_
  unfold bodyPost
  iintro ⟨H, Ho, H0, H1, H2, H3, H4, H5, H6, H7⟩
  isplitl [H]; · iexact H
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  simp only []
  rw [show idle0 (F := F) (tbl m) 7 ((pcfg0.gridAt (tbl m)).coords t) = false from never_idle (tbl m) (grid0.coords t)]
  iexact H7

/-- What the launch hands over stands before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%g, HS0⟩, ⟨%u, HS1⟩, ⟨%d, HS2⟩⟩, Hg⟩, HT⟩
  iexists g, u, d
  isplitr
  · ipureintro; intro t h; exact absurd h (Nat.succ_ne_zero _)
  isplitl [HS0 HS1 HS2 Hg]
  · isplitl [HS0 HS1 HS2]
    · isplitl [HS0]
      · iexact HS0
      isplitl [HS1]
      · iexact HS1
      iexact HS2
    iexact Hg
  iexact HT

/-- What stands after the last point gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨%g, %u, %d, -, ⟨⟨HS0, HS1, HS2⟩, Hg⟩, -⟩
  isplitl [HS0 HS1 HS2]
  · isplitl [HS0]
    · iexists _; iexact HS0
    isplitl [HS1]
    · iexists _; iexact HS1
    iexists _; iexact HS2
  iexact Hg

set_option maxHeartbeats 3200000 in
set_option backward.isDefEq.respectTransparency.types false in
/-- Every run ends, with each array at what the proof data say and every counter at zero. -/
theorem run_main_quiescent (hR : InRange m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hR hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hR : InRange m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hR hO)

/-- Every run ends with the arguments as launched. -/
theorem unchanged (hR : InRange m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hR hO)

/-- Every run ends, with the arguments as launched and every counter at zero. -/
theorem frame (hR : InRange m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hR hO) ((θ_run defs _ _).mono (fun _ h => h.2) (run_main_quiescent m ρ hR hO))

end Cert.LatentExpertsIdeal.Hand

end
-- ==== Proof.LatentExpertsFinal.lean ====
/- The kernel's result is the routed experts' result. -/
module

public import proofs.«01_k».proof.Proof.LatentExpertsOut
public import proofs.«01_k».proof.Proof.LatentExpertsHost
public import proofs.«01_k».proof.Proof.LatentExpertsIdealFrame
public import Idealize.ShloMosaic.Lib.IdealHost

@[expose] public section

set_option maxRecDepth 16384

noncomputable section

namespace Cert.LatentExpertsIdeal.Hand

open Cert.LatentExpertsMath
open Cert.LatentExpertsIdeal Cert.LatentExpertsIdeal.Gen Idealize.ShloMosaic Idealize.ShloMosaic.TcCoe Idealize.SL.Sem

variable (m : (ℓ : Loc nD τ sig) → Buf (Elt Ideal) ℓ)

/-- The arguments. -/
abbrev A0 (c : Dev nD) : IVec S287 32 := m ((c : Thread nD τ).loc main_arg0)
abbrev A1 (c : Dev nD) : IVec S1 32 := m ((c : Thread nD τ).loc main_arg1)
abbrev A2 (c : Dev nD) : FVec Ideal S1175552x128 .bf16 := m ((c : Thread nD τ).loc main_arg2)
abbrev A3 (c : Dev nD) : FVec Ideal S128x1024x2048 .f32 := m ((c : Thread nD τ).loc main_arg3)
abbrev A4 (c : Dev nD) : FVec Ideal S128x1024x1024 .f32 := m ((c : Thread nD τ).loc main_arg4)
abbrev A5 (c : Dev nD) : FVec Ideal S128x2048 .f32 := m ((c : Thread nD τ).loc main_arg5)
abbrev A6 (c : Dev nD) : FVec Ideal S128x1024 .f32 := m ((c : Thread nD τ).loc main_arg6)

/-- The table's entry of a tile, as the argument holds it. -/
theorem teN_eq (c : Dev nD) (t : Fin 287) : teN m t = A0 m c (ix1 t) := by
  obtain rfl : c = 0 := Subsingleton.elim _ _
  refine Eq.trans (b := (V m 0 main_arg0 : IVec S287 32) (ix1 t)) ?_ (congrFun (V_main_arg0 m 0) (ix1 t))
  refine congrArg (V m 0 main_arg0 : IVec S287 32) (funext fun a => ?_)
  fin_cases a; rfl

/-- The count of live tiles, as the argument holds it. -/
theorem nvN_eq (c : Dev nD) : nvN m = A1 m c (ix1 (0 : Fin 1)) := by
  obtain rfl : c = 0 := Subsingleton.elim _ _
  refine Eq.trans (b := (V m 0 main_arg1 : IVec S1 32) (ix1 (0 : Fin 1))) ?_ (congrFun (V_main_arg1 m 0) (ix1 (0 : Fin 1)))
  refine congrArg (V m 0 main_arg1 : IVec S1 32) (funext fun a => ?_)
  fin_cases a; rfl

variable (hR : InRange m) (hO : Ok m) (c : Dev nD) (t : Fin (cfgM m hO).N)

/-- The expert at work at a point. -/
theorem exp_eq : (⟨(teN m (tileT m hO t)).toNat, hR.te _⟩ : Fin 128) = tileExp (A0 m c) (tileT m hO t) := by
  refine Fin.ext ?_
  change (teN m (tileT m hO t)).toNat = (A0 m c (ix1 (tileT m hO t))).toNat % 128
  rw [← teN_eq m c, Nat.mod_eq_of_lt (hR.te _)]

/-- A column of a block of weights times a column of the selector keeps the one the selector marks. -/
theorem pick (w : Fin 256 → EReal) (s : Fin 256 → EReal) (j : Fin 256) (hs : ∀ r, s r = if r.val = j.val then 1 else 0) : ∑ r : Fin 256, w r * s r = w j := by
  rw [Finset.sum_eq_single j]
  · rw [hs j, if_pos rfl, mul_one]
  · intro r _ hr
    rw [hs r, if_neg (fun h => hr (Fin.ext h)), mul_zero]
  · intro h; exact absurd (Finset.mem_univ j) h

include hR in
/-- The fused weights of a point's expert. -/
theorem fused (k : Fin 1024) (n : Fin 2048) : (iblk m hO c 1 t : Vec Ideal S1x1024x2048 .f32) (ix3 (0 : Fin 1) k n) = A3 m c (ix3 (tileExp (A0 m c) (tileT m hO t)) k n) := by
  refine (blk1 m hR hO c t (ix3 (0 : Fin 1) k n)).trans ((congrFun (V_main_arg3 m c) _).trans ?_)
  exact congrArg (fun e : Fin 128 => A3 m c (ix3 e k n)) (exp_eq m hR hO c t)

include hR in
/-- The gate weights: the even columns. -/
theorem gW_apply (k f : Fin 1024) : (gW m hO c t : Vec Ideal S1024x1024 .bf16) (ix2 k f) = A3 m c (ix3 (tileExp (A0 m c) (tileT m hO t)) k (⟨2 * f.val, by omega⟩ : Fin 2048)) := by
  refine (gateW_apply (iblk m hO c 1 t) (iblk m hO c 6 t) k f).trans ?_
  refine (pick _ _ (⟨2 * (f.val % 128), by omega⟩ : Fin 256) fun r => ?_).trans ?_
  · refine (blk6 m hO c t _).trans ((V21_apply m c r _).trans ?_)
    rw [if_pos (show f.val % 128 < 128 by omega)]
  · refine (fused m hR hO c t k _).trans ?_
    exact congrArg (fun n : Fin 2048 => A3 m c (ix3 _ k n)) (Fin.ext (by change 256 * (f.val / 128) + 2 * (f.val % 128) = 2 * f.val; omega))

include hR in
/-- The up weights: the odd columns. -/
theorem uW_apply (k f : Fin 1024) : (uW m hO c t : Vec Ideal S1024x1024 .bf16) (ix2 k f) = A3 m c (ix3 (tileExp (A0 m c) (tileT m hO t)) k (⟨2 * f.val + 1, by omega⟩ : Fin 2048)) := by
  refine (upW_apply (iblk m hO c 1 t) (iblk m hO c 6 t) k f).trans ?_
  refine (pick _ _ (⟨2 * (f.val % 128) + 1, by omega⟩ : Fin 256) fun r => ?_).trans ?_
  · refine (blk6 m hO c t _).trans ((V21_apply m c r _).trans ?_)
    rw [if_neg (show ¬(128 + f.val % 128 < 128) by omega)]
    have e : 2 * (128 + f.val % 128 - 128) + 1 = 2 * (f.val % 128) + 1 := by omega
    exact if_congr (by rw [e]) rfl rfl
  · refine (fused m hR hO c t k _).trans ?_
    exact congrArg (fun n : Fin 2048 => A3 m c (ix3 _ k n)) (Fin.ext (by change 256 * (f.val / 128) + (2 * (f.val % 128) + 1) = 2 * f.val + 1; omega))

theorem pay6_apply (x : Vec Ideal S1x1024x1024 .f32) (f n : Fin 1024) : (k0_pay6 x : FVec Ideal S1024x1024 .bf16) (ix2 f n) = x (ix3 (0 : Fin 1) f n) := by
  pointwise [k0_pay6]

include hR in
/-- The down weights. -/
theorem dW_apply (f n : Fin 1024) : (dW m hO c t : Vec Ideal S1024x1024 .bf16) (ix2 f n) = A4 m c (ix3 (tileExp (A0 m c) (tileT m hO t)) f n) := by
  refine (pay6_apply (iblk m hO c 2 t) f n).trans ?_
  refine (blk2 m hR hO c t (ix3 (0 : Fin 1) f n)).trans ((congrFun (V_main_arg4 m c) _).trans ?_)
  exact congrArg (fun e : Fin 128 => A4 m c (ix3 e f n)) (exp_eq m hR hO c t)

include hR in
/-- The gate biases. -/
theorem bg_apply (f : Fin 1024) : (iblk m hO c 3 t : Vec Ideal S1x1x1024 .f32) (ix3 (0 : Fin 1) (0 : Fin 1) f) = A5 m c (ix2 (tileExp (A0 m c) (tileT m hO t)) (⟨2 * f.val, by omega⟩ : Fin 2048)) := by
  refine (blk3 m hR hO c t (ix3 (0 : Fin 1) (0 : Fin 1) f)).trans ((V1_apply m c _ f).trans ?_)
  exact congrArg (fun e : Fin 128 => A5 m c (ix2 e _)) (exp_eq m hR hO c t)

include hR in
/-- The up biases. -/
theorem bu_apply (f : Fin 1024) : (iblk m hO c 4 t : Vec Ideal S1x1x1024 .f32) (ix3 (0 : Fin 1) (0 : Fin 1) f) = A5 m c (ix2 (tileExp (A0 m c) (tileT m hO t)) (⟨2 * f.val + 1, by omega⟩ : Fin 2048)) := by
  refine (blk4 m hR hO c t (ix3 (0 : Fin 1) (0 : Fin 1) f)).trans ((V2_apply m c _ f).trans ?_)
  exact congrArg (fun e : Fin 128 => A5 m c (ix2 e _)) (exp_eq m hR hO c t)

include hR in
/-- The down biases. -/
theorem bd_apply (n : Fin 1024) : (iblk m hO c 5 t : Vec Ideal S1x1x1024 .f32) (ix3 (0 : Fin 1) (0 : Fin 1) n) = A6 m c (ix2 (tileExp (A0 m c) (tileT m hO t)) n) := by
  refine (blk5 m hR hO c t (ix3 (0 : Fin 1) (0 : Fin 1) n)).trans ((V3_apply m c _ n).trans ?_)
  exact congrArg (fun e : Fin 128 => A6 m c (ix2 e n)) (exp_eq m hR hO c t)

/-- A feed-forward depends on its entries only. -/
theorem mlpAt_congr {x x' : Fin 1024 → EReal} {wg wg' wu wu' wd wd' : Fin 1024 → Fin 1024 → EReal} {bg bg' bu bu' bd bd' : Fin 1024 → EReal} {n n' : Fin 1024}
    (h0 : ∀ k, x k = x' k) (h1 : ∀ k f, wg k f = wg' k f) (h2 : ∀ k f, wu k f = wu' k f) (h3 : ∀ k f, wd k f = wd' k f)
    (h4 : ∀ k, bg k = bg' k) (h5 : ∀ k, bu k = bu' k) (h6 : ∀ k, bd k = bd' k) (h7 : n = n') : mlpAt x wg wu wd bg bu bd n = mlpAt x' wg' wu' wd' bg' bu' bd' n' := by
  obtain rfl := funext h0
  obtain rfl := funext fun k => funext (h1 k)
  obtain rfl := funext fun k => funext (h2 k)
  obtain rfl := funext fun k => funext (h3 k)
  obtain rfl := funext h4
  obtain rfl := funext h5
  obtain rfl := funext h6
  rw [h7]

/-- The array row a block's row stands for. -/
abbrev rowOf (a : Fin 4096) : Fin 1175552 := ⟨t.val * 4096 + a.val, by have := pt_lt m hO t; omega⟩

include hR in
/-- What a point leaves at an element of its block is the result there. -/
theorem point (a : Fin 4096) (l : Fin 128) : (outAt m hO c t : Vec Ideal S4096x128 .bf16) (ix2 a l) = resAt (A0 m c) (A1 m c) (A2 m c) (A3 m c) (A4 m c) (A5 m c) (A6 m c) (rowOf m hO t a) l := by
  have ht := pt_lt m hO t
  have hd : (t.val * 4096 + a.val) / 4096 = t.val := by omega
  unfold outAt resAt
  by_cases h : t.val < (nvN m).toNat
  · rw [if_pos h, if_pos (show (t.val * 4096 + a.val) / 4096 < (A1 m c (ix1 (0 : Fin 1))).toNat by rw [hd, ← nvN_eq m c]; exact h)]
    refine (outY_apply _ _ _ _ _ _ _ a l).trans ((ffn_apply _ _ _ _ _ _ _ _ _).trans ?_)
    have ee : (⟨(t.val * 4096 + a.val) / 4096, by omega⟩ : Fin 287) = tileT m hO t := Fin.ext hd
    unfold expAt
    refine mlpAt_congr (fun k => ?_) (fun k f => ?_) (fun k f => ?_) (fun f n => ?_) (fun f => ?_) (fun f => ?_) (fun n => ?_) ?_
    · unfold tokAt
      refine (blk0 m hR hO c t _).trans ((congrFun (V_main_arg2 m c) _).trans ?_)
      refine congrArg (A2 m c) ((ix2_inj ..).2 ⟨Fin.ext ?_, rfl⟩)
      have hm : min t.val ((nvN m).toNat - 1) = t.val := by omega
      change min t.val ((nvN m).toNat - 1) * 4096 + (8 * (a.val / 8) + 2 * (k.val % 512 / 128) + (if k.val < 512 then 1 else 0)) = 8 * ((t.val * 4096 + a.val) / 8) + 2 * (k.val % 512 / 128) + (if k.val < 512 then 1 else 0)
      rw [hm]; omega
    · exact (gW_apply m hR hO c t k f).trans (congrArg (fun e : Fin 287 => A3 m c (ix3 (tileExp (A0 m c) e) k _)) ee.symm)
    · exact (uW_apply m hR hO c t k f).trans (congrArg (fun e : Fin 287 => A3 m c (ix3 (tileExp (A0 m c) e) k _)) ee.symm)
    · exact (dW_apply m hR hO c t f n).trans (congrArg (fun e : Fin 287 => A4 m c (ix3 (tileExp (A0 m c) e) f n)) ee.symm)
    · exact (bg_apply m hR hO c t f).trans (congrArg (fun e : Fin 287 => A5 m c (ix2 (tileExp (A0 m c) e) _)) ee.symm)
    · exact (bu_apply m hR hO c t f).trans (congrArg (fun e : Fin 287 => A5 m c (ix2 (tileExp (A0 m c) e) _)) ee.symm)
    · exact (bd_apply m hR hO c t n).trans (congrArg (fun e : Fin 287 => A6 m c (ix2 (tileExp (A0 m c) e) n)) ee.symm)
    · refine Fin.ext ?_
      have h1 : (t.val * 4096 + a.val) % 8 = a.val % 8 := by omega
      have h2 : (t.val * 4096 + a.val) % 2 = a.val % 2 := by omega
      change 128 * (a.val % 8 / 2) + l.val + (if a.val % 2 = 0 then 512 else 0) = 128 * ((t.val * 4096 + a.val) % 8 / 2) + l.val + (if (t.val * 4096 + a.val) % 2 = 0 then 512 else 0)
      rw [h1, h2]
  · rw [if_neg h, if_neg (show ¬(t.val * 4096 + a.val) / 4096 < (A1 m c (ix1 (0 : Fin 1))).toNat by rw [hd, ← nvN_eq m c]; exact h)]
    pointwise [k0_pay10]

/-- The result array. -/
def G (c : Dev nD) : FVec Ideal S1175552x128 .bf16 := fun i => resAt (A0 m c) (A1 m c) (A2 m c) (A3 m c) (A4 m c) (A5 m c) (A6 m c) (i 0) (i 1)

/-- The result's block at a point is the tile's. -/
theorem index7 : ((cfgM m hO).win 7).index t = ![t.val, 0] := by
  refine Eq.trans (b := cc0_transform_7 (grid0.coords t)) rfl ?_
  unfold cc0_transform_7
  funext a
  fin_cases a
  · change (BitVec.ofNat 32 (grid0.coords t 0).val).toNat = t.val
    have ht := pt_lt m hO t
    rw [coords_val m hO t, BitVec.toNat_ofNat]; omega
  · rfl

/-- Every point's block of the result is written back. -/
theorem flush7 : ((cfgM m hO).win 7).flush t = true := by
  have ht := pt_lt m hO t
  have hN : (cfgM m hO).N = 287 := N_0
  unfold Pipeline.Window.flush
  by_cases h : t.val + 1 = 287
  · have e : (decide (t.val + 1 = (cfgM m hO).N)) = true := decide_eq_true (h.trans hN.symm)
    exact congrArg (fun b : Bool => true && (b || _)) e
  · have hlt : t.val + 1 < (cfgM m hO).N := lt_of_lt_of_eq (show t.val + 1 < 287 by omega) hN.symm
    have e : decide (∃ h : t.val + 1 < (cfgM m hO).N, ((cfgM m hO).win 7).index ⟨t.val + 1, h⟩ ≠ ((cfgM m hO).win 7).index t) = true := by
      refine decide_eq_true ⟨hlt, fun hh => ?_⟩
      rw [index7, index7] at hh
      have := congrFun hh (0 : Fin 2)
      exact absurd this (Nat.succ_ne_self t.val)
    exact (congrArg (fun b : Bool => true && (_ || b)) e).trans (by simp)

/-- The blocks written back cover the result. -/
theorem covers7 : ((cfgM m hO).win 7).Covers := by
  have hN : (cfgM m hO).N = 287 := N_0
  refine ⟨fun a => ?_, fun β => ?_⟩
  · fin_cases a
    · exact (show 0 < 4096 by omega)
    · exact (show 0 < 128 by omega)
  · have h0 : (β (0 : Fin 2)).val < 287 := lt_of_lt_of_eq (β (0 : Fin 2)).isLt (show (1175552 + 4096 - 1) / 4096 = 287 by norm_num)
    have h1 : (β (1 : Fin 2)).val < 1 := lt_of_lt_of_eq (β (1 : Fin 2)).isLt (show (128 + 128 - 1) / 128 = 1 by norm_num)
    refine ⟨⟨(β (0 : Fin 2)).val, lt_of_lt_of_eq h0 hN.symm⟩, flush7 m hO _, fun a => ⟨?_, Or.inl rfl⟩⟩
    rw [index7]
    fin_cases a
    · rfl
    · change 0 = (β (1 : Fin 2)).val; omega

include hR in
/-- The result array after the run. -/
theorem final : (dats m hO 0 c).arrAt 7 (cfgM m hO).N = G m c := by
  refine (dats m hO 0 c).arrAt_eq_of_covers 7 _ (covers7 m hO) fun t _ (y : S4096x128.Idx) => ?_
  refine (congrFun (after0_7 m hO c t) _).trans ?_
  refine (congrArg (outAt m hO c t : Vec Ideal S4096x128 .bf16) (show _ = (ix2 (y 0 : Fin 4096) (y 1 : Fin 128) : S4096x128.Idx) from ?_)).trans ((point m hR hO c t (y 0) (y 1)).trans ?_)
  · funext a; fin_cases a <;> rfl
  · have hT := index7 m hO t
    have e : ((((cfgM m hO).win 7).blk t).view.emb y : S1175552x128.Idx) = ix2 (rowOf m hO t (y 0)) (y 1 : Fin 128) := by
      funext a
      refine Fin.ext ((Pipeline.Window.rect_emb_val ((cfgM m hO).win 7) t y a).trans ?_)
      rw [hT]
      fin_cases a
      · rfl
      · change 0 * 128 + (y 1).val = (y 1).val; omega
    exact (congrArg (G m c) e).symm

end Cert.LatentExpertsIdeal.Hand

end
-- ==== Proof.LatentExpertsRefB.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

theorem v62_apply (t : Fin 287) (r : Fin 512) (n : Fin 1024) :
    (val_main_v62 (F := Ideal) x0 x2 x3 x4 x5 x6 : FVec Ideal S287x512x1024 .f32) (ix3 t r n)
      = (∑ f : Fin 1024, (val_main_v44 (F := Ideal) x0 x2 x3 x5 : FVec Ideal S287x512x1024 .f32) (ix3 t r f) * (val_main_v51 (F := Ideal) x0 x4 : FVec Ideal S287x1024x1024 .f32) (ix3 t f n))
        + (val_main_v59 (F := Ideal) x0 x6 : FVec Ideal S287x1024 .f32) (ix2 t n) := by
  unfold val_main_v62 val_main_v61 val_main_v60 val_main_v52
  generalize val_main_v44 (F := Ideal) x0 x2 x3 x5 = y9
  generalize val_main_v51 (F := Ideal) x0 x4 = y16
  generalize val_main_v59 (F := Ideal) x0 x6 = y24
  pointwise []

end Cert.LatentExpertsReferenceIdeal.Hand

end
-- ==== Proof.LatentExpertsRefC.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

theorem v79_apply (R : Fin 1175552) (l : Fin 128) :
    (val_main_v79 (F := Ideal) x0 x1 x2 x3 x4 x5 x6 : FVec Ideal S1175552x128 .bf16) (ix2 R l)
      = Scalar.select (IntOp.cmpi .slt (BitVec.ofNat 32 (R.val / 4096)) (x1 (ix1 (0 : Fin 1))))
          ((val_main_v62 (F := Ideal) x0 x2 x3 x4 x5 x6 : FVec Ideal S287x512x1024 .f32)
            (ix3 (⟨R.val / 4096, by omega⟩ : Fin 287) (⟨R.val / 8 % 512, by omega⟩ : Fin 512) (⟨128 * (R.val % 8 / 2) + l.val + (if R.val % 2 = 0 then 512 else 0), by split <;> omega⟩ : Fin 1024))) 0 := by
  unfold val_main_v79 val_main_v78 val_main_v77 val_main_v76 val_main_v75 val_main_v74 val_main_v73 val_main_v72 val_main_v71 val_main_v70 val_main_v69 val_main_v68
  generalize val_main_v62 (F := Ideal) x0 x2 x3 x4 x5 x6 = y
  pointwise [val_main_call1_v2, val_main_call1_v1, val_main_call1_v0, val_main_v67, val_main_v66, val_main_v65, val_main_v64, val_main_v63, val_main_cst_13, id]
  have hR := R.isLt
  have e1 : R.val / 8 / 512 = R.val / 4096 := by omega
  have e2 : (⟨R.val / 8 / 512, by omega⟩ : Fin 287) = ⟨R.val / 4096, by omega⟩ := Fin.ext e1
  by_cases h : R.val % 2 = 0
  · rw [dif_pos (by omega : R.val % 2 < 1)]; simp only [if_pos h]
    rw [e2, e1]
    exact congrArg (fun n : Fin 1024 => Scalar.select _ (y (ix3 _ _ n)) (0 : EReal)) (Fin.ext (by change 512 + R.val / 2 % 4 * 128 + l.val = 128 * (R.val % 8 / 2) + l.val + 512; omega))
  · rw [dif_neg (by omega : ¬ R.val % 2 < 1)]; simp only [if_neg h]
    rw [e2, e1]
    exact congrArg (fun n : Fin 1024 => Scalar.select _ (y (ix3 _ _ n)) (0 : EReal)) (Fin.ext (by change R.val / 2 % 4 * 128 + l.val = 128 * (R.val % 8 / 2) + l.val + 0; omega))

end Cert.LatentExpertsReferenceIdeal.Hand

end
-- ==== Proof.LatentExpertsRefD.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.IdealHost
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

/-- The gate's column. -/
theorem v28_at (t : Fin 287) (r : Fin 512) (f : Fin 1024) :
    (val_main_v28 (F := Ideal) x0 x2 x3 x5 : FVec Ideal S287x512x1024 .f32) (ix3 t r f)
      = (val_main_v27 (F := Ideal) x0 x2 x3 x5 : FVec Ideal S287x512x2048 .f32) (ix3 t r (⟨2 * f.val, by omega⟩ : Fin 2048)) := by
  unfold val_main_v28
  generalize val_main_v27 (F := Ideal) x0 x2 x3 x5 = y
  refine congrArg y (funext fun a => Fin.ext ?_)
  fin_cases a
  · change 0 + 1 * t.val = t.val; omega
  · change 0 + 1 * r.val = r.val; omega
  · change 0 + 2 * f.val = 2 * f.val; omega

/-- The up projection's column. -/
theorem v31_at (t : Fin 287) (r : Fin 512) (f : Fin 1024) :
    (val_main_v31 (F := Ideal) x0 x2 x3 x5 : FVec Ideal S287x512x1024 .f32) (ix3 t r f)
      = (val_main_v27 (F := Ideal) x0 x2 x3 x5 : FVec Ideal S287x512x2048 .f32) (ix3 t r (⟨2 * f.val + 1, by omega⟩ : Fin 2048)) := by
  unfold val_main_v31
  generalize val_main_v27 (F := Ideal) x0 x2 x3 x5 = y
  refine congrArg y (funext fun a => Fin.ext ?_)
  fin_cases a
  · change 0 + 1 * t.val = t.val; omega
  · change 0 + 1 * r.val = r.val; omega
  · change 1 + 2 * f.val = 2 * f.val + 1; omega

/-- The activation, from the two columns. -/
theorem v44_apply (t : Fin 287) (r : Fin 512) (f : Fin 1024) :
    (val_main_v44 (F := Ideal) x0 x2 x3 x5 : FVec Ideal S287x512x1024 .f32) (ix3 t r f)
      = actE ((val_main_v27 (F := Ideal) x0 x2 x3 x5 : FVec Ideal S287x512x2048 .f32) (ix3 t r (⟨2 * f.val, by omega⟩ : Fin 2048)))
          ((val_main_v27 (F := Ideal) x0 x2 x3 x5 : FVec Ideal S287x512x2048 .f32) (ix3 t r (⟨2 * f.val + 1, by omega⟩ : Fin 2048))) := by
  have h1 : Ideal.ofBits .f32 0x3F800000#32 = (1 : EReal) := Ideal.ofBits_one_f32
  rw [← v28_at, ← v31_at]
  rw [val_main_v44_apply, val_main_v35_apply, val_main_v34_apply, val_main_v32_apply, val_main_call0_v2_apply, val_main_v43_apply, val_main_v41_apply, val_main_v39_apply, val_main_v38_apply, val_main_v37_apply, val_main_v30_apply]
  generalize (val_main_v28 (F := Ideal) x0 x2 x3 x5 : FVec Ideal S287x512x1024 .f32) (ix3 t r f) = g
  generalize (val_main_v31 (F := Ideal) x0 x2 x3 x5 : FVec Ideal S287x512x1024 .f32) (ix3 t r f) = u
  unfold actE Ideal.logistic
  have e : ∀ z : EReal, Ideal.div (Ideal.ofBits .f32 0x3F800000#32) (Ideal.ofBits .f32 0x3F800000#32 + z) = Ideal.div 1 (1 + z) := fun z => by rw [h1]
  have e' : ∀ z : EReal, z + Ideal.ofBits .f32 0x3F800000#32 = z + 1 := fun z => by rw [h1]
  rw [← e, ← e']
  rfl

end Cert.LatentExpertsReferenceIdeal.Hand

end
-- ==== Proof.LatentExpertsRefE.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

theorem v27_apply (t : Fin 287) (r : Fin 512) (n : Fin 2048) :
    (val_main_v27 (F := Ideal) x0 x2 x3 x5 : FVec Ideal S287x512x2048 .f32) (ix3 t r n)
      = (∑ k : Fin 1024, (val_main_v9 (F := Ideal) x2 : FVec Ideal S287x512x1024 .f32) (ix3 t r k) * (val_main_v16 (F := Ideal) x0 x3 : FVec Ideal S287x1024x2048 .f32) (ix3 t k n))
        + (val_main_v24 (F := Ideal) x0 x5 : FVec Ideal S287x2048 .f32) (ix2 t n) := by
  unfold val_main_v27 val_main_v26 val_main_v25 val_main_v17
  generalize val_main_v9 (F := Ideal) x2 = y9
  generalize val_main_v16 (F := Ideal) x0 x3 = y16
  generalize val_main_v24 (F := Ideal) x0 x5 = y24
  pointwise []

end Cert.LatentExpertsReferenceIdeal.Hand

end
-- ==== Proof.LatentExpertsRefF.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

/-- The tokens, unpacked. -/
theorem v9_apply (t : Fin 287) (r : Fin 512) (k : Fin 1024) :
    (val_main_v9 (F := Ideal) x2 : FVec Ideal S287x512x1024 .f32) (ix3 t r k) = tokAt x2 (⟨512 * t.val + r.val, by omega⟩ : Fin 146944) k := by
  unfold tokAt
  pointwise [val_main_v9, val_main_v8, val_main_v7, val_main_v6, val_main_v5, val_main_v4, val_main_v3, val_main_v2, val_main_v1, val_main_v0]
  by_cases h : k.val < 512
  · rw [dif_pos h]; simp only [if_pos h]
    exact congrArg x2 ((ix2_inj ..).2 ⟨Fin.ext (by change (t.val * 512 + r.val) * 8 + k.val / 128 * 2 + 1 = 8 * (512 * t.val + r.val) + 2 * (k.val % 512 / 128) + 1; omega), rfl⟩)
  · rw [dif_neg h]; simp only [if_neg h]
    exact congrArg x2 ((ix2_inj ..).2 ⟨Fin.ext (by change (t.val * 512 + r.val) * 8 + (k.val - 512) / 128 * 2 = 8 * (512 * t.val + r.val) + 2 * (k.val % 512 / 128) + 0; omega), Fin.ext (by change (k.val - 512) % 128 = k.val % 128; omega)⟩)

end Cert.LatentExpertsReferenceIdeal.Hand

end
-- ==== Proof.LatentExpertsRefG.lean ====
/- The reference's result, element by element. -/
module

public import proofs.«01_k».proof.Proof.LatentExpertsMath
public import proofs.«01_k».proof.Proof.Gen.LatentExpertsReferenceIdeal.Read
public import Idealize.ShloMosaic.Lib.WordCmp
public import Idealize.ShloMosaic.Lib.ValueIdxCore

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

/-- A word below 128 is not negative: the index the gathers take is the table's entry. -/
theorem sel_word (w : BitVec 32) (h : w.toNat < 128) : Scalar.select (IntOp.cmpi .slt w 0#32) (IntOp.addi w 128#32) w = w := by
  have h0 : IntOp.cmpi .slt w 0#32 = 0#1 := by
    have e : w.slt 0#32 = false := by
      unfold BitVec.slt
      rw [BitVec.toInt_eq_toNat_of_lt (by omega)]
      simp
    change BitVec.ofBool (w.slt 0#32) = 0#1
    rw [e]; rfl
  rw [h0]; rfl

/-- The index of the gate-and-up weights: the tile's entry of the table. -/
theorem v15_apply (hx : ∀ t : Fin 287, (x0 (ix1 t)).toNat < 128) (t : Fin 287) : (val_main_v15 (F := Ideal) x0 : IVec S287x1 32) (ix2 t (0 : Fin 1)) = x0 (ix1 t) := by
  pointwise [val_main_c, val_main_v10, val_main_v11, val_main_c_0, val_main_v12, val_main_v13, val_main_v14, val_main_v15]
  exact sel_word _ (hx t)

/-- The index of the gate-and-up biases: the tile's entry of the table. -/
theorem v23_apply (hx : ∀ t : Fin 287, (x0 (ix1 t)).toNat < 128) (t : Fin 287) : (val_main_v23 (F := Ideal) x0 : IVec S287x1 32) (ix2 t (0 : Fin 1)) = x0 (ix1 t) := by
  pointwise [val_main_c_1, val_main_v18, val_main_v19, val_main_c_2, val_main_v20, val_main_v21, val_main_v22, val_main_v23]
  exact sel_word _ (hx t)

/-- The index of the down weights: the tile's entry of the table. -/
theorem v50_apply (hx : ∀ t : Fin 287, (x0 (ix1 t)).toNat < 128) (t : Fin 287) : (val_main_v50 (F := Ideal) x0 : IVec S287x1 32) (ix2 t (0 : Fin 1)) = x0 (ix1 t) := by
  pointwise [val_main_c_9, val_main_v45, val_main_v46, val_main_c_10, val_main_v47, val_main_v48, val_main_v49, val_main_v50]
  exact sel_word _ (hx t)

/-- The index of the down biases: the tile's entry of the table. -/
theorem v58_apply (hx : ∀ t : Fin 287, (x0 (ix1 t)).toNat < 128) (t : Fin 287) : (val_main_v58 (F := Ideal) x0 : IVec S287x1 32) (ix2 t (0 : Fin 1)) = x0 (ix1 t) := by
  pointwise [val_main_c_11, val_main_v53, val_main_v54, val_main_c_12, val_main_v55, val_main_v56, val_main_v57, val_main_v58]
  exact sel_word _ (hx t)

/-- A word below 128 read signed and capped at 127 is itself. -/
theorem start_word (w : BitVec 32) (h : w.toNat < 128) : min w.toInt.toNat (128 - 1) = w.toNat := by
  rw [BitVec.toInt_eq_toNat_of_lt (by omega)]
  change min w.toNat 127 = w.toNat
  omega

/-- The gate-and-up weights of a tile's expert. -/
theorem gatherA_apply (x : FVec Ideal S128x1024x2048 .f32) (idx : IVec S287x1 32) (t : Fin 287) (k : Fin 1024) (n : Fin 2048) (h : (idx (ix2 t (0 : Fin 1))).toNat < 128) :
    Host.gather gather_S128x1024x2048_S287x1_S287x1024x2048_12_0_n_n_0_1_110242048 x idx (ix3 t k n) = x (ix3 (⟨(idx (ix2 t (0 : Fin 1))).toNat, h⟩ : Fin 128) k n) := by
  refine congrArg x (funext fun a => Fin.ext ?_)
  fin_cases a
  · have e : gather_S128x1024x2048_S287x1_S287x1024x2048_12_0_n_n_0_1_110242048.siIdx (ix3 t k n : S287x1024x2048.Idx) ⟨0, by decide⟩ = (ix2 t (0 : Fin 1) : S287x1.Idx) := by
      funext b; fin_cases b <;> rfl
    refine Eq.trans ?_ (start_word (idx (ix2 t (0 : Fin 1))) h)
    exact congrArg (fun i => min (idx i).toInt.toNat (128 - 1)) e
  · change 0 + 0 + k.val = k.val; omega
  · change 0 + 0 + n.val = n.val; omega

/-- The down weights of a tile's expert. -/
theorem gatherB_apply (x : FVec Ideal S128x1024x1024 .f32) (idx : IVec S287x1 32) (t : Fin 287) (k : Fin 1024) (n : Fin 1024) (h : (idx (ix2 t (0 : Fin 1))).toNat < 128) :
    Host.gather gather_S128x1024x1024_S287x1_S287x1024x1024_12_0_n_n_0_1_110241024 x idx (ix3 t k n) = x (ix3 (⟨(idx (ix2 t (0 : Fin 1))).toNat, h⟩ : Fin 128) k n) := by
  refine congrArg x (funext fun a => Fin.ext ?_)
  fin_cases a
  · have e : gather_S128x1024x1024_S287x1_S287x1024x1024_12_0_n_n_0_1_110241024.siIdx (ix3 t k n : S287x1024x1024.Idx) ⟨0, by decide⟩ = (ix2 t (0 : Fin 1) : S287x1.Idx) := by
      funext b; fin_cases b <;> rfl
    refine Eq.trans ?_ (start_word (idx (ix2 t (0 : Fin 1))) h)
    exact congrArg (fun i => min (idx i).toInt.toNat (128 - 1)) e
  · change 0 + 0 + k.val = k.val; omega
  · change 0 + 0 + n.val = n.val; omega

/-- The gate-and-up bias of a tile's expert. -/
theorem gatherC_apply (x : FVec Ideal S128x2048 .f32) (idx : IVec S287x1 32) (t : Fin 287) (n : Fin 2048) (h : (idx (ix2 t (0 : Fin 1))).toNat < 128) :
    Host.gather gather_S128x2048_S287x1_S287x2048_1_0_n_n_0_1_12048 x idx (ix2 t n) = x (ix2 (⟨(idx (ix2 t (0 : Fin 1))).toNat, h⟩ : Fin 128) n) := by
  refine congrArg x (funext fun a => Fin.ext ?_)
  fin_cases a
  · have e : gather_S128x2048_S287x1_S287x2048_1_0_n_n_0_1_12048.siIdx (ix2 t n : S287x2048.Idx) ⟨0, by decide⟩ = (ix2 t (0 : Fin 1) : S287x1.Idx) := by
      funext b; fin_cases b <;> rfl
    refine Eq.trans ?_ (start_word (idx (ix2 t (0 : Fin 1))) h)
    exact congrArg (fun i => min (idx i).toInt.toNat (128 - 1)) e
  · change 0 + 0 + n.val = n.val; omega

/-- The down bias of a tile's expert. -/
theorem gatherD_apply (x : FVec Ideal S128x1024 .f32) (idx : IVec S287x1 32) (t : Fin 287) (n : Fin 1024) (h : (idx (ix2 t (0 : Fin 1))).toNat < 128) :
    Host.gather gather_S128x1024_S287x1_S287x1024_1_0_n_n_0_1_11024 x idx (ix2 t n) = x (ix2 (⟨(idx (ix2 t (0 : Fin 1))).toNat, h⟩ : Fin 128) n) := by
  refine congrArg x (funext fun a => Fin.ext ?_)
  fin_cases a
  · have e : gather_S128x1024_S287x1_S287x1024_1_0_n_n_0_1_11024.siIdx (ix2 t n : S287x1024.Idx) ⟨0, by decide⟩ = (ix2 t (0 : Fin 1) : S287x1.Idx) := by
      funext b; fin_cases b <;> rfl
    refine Eq.trans ?_ (start_word (idx (ix2 t (0 : Fin 1))) h)
    exact congrArg (fun i => min (idx i).toInt.toNat (128 - 1)) e
  · change 0 + 0 + n.val = n.val; omega

/-- The gate-and-up weights a tile reads. -/
theorem v16_apply (hx : ∀ t : Fin 287, (x0 (ix1 t)).toNat < 128) (t : Fin 287) (k : Fin 1024) (n : Fin 2048) :
    (val_main_v16 (F := Ideal) x0 x3 : FVec Ideal S287x1024x2048 .f32) (ix3 t k n) = x3 (ix3 (tileExp x0 t) k n) := by
  have h : ((val_main_v15 (F := Ideal) x0 : IVec S287x1 32) (ix2 t (0 : Fin 1))).toNat < 128 := by rw [v15_apply x0 hx t]; exact hx t
  refine (gatherA_apply x3 (val_main_v15 (F := Ideal) x0) t k n h).trans ?_
  refine congrArg (fun e : Fin 128 => x3 (ix3 e k n)) (Fin.ext ?_)
  change ((val_main_v15 (F := Ideal) x0 : IVec S287x1 32) (ix2 t (0 : Fin 1))).toNat = (x0 (ix1 t)).toNat % 128
  rw [v15_apply x0 hx t, Nat.mod_eq_of_lt (hx t)]

/-- The gate-and-up biases a tile reads. -/
theorem v24_apply (hx : ∀ t : Fin 287, (x0 (ix1 t)).toNat < 128) (t : Fin 287) (n : Fin 2048) :
    (val_main_v24 (F := Ideal) x0 x5 : FVec Ideal S287x2048 .f32) (ix2 t n) = x5 (ix2 (tileExp x0 t) n) := by
  have h : ((val_main_v23 (F := Ideal) x0 : IVec S287x1 32) (ix2 t (0 : Fin 1))).toNat < 128 := by rw [v23_apply x0 hx t]; exact hx t
  refine (gatherC_apply x5 (val_main_v23 (F := Ideal) x0) t n h).trans ?_
  refine congrArg (fun e : Fin 128 => x5 (ix2 e n)) (Fin.ext ?_)
  change ((val_main_v23 (F := Ideal) x0 : IVec S287x1 32) (ix2 t (0 : Fin 1))).toNat = (x0 (ix1 t)).toNat % 128
  rw [v23_apply x0 hx t, Nat.mod_eq_of_lt (hx t)]

/-- The down weights a tile reads. -/
theorem v51_apply (hx : ∀ t : Fin 287, (x0 (ix1 t)).toNat < 128) (t : Fin 287) (k : Fin 1024) (n : Fin 1024) :
    (val_main_v51 (F := Ideal) x0 x4 : FVec Ideal S287x1024x1024 .f32) (ix3 t k n) = x4 (ix3 (tileExp x0 t) k n) := by
  have h : ((val_main_v50 (F := Ideal) x0 : IVec S287x1 32) (ix2 t (0 : Fin 1))).toNat < 128 := by rw [v50_apply x0 hx t]; exact hx t
  refine (gatherB_apply x4 (val_main_v50 (F := Ideal) x0) t k n h).trans ?_
  refine congrArg (fun e : Fin 128 => x4 (ix3 e k n)) (Fin.ext ?_)
  change ((val_main_v50 (F := Ideal) x0 : IVec S287x1 32) (ix2 t (0 : Fin 1))).toNat = (x0 (ix1 t)).toNat % 128
  rw [v50_apply x0 hx t, Nat.mod_eq_of_lt (hx t)]

/-- The down biases a tile reads. -/
theorem v59_apply (hx : ∀ t : Fin 287, (x0 (ix1 t)).toNat < 128) (t : Fin 287) (n : Fin 1024) :
    (val_main_v59 (F := Ideal) x0 x6 : FVec Ideal S287x1024 .f32) (ix2 t n) = x6 (ix2 (tileExp x0 t) n) := by
  have h : ((val_main_v58 (F := Ideal) x0 : IVec S287x1 32) (ix2 t (0 : Fin 1))).toNat < 128 := by rw [v58_apply x0 hx t]; exact hx t
  refine (gatherD_apply x6 (val_main_v58 (F := Ideal) x0) t n h).trans ?_
  refine congrArg (fun e : Fin 128 => x6 (ix2 e n)) (Fin.ext ?_)
  change ((val_main_v58 (F := Ideal) x0 : IVec S287x1 32) (ix2 t (0 : Fin 1))).toNat = (x0 (ix1 t)).toNat % 128
  rw [v58_apply x0 hx t, Nat.mod_eq_of_lt (hx t)]

end Cert.LatentExpertsReferenceIdeal.Hand

end
-- ==== Proof.LatentExpertsRefH.lean ====
/- The reference's result is the routed experts' result. -/
module

public import proofs.«01_k».proof.Proof.LatentExpertsRefB
public import proofs.«01_k».proof.Proof.LatentExpertsRefC
public import proofs.«01_k».proof.Proof.LatentExpertsRefD
public import proofs.«01_k».proof.Proof.LatentExpertsRefE
public import proofs.«01_k».proof.Proof.LatentExpertsRefF
public import proofs.«01_k».proof.Proof.LatentExpertsRefG

@[expose] public section

set_option maxRecDepth 16384

noncomputable section

namespace Cert.LatentExpertsReferenceIdeal.Hand

open Cert.LatentExpertsMath
open Cert.LatentExpertsReferenceIdeal Cert.LatentExpertsReferenceIdeal.Gen Cert.LatentExpertsReferenceIdeal.Read Idealize.ShloMosaic Idealize.ShloMosaic.TcCoe Idealize.SL.Sem

variable (x0 : IVec S287 32) (x1 : IVec S1 32) (x2 : FVec Ideal S1175552x128 .bf16) (x3 : FVec Ideal S128x1024x2048 .f32)
  (x4 : FVec Ideal S128x1024x1024 .f32) (x5 : FVec Ideal S128x2048 .f32) (x6 : FVec Ideal S128x1024 .f32)

/-- A column of the fused projection, of a tile's token. -/
theorem v27_at (hx : ∀ t : Fin 287, (x0 (ix1 t)).toNat < 128) (t : Fin 287) (r : Fin 512) (n : Fin 2048) :
    (val_main_v27 (F := Ideal) x0 x2 x3 x5 : FVec Ideal S287x512x2048 .f32) (ix3 t r n)
      = (∑ k : Fin 1024, tokAt x2 (⟨512 * t.val + r.val, by omega⟩ : Fin 146944) k * x3 (ix3 (tileExp x0 t) k n)) + x5 (ix2 (tileExp x0 t) n) := by
  refine (v27_apply x0 x2 x3 x5 t r n).trans ?_
  refine Ideal.add_congr (Finset.sum_congr rfl fun k _ => Ideal.mul_congr (v9_apply x2 t r k) (v16_apply x0 x3 hx t k n)) (v24_apply x0 x5 hx t n)

/-- A tile's feed-forward is its expert's. -/
theorem v62_at (hx : ∀ t : Fin 287, (x0 (ix1 t)).toNat < 128) (t : Fin 287) (r : Fin 512) (n : Fin 1024) :
    (val_main_v62 (F := Ideal) x0 x2 x3 x4 x5 x6 : FVec Ideal S287x512x1024 .f32) (ix3 t r n)
      = expAt x2 x3 x4 x5 x6 (tileExp x0 t) (⟨512 * t.val + r.val, by omega⟩ : Fin 146944) n := by
  refine (v62_apply x0 x2 x3 x4 x5 x6 t r n).trans ?_
  unfold expAt mlpAt
  refine Ideal.add_congr (Finset.sum_congr rfl fun f _ => Ideal.mul_congr ((v44_apply x0 x2 x3 x5 t r f).trans ?_) (v51_apply x0 x4 hx t f n)) (v59_apply x0 x6 hx t n)
  exact congrArg₂ actE (v27_at x0 x2 x3 x5 hx t r _) (v27_at x0 x2 x3 x5 hx t r _)

/-- A tile below the count, in words. -/
theorem live_word (a : ℕ) (ha : a < 287) (w : BitVec 32) (hw : w.toNat ≤ 287) : IntOp.cmpi .slt (BitVec.ofNat 32 a) w = BitVec.ofBool (decide (a < w.toNat)) := by
  change BitVec.ofBool ((BitVec.ofNat 32 a).slt w) = _
  have e : (BitVec.ofNat 32 a).toNat = a := by rw [BitVec.toNat_ofNat]; omega
  rw [BitVec.slt_eq_decide, BitVec.toInt_eq_toNat_of_lt (by omega), BitVec.toInt_eq_toNat_of_lt (by omega), e]
  simp

/-- The reference's result. -/
theorem result (hx : ∀ t : Fin 287, (x0 (ix1 t)).toNat < 128) (hn : (x1 (ix1 (0 : Fin 1))).toNat ≤ 287) (R : Fin 1175552) (l : Fin 128) :
    (val_main_v79 (F := Ideal) x0 x1 x2 x3 x4 x5 x6 : FVec Ideal S1175552x128 .bf16) (ix2 R l) = resAt x0 x1 x2 x3 x4 x5 x6 R l := by
  refine (v79_apply x0 x1 x2 x3 x4 x5 x6 R l).trans ?_
  rw [live_word _ (by omega) _ hn]
  unfold resAt
  by_cases h : R.val / 4096 < (x1 (ix1 (0 : Fin 1))).toNat
  · rw [if_pos h, decide_eq_true h]
    refine (v62_at x0 x2 x3 x4 x5 x6 hx _ _ _).trans ?_
    exact congrArg (fun r : Fin 146944 => expAt x2 x3 x4 x5 x6 _ r _) (Fin.ext (by change 512 * (R.val / 4096) + R.val / 8 % 512 = R.val / 8; omega))
  · rw [if_neg h, decide_eq_false h]; rfl

end Cert.LatentExpertsReferenceIdeal.Hand

end
-- ==== Proof.LatentExpertsBridge.lean ====
/- The experts' claims. -/
module

public import proofs.«01_k».proof.Defs
public import proofs.«01_k».proof.Proof.LatentExpertsPre
public import proofs.«01_k».proof.Proof.LatentExpertsFrame
public import proofs.«01_k».proof.Proof.LatentExpertsFinal
public import proofs.«01_k».proof.Proof.LatentExpertsRefH
public import proofs.«01_k».proof.Proof.Gen.LatentExpertsReferenceIdeal
public import proofs.«01_k».proof.Proof.Gen.LatentExpertsReferenceIdeal.Run
public import Idealize.ShloMosaic.Lib.Bf16Pair
public import Idealize.ShloMosaic.Lib.Claim

@[expose] public section

set_option maxRecDepth 16384

noncomputable section

namespace Cert.LatentExpertsClaims

open Idealize.ShloMosaic Idealize.SL.Sem

/-- The kernel runs, keeps its arguments and leaves every counter at zero, on tables in range. -/
theorem frame_kernel : Cert.quiescent_LatentExperts := fun m g h =>
  Cert.LatentExperts.Hand.frame m g (Cert.LatentExperts.Hand.ok_of_inRange m (Cert.LatentExpertsPre.inRange m h))

/-- So does the idealized kernel. -/
theorem frame_ideal : Cert.quiescent_LatentExpertsIdeal := fun m g h =>
  Cert.LatentExpertsIdeal.Hand.frame m g (Cert.LatentExpertsPre.inRangeIdeal m h) (Cert.LatentExpertsIdeal.Hand.ok_of_inRange m (Cert.LatentExpertsPre.inRangeIdeal m h))

/-- The reference runs, keeps its arguments and has no counter. -/
theorem frame_reference : Cert.quiescent_LatentExpertsReferenceIdeal := fun m g _ =>
  (θ_run Cert.LatentExpertsReferenceIdeal.defs _ _).mono (fun r h => ⟨fun c => (h c).2, sem_eq_zero_of_no_sems (by decide) r.2⟩)
    (Cert.LatentExpertsReferenceIdeal.Value.run (F := Ideal) m g)

/-- The idealized text reads the packed words as the pairs of rows they hold. -/
theorem preserves : Cert.preserves_LatentExperts_LatentExpertsIdeal :=
  ⟨IdealRules.bf16_pair.statement _ _, IdealRules.bf16_pair.statement _ _, IdealRules.bf16_pack.statement _⟩

open Cert.LatentExpertsIdeal.Hand (A0 A1 A2 A3 A4 A5 A6 G) in
/-- The reference's result at the kernel's arguments is the kernel's. -/
theorem meet (m : (ℓ : Loc Cert.LatentExpertsIdeal.nD Cert.LatentExpertsIdeal.τ Cert.LatentExpertsIdeal.sig) → Buf (Elt Ideal) ℓ) (h : Cert.Pre_LatentExpertsIdeal m) (c : Dev Cert.LatentExpertsIdeal.nD) :
    (Cert.LatentExpertsReferenceIdeal.Read.val_main_v79 (F := Ideal) (A0 m c) (A1 m c) (A2 m c) (A3 m c) (A4 m c) (A5 m c) (A6 m c) : FVec Ideal Cert.LatentExpertsReferenceIdeal.S1175552x128 .bf16) = G m c := by
  obtain ⟨h1, h2⟩ := Cert.LatentExpertsPre.ranges _ _ _ _ _ _ _ (h c)
  funext i
  have e : i = ix2 (i 0 : Fin 1175552) (i 1 : Fin 128) := by funext a; fin_cases a <;> rfl
  exact (congrArg _ e).trans (Cert.LatentExpertsReferenceIdeal.Hand.result (A0 m c) (A1 m c) (A2 m c) (A3 m c) (A4 m c) (A5 m c) (A6 m c) (fun t => h1 _) (h2 _).2 (i 0) (i 1))

/-- On tables in range the kernel's result is the reference's. -/
theorem algebraic : Cert.algebraic_LatentExpertsIdeal_LatentExpertsReferenceIdeal := by
  intro m g m' g' hpre hagree
  have hR := Cert.LatentExpertsPre.inRangeIdeal m hpre
  have hO := Cert.LatentExpertsIdeal.Hand.ok_of_inRange m hR
  refine ⟨Cert.LatentExpertsIdeal.Hand.G m, ?_, ?_⟩
  · refine (θ_run Cert.LatentExpertsIdeal.defs _ _).mono (fun r h c => ⟨?_, h.1 c⟩) (θ_run_and (Cert.LatentExpertsIdeal.Hand.unchanged m g hR hO) (Cert.LatentExpertsIdeal.Hand.run_main m g hR hO))
    exact ((h.2 c).1 7).trans (Cert.LatentExpertsIdeal.Hand.final m hR hO c)
  · refine (θ_run Cert.LatentExpertsReferenceIdeal.defs _ _).mono (fun r h c => ⟨(h c).1.trans ?_, (h c).2⟩) (Cert.LatentExpertsReferenceIdeal.Value.run (F := Ideal) m' g')
    obtain ⟨a0, a1, a2, a3, a4, a5, a6⟩ := hagree c
    rw [Cert.LatentExpertsReferenceIdeal.Read.val_main_v79_eq, a0, a1, a2, a3, a4, a5, a6]
    exact meet m hpre c

end Cert.LatentExpertsClaims

end
-- ==== Proof.lean ====
/- The claims: each program runs with its arguments kept, the idealized text is the kernel's, on real queries and keys
   the attention is its reference's, and on routing tables in range the experts' layer is its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.LatentExperts
public import proofs.«01_k».proof.Proof.Gen.LatentExperts.Skeleton
public import proofs.«01_k».proof.Proof.Gen.LatentExperts.Launch
public import proofs.«01_k».proof.Proof.Gen.LatentExpertsIdeal
public import proofs.«01_k».proof.Proof.Gen.LatentExpertsIdeal.Skeleton
public import proofs.«01_k».proof.Proof.Gen.LatentExpertsIdeal.Launch
public import proofs.«01_k».proof.Proof.Gen.LatentExpertsReferenceIdeal
public import proofs.«01_k».proof.Proof.Gen.LatentExpertsReferenceIdeal.Run
public import proofs.«01_k».proof.Proof.Gen.LatentExpertsReferenceIdeal.Read
public import proofs.«01_k».proof.Proof.Bridge
public import proofs.«01_k».proof.Proof.ExpertsBridge
public import proofs.«01_k».proof.Proof.LatentExpertsBridge
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- On real queries and keys the kernel's result is the reference's. -/
theorem algebraic : Cert.algebraic_KernelIdeal_ReferenceIdeal_pre_scores_finite := by
  pair_intro
  · run_from Cert.KernelIdeal.Gen.run_main m g
  · run_from Cert.ReferenceIdeal.Value.run m' g'
    rw [Cert.ReferenceIdeal.Read.val_main_v21_eq, Cert.KernelIdeal.Att.final, (hagree c).1, (hagree c).2.1, (hagree c).2.2.1, (hagree c).2.2.2.1, (hagree c).2.2.2.2]
    exact Cert.Bridge.meet m c (hpre c)

/-- The reference runs, keeps its arguments and has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.LatentExperts.Gen.facts, Cert.LatentExpertsIdeal.Gen.facts,
    Cert.LatentExpertsReferenceIdeal.Gen.facts, Cert.Bridge.preFacts, Cert.ExpertsPre.preFacts, Cert.LatentExpertsPre.preFacts,
    fun m g _ => Cert.Kernel.Gen.frame m g,
    fun m g _ => Cert.KernelIdeal.Gen.frame m g,
    fun m g _ => Cert.KernelIdeal.Gen.frame m g,
    frame_reference,
    fun m g _ => frame_reference m g trivial,
    Cert.ExpertsClaims.frame_kernel,
    Cert.ExpertsClaims.frame_ideal,
    Cert.ExpertsClaims.frame_reference,
    fun m g _ => Cert.ExpertsClaims.frame_reference m g trivial,
    Cert.LatentExpertsClaims.frame_kernel,
    Cert.LatentExpertsClaims.frame_ideal,
    Cert.LatentExpertsClaims.frame_reference,
    fun m g _ => Cert.LatentExpertsClaims.frame_reference m g trivial,
    trivial,
    algebraic,
    Cert.ExpertsClaims.preserves,
    Cert.ExpertsClaims.algebraic,
    Cert.LatentExpertsClaims.preserves,
    Cert.LatentExpertsClaims.algebraic⟩

end Cert.Proof

end
